-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v10) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_v7) = v3 c
          ∧ r.2.mem ((c.tc : Thread Cert.ReferenceIdeal.nD Cert.ReferenceIdeal.τ).loc Cert.ReferenceIdeal.main_v9) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x4096 : Shape := ⟨3, ![2, 128, 4096]⟩
abbrev S4096 : Shape := ⟨1, ![4096]⟩
abbrev S14336x4096 : Shape := ⟨2, ![14336, 4096]⟩
abbrev S14336 : Shape := ⟨1, ![14336]⟩
abbrev S256x4096 : Shape := ⟨2, ![256, 4096]⟩
abbrev S1x4096 : Shape := ⟨2, ![1, 4096]⟩
abbrev S1x14336 : Shape := ⟨2, ![1, 14336]⟩
abbrev S256x14336 : Shape := ⟨2, ![256, 14336]⟩
abbrev S256x128 : Shape := ⟨2, ![256, 128]⟩
abbrev S512x4096 : Shape := ⟨2, ![512, 4096]⟩
abbrev S1x512 : Shape := ⟨2, ![1, 512]⟩
abbrev S256x512 : Shape := ⟨2, ![256, 512]⟩
abbrev S32x256x128 : Shape := ⟨3, ![32, 256, 128]⟩
abbrev S128x128 : Shape := ⟨2, ![128, 128]⟩
abbrev S1 : Shape := ⟨1, ![1]⟩
abbrev S32x4096 : Shape := ⟨2, ![32, 4096]⟩
abbrev S32 : Shape := ⟨1, ![32]⟩
abbrev S32x1 : Shape := ⟨2, ![32, 1]⟩
abbrev S32x128 : Shape := ⟨2, ![32, 128]⟩
abbrev S1x256x128 : Shape := ⟨3, ![1, 256, 128]⟩
abbrev S512x128 : Shape := ⟨2, ![512, 128]⟩
abbrev S256x1 : Shape := ⟨2, ![256, 1]⟩
abbrev S2x128x14336 : Shape := ⟨3, ![2, 128, 14336]⟩
abbrev S256 : Shape := ⟨1, ![256]⟩
abbrev S2x128 : Shape := ⟨2, ![2, 128]⟩

abbrev nBuf : Space → Nat
  | .hbm => 18
  | .vmem => 15
  | .smem => 3
  | _ => 0

abbrev bufTy : (tb : Table) → Fin (tcTables nBuf tb) → BufTy
  | .hbm, ⟨0, _⟩ => ⟨S2x128x4096, .bf16⟩
  | .hbm, ⟨1, _⟩ => ⟨S14336x4096, .i8⟩
  | .hbm, ⟨2, _⟩ => ⟨S14336, .f32⟩
  | .hbm, ⟨3, _⟩ => ⟨S256x4096, .bf16⟩
  | .hbm, ⟨4, _⟩ => ⟨S1x4096, .i32⟩
  | .hbm, ⟨5, _⟩ => ⟨S1x14336, .f32⟩
  | .hbm, ⟨6, _⟩ => ⟨S256x14336, .bf16⟩
  | .hbm, ⟨7, _⟩ => ⟨S1x4096, .f32⟩
  | .hbm, ⟨8, _⟩ => ⟨S1x4096, .i32⟩
  | .hbm, ⟨9, _⟩ => ⟨S256x4096, .i8⟩
  | .hbm, ⟨10, _⟩ => ⟨S256x128, .f32⟩
  | .hbm, ⟨11, _⟩ => ⟨S2x128x14336, .bf16⟩
  | .hbm, ⟨12, _⟩ => ⟨S4096, .f32⟩
  | .hbm, ⟨13, _⟩ => ⟨S4096, .i32⟩
  | .hbm, ⟨14, _⟩ => ⟨S2x128x4096, .i8⟩
  | .hbm, ⟨15, _⟩ => ⟨S256x1, .f32⟩
  | .hbm, ⟨16, _⟩ => ⟨S256, .f32⟩
  | .hbm, ⟨17, _⟩ => ⟨S2x128, .f32⟩
  | .local _ .vmem, ⟨0, _⟩ => ⟨S256x4096, .bf16⟩
  | .local _ .vmem, ⟨1, _⟩ => ⟨S1x4096, .i32⟩
  | .local _ .vmem, ⟨2, _⟩ => ⟨S512x4096, .i8⟩
  | .local _ .vmem, ⟨3, _⟩ => ⟨S512x4096, .i8⟩
  | .local _ .vmem, ⟨4, _⟩ => ⟨S1x512, .f32⟩
  | .local _ .vmem, ⟨5, _⟩ => ⟨S1x512, .f32⟩
  | .local _ .vmem, ⟨6, _⟩ => ⟨S256x512, .bf16⟩
  | .local _ .vmem, ⟨7, _⟩ => ⟨S256x512, .bf16⟩
  | .local _ .vmem, ⟨8, _⟩ => ⟨S1x4096, .f32⟩
  | .local _ .vmem, ⟨9, _⟩ => ⟨S1x4096, .i32⟩
  | .local _ .vmem, ⟨10, _⟩ => ⟨S256x4096, .i8⟩
  | .local _ .vmem, ⟨11, _⟩ => ⟨S256x128, .f32⟩
  | .local _ .vmem, ⟨12, _⟩ => ⟨S256x4096, .bf16⟩
  | .local _ .vmem, ⟨13, _⟩ => ⟨S32x256x128, .bf16⟩
  | .local _ .vmem, ⟨14, _⟩ => ⟨S128x128, .i32⟩
  | .local _ .smem, ⟨0, _⟩ => ⟨S4096, .i32⟩
  | .local _ .smem, ⟨1, _⟩ => ⟨S1, .i32⟩
  | .local _ .smem, ⟨2, _⟩ => ⟨S4096, .i32⟩
  | _, _ => ⟨S2x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_arg1 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.smem, 1, rfl⟩
abbrev cc0_scratch4 : Ref sig .tc := ⟨.smem, 2, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![28], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_159 : BitVec 32 := 0#32
  let c4096_i32 : BitVec 32 := 4096#32
  let v343 : BitVec 32 := Scalar.addi c0_i32_159 c4096_i32
  let c1_i32_160 : BitVec 32 := 1#32
  ⟨c0_i32_159, v343, c1_i32_160⟩
def k0_off1 (k0_t1 : Fin k0_t1_loop.trips) : Fin 1 → Nat :=
  let c0_i32_159 : BitVec 32 := 0#32
  let c1_i32_160 : BitVec 32 := 1#32
  let arg16 : BitVec 32 := Scf.iv c0_i32_159 c1_i32_160 k0_t1
  let v359 : Index := Scalar.indexCast arg16
  ![v359.toNat]
def k0_off2 (arg17 : BitVec 32) : Fin 1 → Nat :=
  let v366 : Index := Scalar.indexCast arg17
  ![v366.toNat]
def k0_cond2 (v360 : BitVec 32) : BitVec 1 :=
  let c1_i32_173 : BitVec 32 := 1#32
  let v361 : BitVec 1 := Scalar.cmpi .eq v360 c1_i32_173
  let v362 : BitVec 32 := Scalar.extui v361
  let c0_i32_174 : BitVec 32 := 0#32
  let v363 : BitVec 1 := Scalar.cmpi .ne v362 c0_i32_174
  v363

def k0_chk1 (i : grid0.Coords) (arg17 : BitVec 32) (v360 : BitVec 32) : Prop :=
  (∀ (k0_h1 : k0_cond1 i = 1#1), ∀ (k0_h2 : k0_cond2 v360 = 1#1), ∀ a, (k0_off2 arg17) a + S1.size a ≤ S4096.size a)
theorem k0_off2_inb : ∀ (i : grid0.Coords) (arg17 : BitVec 32) (v360 : BitVec 32) (k0_hw1 : k0_chk1 i arg17 v360), ∀ (k0_h1 : k0_cond1 i = 1#1), ∀ (k0_h2 : k0_cond2 v360 = 1#1), ∀ a, (k0_off2 arg17) a + S1.size a ≤ S4096.size a := fun i arg17 v360 k0_hw1 k0_h1 k0_h2 => k0_hw1 k0_h1 k0_h2

@[reducible] def k0_t2_loop (v351 : BitVec 32) : Scf.Loop 32 :=
  let c0_i32_168 : BitVec 32 := 0#32
  let v352 : BitVec 32 := Scalar.subi v351 c0_i32_168
  let c1_i32_170 : BitVec 32 := 1#32
  let v354 : BitVec 32 := Scalar.divsi v352 c1_i32_170
  let v355 : BitVec 32 := Scalar.muli v354 c1_i32_170
  let v356 : BitVec 32 := Scalar.addi c0_i32_168 v355
  let c1_i32_171 : BitVec 32 := 1#32
  ⟨c0_i32_168, v356, c1_i32_171⟩

def k0_off3 (v351 : BitVec 32) (k0_t2 : Fin (k0_t2_loop v351).trips) : Fin 1 → Nat :=
  let c0_i32_168 : BitVec 32 := 0#32
  let c1_i32_171 : BitVec 32 := 1#32
  let arg16 : BitVec 32 := Scf.iv c0_i32_168 c1_i32_171 k0_t2
  let v359 : Index := Scalar.indexCast arg16
  ![v359.toNat]
def k0_mult1 (v360 : BitVec 32) : BitVec 32 :=
  let c7_i32_173 : BitVec 32 := 7#32
  let v361 : BitVec 32 := Scalar.shrsi v360 c7_i32_173
  let c7_i32_174 : BitVec 32 := 7#32
  let v362 : BitVec 32 := Scalar.shli v361 c7_i32_174
  v362

def k0_off4 (v360 : BitVec 32) : Fin 2 → Nat :=
  let c0_175 : Index := 0#32
  let c7_i32_173 : BitVec 32 := 7#32
  let v361 : BitVec 32 := Scalar.shrsi v360 c7_i32_173
  let c7_i32_174 : BitVec 32 := 7#32
  let v362 : BitVec 32 := Scalar.shli v361 c7_i32_174
  let v363 : BitVec 32 := v362
  let v364 : Index := Scalar.indexCast v363
  ![0, v364.toNat]

def k0_chk3 (i : grid0.Coords) (v360 : BitVec 32) : Prop :=
  (∀ (k0_h1 : k0_cond1 i = 1#1), 128 ∣ (k0_mult1 v360).toNat) ∧
  (∀ (k0_h1 : k0_cond1 i = 1#1), ∀ a, (k0_off4 v360) a + S256x128.size a ≤ S256x4096.size a)
theorem k0_mult1_dvd : ∀ (i : grid0.Coords) (v360 : BitVec 32) (k0_hw3 : k0_chk3 i v360), ∀ (k0_h1 : k0_cond1 i = 1#1), 128 ∣ (k0_mult1 v360).toNat := fun i v360 k0_hw3 k0_h1 => k0_hw3.1 k0_h1
theorem k0_off4_inb : ∀ (i : grid0.Coords) (v360 : BitVec 32) (k0_hw3 : k0_chk3 i v360), ∀ (k0_h1 : k0_cond1 i = 1#1), ∀ a, (k0_off4 v360) a + S256x128.size a ≤ S256x4096.size a := fun i v360 k0_hw3 k0_h1 => k0_hw3.2 k0_h1

def k0_off5 (v351 : BitVec 32) (k0_t2 : Fin (k0_t2_loop v351).trips) : Fin 3 → Nat :=
  let c0_i32_168 : BitVec 32 := 0#32
  let c1_i32_171 : BitVec 32 := 1#32
  let arg16 : BitVec 32 := Scf.iv c0_i32_168 c1_i32_171 k0_t2
  let c7_i32_177 : BitVec 32 := 7#32
  let v371 : BitVec 32 := Scalar.shrsi arg16 c7_i32_177
  let v375 : Index := Scalar.indexCast v371
  let c0_179 : Index := 0#32
  let c0_180 : Index := 0#32
  ![v375.toNat, 0, 0]
@[reducible] def k0_t3_loop (v351 : BitVec 32) : Scf.Loop 32 :=
  let c0_i32_168 : BitVec 32 := 0#32
  let v352 : BitVec 32 := Scalar.subi v351 c0_i32_168
  let c1_i32_170 : BitVec 32 := 1#32
  let v354 : BitVec 32 := Scalar.divsi v352 c1_i32_170
  let v355 : BitVec 32 := Scalar.muli v354 c1_i32_170
  let v356 : BitVec 32 := Scalar.addi c0_i32_168 v355
  let v353 : BitVec 32 := Scalar.addi c0_i32_168 v352
  let c1_i32_172 : BitVec 32 := 1#32
  ⟨v356, v353, c1_i32_172⟩
def k0_off6 (v351 : BitVec 32) (k0_t3 : Fin (k0_t3_loop v351).trips) : Fin 1 → Nat :=
  let c0_i32_168 : BitVec 32 := 0#32
  let v352 : BitVec 32 := Scalar.subi v351 c0_i32_168
  let c1_i32_170 : BitVec 32 := 1#32
  let v354 : BitVec 32 := Scalar.divsi v352 c1_i32_170
  let v355 : BitVec 32 := Scalar.muli v354 c1_i32_170
  let v356 : BitVec 32 := Scalar.addi c0_i32_168 v355
  let c1_i32_172 : BitVec 32 := 1#32
  let arg16 : BitVec 32 := Scf.iv v356 c1_i32_172 k0_t3
  let v359 : Index := Scalar.indexCast arg16
  ![v359.toNat]
def k0_mult2 (v360 : BitVec 32) : BitVec 32 :=
  let c7_i32_173 : BitVec 32 := 7#32
  let v361 : BitVec 32 := Scalar.shrsi v360 c7_i32_173
  let c7_i32_174 : BitVec 32 := 7#32
  let v362 : BitVec 32 := Scalar.shli v361 c7_i32_174
  v362

def k0_off7 (v360 : BitVec 32) : Fin 2 → Nat :=
  let c0_175 : Index := 0#32
  let c7_i32_173 : BitVec 32 := 7#32
  let v361 : BitVec 32 := Scalar.shrsi v360 c7_i32_173
  let c7_i32_174 : BitVec 32 := 7#32
  let v362 : BitVec 32 := Scalar.shli v361 c7_i32_174
  let v363 : BitVec 32 := v362
  let v364 : Index := Scalar.indexCast v363
  ![0, v364.toNat]

def k0_chk4 (i : grid0.Coords) (v360 : BitVec 32) : Prop :=
  (∀ (k0_h1 : k0_cond1 i = 1#1), 128 ∣ (k0_mult2 v360).toNat) ∧
  (∀ (k0_h1 : k0_cond1 i = 1#1), ∀ a, (k0_off7 v360) a + S256x128.size a ≤ S256x4096.size a)
theorem k0_mult2_dvd : ∀ (i : grid0.Coords) (v360 : BitVec 32) (k0_hw4 : k0_chk4 i v360), ∀ (k0_h1 : k0_cond1 i = 1#1), 128 ∣ (k0_mult2 v360).toNat := fun i v360 k0_hw4 k0_h1 => k0_hw4.1 k0_h1
theorem k0_off7_inb : ∀ (i : grid0.Coords) (v360 : BitVec 32) (k0_hw4 : k0_chk4 i v360), ∀ (k0_h1 : k0_cond1 i = 1#1), ∀ a, (k0_off7 v360) a + S256x128.size a ≤ S256x4096.size a := fun i v360 k0_hw4 k0_h1 => k0_hw4.2 k0_h1

def k0_off8 (v351 : BitVec 32) (k0_t3 : Fin (k0_t3_loop v351).trips) : Fin 3 → Nat :=
  let c0_i32_168 : BitVec 32 := 0#32
  let v352 : BitVec 32 := Scalar.subi v351 c0_i32_168
  let c1_i32_170 : BitVec 32 := 1#32
  let v354 : BitVec 32 := Scalar.divsi v352 c1_i32_170
  let v355 : BitVec 32 := Scalar.muli v354 c1_i32_170
  let v356 : BitVec 32 := Scalar.addi c0_i32_168 v355
  let c1_i32_172 : BitVec 32 := 1#32
  let arg16 : BitVec 32 := Scf.iv v356 c1_i32_172 k0_t3
  let c7_i32_177 : BitVec 32 := 7#32
  let v371 : BitVec 32 := Scalar.shrsi arg16 c7_i32_177
  let v375 : Index := Scalar.indexCast v371
  let c0_179 : Index := 0#32
  let c0_180 : Index := 0#32
  ![v375.toNat, 0, 0]

def k0_chk2 (i : grid0.Coords) (v351 : BitVec 32) : Prop :=
  (∀ (k0_h1 : k0_cond1 i = 1#1), (k0_t2_loop v351).OK) ∧
  (∀ k0_t2 : Fin (k0_t2_loop v351).trips, ∀ (k0_h1 : k0_cond1 i = 1#1), ∀ a, (k0_off3 v351 k0_t2) a + S1.size a ≤ S4096.size a) ∧
  (∀ k0_t2 : Fin (k0_t2_loop v351).trips, ∀ (k0_h1 : k0_cond1 i = 1#1), ∀ a, (k0_off5 v351 k0_t2) a + S1x256x128.size a ≤ S32x256x128.size a) ∧
  (∀ k0_t2 : Fin (k0_t2_loop v351).trips, ∀ (k0_h1 : k0_cond1 i = 1#1), ∀ (hinb : ∀ a, (k0_off5 v351 k0_t2) a + S1x256x128.size a ≤ S32x256x128.size a), (Rect.unit (s := S32x256x128) (k0_off5 v351 k0_t2) S1x256x128.size hinb).PackedRows (EltTy.packing .bf16)) ∧
  (∀ (k0_h1 : k0_cond1 i = 1#1), (k0_t3_loop v351).OK) ∧
  (∀ k0_t3 : Fin (k0_t3_loop v351).trips, ∀ (k0_h1 : k0_cond1 i = 1#1), ∀ a, (k0_off6 v351 k0_t3) a + S1.size a ≤ S4096.size a) ∧
  (∀ k0_t3 : Fin (k0_t3_loop v351).trips, ∀ (k0_h1 : k0_cond1 i = 1#1), ∀ a, (k0_off8 v351 k0_t3) a + S1x256x128.size a ≤ S32x256x128.size a) ∧
  (∀ k0_t3 : Fin (k0_t3_loop v351).trips, ∀ (k0_h1 : k0_cond1 i = 1#1), ∀ (hinb : ∀ a, (k0_off8 v351 k0_t3) a + S1x256x128.size a ≤ S32x256x128.size a), (Rect.unit (s := S32x256x128) (k0_off8 v351 k0_t3) S1x256x128.size hinb).PackedRows (EltTy.packing .bf16))
theorem k0_t2_ok : ∀ (i : grid0.Coords) (v351 : BitVec 32) (k0_hw2 : k0_chk2 i v351), ∀ (k0_h1 : k0_cond1 i = 1#1), (k0_t2_loop v351).OK := fun i v351 k0_hw2 k0_h1 => k0_hw2.1 k0_h1
theorem k0_off3_inb : ∀ (i : grid0.Coords) (v351 : BitVec 32) (k0_hw2 : k0_chk2 i v351) (k0_t2 : Fin (k0_t2_loop v351).trips), ∀ (k0_h1 : k0_cond1 i = 1#1), ∀ a, (k0_off3 v351 k0_t2) a + S1.size a ≤ S4096.size a := fun i v351 k0_hw2 k0_t2 k0_h1 => k0_hw2.2.1 k0_t2 k0_h1
theorem k0_off5_inb : ∀ (i : grid0.Coords) (v351 : BitVec 32) (k0_hw2 : k0_chk2 i v351) (k0_t2 : Fin (k0_t2_loop v351).trips), ∀ (k0_h1 : k0_cond1 i = 1#1), ∀ a, (k0_off5 v351 k0_t2) a + S1x256x128.size a ≤ S32x256x128.size a := fun i v351 k0_hw2 k0_t2 k0_h1 => k0_hw2.2.2.1 k0_t2 k0_h1
theorem k0_off5_packedbf16 : ∀ (i : grid0.Coords) (v351 : BitVec 32) (k0_hw2 : k0_chk2 i v351) (k0_t2 : Fin (k0_t2_loop v351).trips), ∀ (k0_h1 : k0_cond1 i = 1#1), (Rect.unit (s := S32x256x128) (k0_off5 v351 k0_t2) S1x256x128.size (k0_off5_inb i v351 k0_hw2 k0_t2 k0_h1)).PackedRows (EltTy.packing .bf16) := fun i v351 k0_hw2 k0_t2 k0_h1 => k0_hw2.2.2.2.1 k0_t2 k0_h1 (k0_off5_inb i v351 k0_hw2 k0_t2 k0_h1)
theorem k0_t3_ok : ∀ (i : grid0.Coords) (v351 : BitVec 32) (k0_hw2 : k0_chk2 i v351), ∀ (k0_h1 : k0_cond1 i = 1#1), (k0_t3_loop v351).OK := fun i v351 k0_hw2 k0_h1 => k0_hw2.2.2.2.2.1 k0_h1
theorem k0_off6_inb : ∀ (i : grid0.Coords) (v351 : BitVec 32) (k0_hw2 : k0_chk2 i v351) (k0_t3 : Fin (k0_t3_loop v351).trips), ∀ (k0_h1 : k0_cond1 i = 1#1), ∀ a, (k0_off6 v351 k0_t3) a + S1.size a ≤ S4096.size a := fun i v351 k0_hw2 k0_t3 k0_h1 => k0_hw2.2.2.2.2.2.1 k0_t3 k0_h1
theorem k0_off8_inb : ∀ (i : grid0.Coords) (v351 : BitVec 32) (k0_hw2 : k0_chk2 i v351) (k0_t3 : Fin (k0_t3_loop v351).trips), ∀ (k0_h1 : k0_cond1 i = 1#1), ∀ a, (k0_off8 v351 k0_t3) a + S1x256x128.size a ≤ S32x256x128.size a := fun i v351 k0_hw2 k0_t3 k0_h1 => k0_hw2.2.2.2.2.2.2.1 k0_t3 k0_h1
theorem k0_off8_packedbf16 : ∀ (i : grid0.Coords) (v351 : BitVec 32) (k0_hw2 : k0_chk2 i v351) (k0_t3 : Fin (k0_t3_loop v351).trips), ∀ (k0_h1 : k0_cond1 i = 1#1), (Rect.unit (s := S32x256x128) (k0_off8 v351 k0_t3) S1x256x128.size (k0_off8_inb i v351 k0_hw2 k0_t3 k0_h1)).PackedRows (EltTy.packing .bf16) := fun i v351 k0_hw2 k0_t3 k0_h1 => k0_hw2.2.2.2.2.2.2.2 k0_t3 k0_h1 (k0_off8_inb i v351 k0_hw2 k0_t3 k0_h1)

@[reducible] def k0_t4_loop (v12 : BitVec 32) : Scf.Loop 32 :=
  let c0_i32_9 : BitVec 32 := 0#32
  let c0_i32_8 : BitVec 32 := 0#32
  let v13 : BitVec 32 := Scalar.subi v12 c0_i32_8
  let c128_i32 : BitVec 32 := 128#32
  let v14 : BitVec 32 := Scalar.minsi v13 c128_i32
  let v15 : BitVec 32 := Scalar.subi v14 c0_i32_9
  let c1_i32 : BitVec 32 := 1#32
  let v17 : BitVec 32 := Scalar.divsi v15 c1_i32
  let v18 : BitVec 32 := Scalar.muli v17 c1_i32
  let v19 : BitVec 32 := Scalar.addi c0_i32_9 v18
  let c1_i32_11 : BitVec 32 := 1#32
  ⟨c0_i32_9, v19, c1_i32_11⟩

def k0_off9 (v12 : BitVec 32) (k0_t4 : Fin (k0_t4_loop v12).trips) : Fin 1 → Nat :=
  let c0_i32_28 : BitVec 32 := 0#32
  let c0_i32_9 : BitVec 32 := 0#32
  let c1_i32_11 : BitVec 32 := 1#32
  let arg16 : BitVec 32 := Scf.iv c0_i32_9 c1_i32_11 k0_t4
  let v45 : BitVec 32 := Scalar.addi c0_i32_28 arg16
  let v46 : Index := Scalar.indexCast v45
  ![v46.toNat]
def k0_mult3 (v47 : BitVec 32) : BitVec 32 :=
  let c7_i32_29 : BitVec 32 := 7#32
  let v48 : BitVec 32 := Scalar.shrsi v47 c7_i32_29
  let c7_i32_30 : BitVec 32 := 7#32
  let v49 : BitVec 32 := Scalar.shli v48 c7_i32_30
  v49

def k0_off10 (v47 : BitVec 32) : Fin 2 → Nat :=
  let c0_31 : Index := 0#32
  let c7_i32_29 : BitVec 32 := 7#32
  let v48 : BitVec 32 := Scalar.shrsi v47 c7_i32_29
  let c7_i32_30 : BitVec 32 := 7#32
  let v49 : BitVec 32 := Scalar.shli v48 c7_i32_30
  let v50 : BitVec 32 := v49
  let v51 : Index := Scalar.indexCast v50
  ![0, v51.toNat]

def k0_chk6 (v47 : BitVec 32) : Prop :=
  (128 ∣ (k0_mult3 v47).toNat) ∧
  (∀ a, (k0_off10 v47) a + S512x128.size a ≤ S512x4096.size a)
theorem k0_mult3_dvd : ∀ (v47 : BitVec 32) (k0_hw6 : k0_chk6 v47), 128 ∣ (k0_mult3 v47).toNat := fun v47 k0_hw6 => k0_hw6.1
theorem k0_off10_inb : ∀ (v47 : BitVec 32) (k0_hw6 : k0_chk6 v47), ∀ a, (k0_off10 v47) a + S512x128.size a ≤ S512x4096.size a := fun v47 k0_hw6 => k0_hw6.2

@[reducible] def k0_t5_loop (v12 : BitVec 32) : Scf.Loop 32 :=
  let c0_i32_9 : BitVec 32 := 0#32
  let c0_i32_8 : BitVec 32 := 0#32
  let v13 : BitVec 32 := Scalar.subi v12 c0_i32_8
  let c128_i32 : BitVec 32 := 128#32
  let v14 : BitVec 32 := Scalar.minsi v13 c128_i32
  let v15 : BitVec 32 := Scalar.subi v14 c0_i32_9
  let c1_i32 : BitVec 32 := 1#32
  let v17 : BitVec 32 := Scalar.divsi v15 c1_i32
  let v18 : BitVec 32 := Scalar.muli v17 c1_i32
  let v19 : BitVec 32 := Scalar.addi c0_i32_9 v18
  let v16 : BitVec 32 := Scalar.addi c0_i32_9 v15
  let c1_i32_12 : BitVec 32 := 1#32
  ⟨v19, v16, c1_i32_12⟩
def k0_off11 (v12 : BitVec 32) (k0_t5 : Fin (k0_t5_loop v12).trips) : Fin 1 → Nat :=
  let c0_i32_28 : BitVec 32 := 0#32
  let c0_i32_9 : BitVec 32 := 0#32
  let c0_i32_8 : BitVec 32 := 0#32
  let v13 : BitVec 32 := Scalar.subi v12 c0_i32_8
  let c128_i32 : BitVec 32 := 128#32
  let v14 : BitVec 32 := Scalar.minsi v13 c128_i32
  let v15 : BitVec 32 := Scalar.subi v14 c0_i32_9
  let c1_i32 : BitVec 32 := 1#32
  let v17 : BitVec 32 := Scalar.divsi v15 c1_i32
  let v18 : BitVec 32 := Scalar.muli v17 c1_i32
  let v19 : BitVec 32 := Scalar.addi c0_i32_9 v18
  let c1_i32_12 : BitVec 32 := 1#32
  let arg16 : BitVec 32 := Scf.iv v19 c1_i32_12 k0_t5
  let v45 : BitVec 32 := Scalar.addi c0_i32_28 arg16
  let v46 : Index := Scalar.indexCast v45
  ![v46.toNat]

def k0_chk5 (v12 : BitVec 32) : Prop :=
  ((k0_t4_loop v12).OK) ∧
  (∀ k0_t4 : Fin (k0_t4_loop v12).trips, ∀ a, (k0_off9 v12 k0_t4) a + S1.size a ≤ S4096.size a) ∧
  ((k0_t5_loop v12).OK) ∧
  (∀ k0_t5 : Fin (k0_t5_loop v12).trips, ∀ a, (k0_off11 v12 k0_t5) a + S1.size a ≤ S4096.size a)
theorem k0_t4_ok : ∀ (v12 : BitVec 32) (k0_hw5 : k0_chk5 v12), (k0_t4_loop v12).OK := fun v12 k0_hw5 => k0_hw5.1
theorem k0_off9_inb : ∀ (v12 : BitVec 32) (k0_hw5 : k0_chk5 v12) (k0_t4 : Fin (k0_t4_loop v12).trips), ∀ a, (k0_off9 v12 k0_t4) a + S1.size a ≤ S4096.size a := fun v12 k0_hw5 k0_t4 => k0_hw5.2.1 k0_t4
theorem k0_t5_ok : ∀ (v12 : BitVec 32) (k0_hw5 : k0_chk5 v12), (k0_t5_loop v12).OK := fun v12 k0_hw5 => k0_hw5.2.2.1
theorem k0_off11_inb : ∀ (v12 : BitVec 32) (k0_hw5 : k0_chk5 v12) (k0_t5 : Fin (k0_t5_loop v12).trips), ∀ a, (k0_off11 v12 k0_t5) a + S1.size a ≤ S4096.size a := fun v12 k0_hw5 k0_t5 => k0_hw5.2.2.2 k0_t5

def k0_mult4 (v47 : BitVec 32) : BitVec 32 :=
  let c7_i32_29 : BitVec 32 := 7#32
  let v48 : BitVec 32 := Scalar.shrsi v47 c7_i32_29
  let c7_i32_30 : BitVec 32 := 7#32
  let v49 : BitVec 32 := Scalar.shli v48 c7_i32_30
  v49

def k0_off12 (v47 : BitVec 32) : Fin 2 → Nat :=
  let c0_31 : Index := 0#32
  let c7_i32_29 : BitVec 32 := 7#32
  let v48 : BitVec 32 := Scalar.shrsi v47 c7_i32_29
  let c7_i32_30 : BitVec 32 := 7#32
  let v49 : BitVec 32 := Scalar.shli v48 c7_i32_30
  let v50 : BitVec 32 := v49
  let v51 : Index := Scalar.indexCast v50
  ![0, v51.toNat]

def k0_chk7 (v47 : BitVec 32) : Prop :=
  (128 ∣ (k0_mult4 v47).toNat) ∧
  (∀ a, (k0_off12 v47) a + S512x128.size a ≤ S512x4096.size a)
theorem k0_mult4_dvd : ∀ (v47 : BitVec 32) (k0_hw7 : k0_chk7 v47), 128 ∣ (k0_mult4 v47).toNat := fun v47 k0_hw7 => k0_hw7.1
theorem k0_off12_inb : ∀ (v47 : BitVec 32) (k0_hw7 : k0_chk7 v47), ∀ a, (k0_off12 v47) a + S512x128.size a ≤ S512x4096.size a := fun v47 k0_hw7 => k0_hw7.2

@[reducible] def k0_t6_loop (v28 : BitVec 32) : Scf.Loop 32 :=
  let c1_i32_28 : BitVec 32 := 1#32
  let c127_i32 : BitVec 32 := 127#32
  let v29 : BitVec 32 := Scalar.addi v28 c127_i32
  let c7_i32 : BitVec 32 := 7#32
  let v30 : BitVec 32 := Scalar.shrsi v29 c7_i32
  let v45 : BitVec 32 := Scalar.subi v30 c1_i32_28
  let c1_i32_29 : BitVec 32 := 1#32
  let v47 : BitVec 32 := Scalar.divsi v45 c1_i32_29
  let v48 : BitVec 32 := Scalar.muli v47 c1_i32_29
  let v49 : BitVec 32 := Scalar.addi c1_i32_28 v48
  let c1_i32_30 : BitVec 32 := 1#32
  ⟨c1_i32_28, v49, c1_i32_30⟩
def k0_cond3 (v28 : BitVec 32) : BitVec 1 :=
  let c127_i32 : BitVec 32 := 127#32
  let v29 : BitVec 32 := Scalar.addi v28 c127_i32
  let c7_i32 : BitVec 32 := 7#32
  let v30 : BitVec 32 := Scalar.shrsi v29 c7_i32
  let c1_i32_26 : BitVec 32 := 1#32
  let v42 : BitVec 1 := Scalar.cmpi .sgt v30 c1_i32_26
  let v43 : BitVec 32 := Scalar.extui v42
  let c0_i32_27 : BitVec 32 := 0#32
  let v44 : BitVec 1 := Scalar.cmpi .ne v43 c0_i32_27
  v44

@[reducible] def k0_t7_loop (v28 : BitVec 32) (k0_t6 : Fin (k0_t6_loop v28).trips) (v66 : BitVec 32) : Scf.Loop 32 :=
  let c0_i32_44 : BitVec 32 := 0#32
  let c1_i32_28 : BitVec 32 := 1#32
  let c1_i32_30 : BitVec 32 := 1#32
  let arg16 : BitVec 32 := Scf.iv c1_i32_28 c1_i32_30 k0_t6
  let c128_i32_42 : BitVec 32 := 128#32
  let v67 : BitVec 32 := Scalar.muli arg16 c128_i32_42
  let v68 : BitVec 32 := Scalar.subi v66 v67
  let c128_i32_43 : BitVec 32 := 128#32
  let v69 : BitVec 32 := Scalar.minsi v68 c128_i32_43
  let v70 : BitVec 32 := Scalar.subi v69 c0_i32_44
  let c1_i32_46 : BitVec 32 := 1#32
  let v72 : BitVec 32 := Scalar.divsi v70 c1_i32_46
  let v73 : BitVec 32 := Scalar.muli v72 c1_i32_46
  let v74 : BitVec 32 := Scalar.addi c0_i32_44 v73
  let c1_i32_47 : BitVec 32 := 1#32
  ⟨c0_i32_44, v74, c1_i32_47⟩

def k0_off13 (v28 : BitVec 32) (k0_t6 : Fin (k0_t6_loop v28).trips) (v66 : BitVec 32) (k0_t7 : Fin (k0_t7_loop v28 k0_t6 v66).trips) : Fin 1 → Nat :=
  let c1_i32_28 : BitVec 32 := 1#32
  let c1_i32_30 : BitVec 32 := 1#32
  let arg16 : BitVec 32 := Scf.iv c1_i32_28 c1_i32_30 k0_t6
  let c128_i32_54 : BitVec 32 := 128#32
  let v85 : BitVec 32 := Scalar.muli arg16 c128_i32_54
  let c0_i32_44 : BitVec 32 := 0#32
  let c1_i32_47 : BitVec 32 := 1#32
  let arg18 : BitVec 32 := Scf.iv c0_i32_44 c1_i32_47 k0_t7
  let v86 : BitVec 32 := Scalar.addi v85 arg18
  let v87 : Index := Scalar.indexCast v86
  ![v87.toNat]
def k0_mult5 (v88 : BitVec 32) : BitVec 32 :=
  let c7_i32_55 : BitVec 32 := 7#32
  let v89 : BitVec 32 := Scalar.shrsi v88 c7_i32_55
  let c7_i32_56 : BitVec 32 := 7#32
  let v90 : BitVec 32 := Scalar.shli v89 c7_i32_56
  v90

def k0_off14 (v88 : BitVec 32) : Fin 2 → Nat :=
  let c0_57 : Index := 0#32
  let c7_i32_55 : BitVec 32 := 7#32
  let v89 : BitVec 32 := Scalar.shrsi v88 c7_i32_55
  let c7_i32_56 : BitVec 32 := 7#32
  let v90 : BitVec 32 := Scalar.shli v89 c7_i32_56
  let v91 : BitVec 32 := v90
  let v92 : Index := Scalar.indexCast v91
  ![0, v92.toNat]

def k0_chk10 (v28 : BitVec 32) (v88 : BitVec 32) : Prop :=
  (∀ (k0_h3 : k0_cond3 v28 = 1#1), 128 ∣ (k0_mult5 v88).toNat) ∧
  (∀ (k0_h3 : k0_cond3 v28 = 1#1), ∀ a, (k0_off14 v88) a + S512x128.size a ≤ S512x4096.size a)
theorem k0_mult5_dvd : ∀ (v28 : BitVec 32) (v88 : BitVec 32) (k0_hw10 : k0_chk10 v28 v88), ∀ (k0_h3 : k0_cond3 v28 = 1#1), 128 ∣ (k0_mult5 v88).toNat := fun v28 v88 k0_hw10 k0_h3 => k0_hw10.1 k0_h3
theorem k0_off14_inb : ∀ (v28 : BitVec 32) (v88 : BitVec 32) (k0_hw10 : k0_chk10 v28 v88), ∀ (k0_h3 : k0_cond3 v28 = 1#1), ∀ a, (k0_off14 v88) a + S512x128.size a ≤ S512x4096.size a := fun v28 v88 k0_hw10 k0_h3 => k0_hw10.2 k0_h3

@[reducible] def k0_t8_loop (v28 : BitVec 32) (k0_t6 : Fin (k0_t6_loop v28).trips) (v66 : BitVec 32) : Scf.Loop 32 :=
  let c0_i32_44 : BitVec 32 := 0#32
  let c1_i32_28 : BitVec 32 := 1#32
  let c1_i32_30 : BitVec 32 := 1#32
  let arg16 : BitVec 32 := Scf.iv c1_i32_28 c1_i32_30 k0_t6
  let c128_i32_42 : BitVec 32 := 128#32
  let v67 : BitVec 32 := Scalar.muli arg16 c128_i32_42
  let v68 : BitVec 32 := Scalar.subi v66 v67
  let c128_i32_43 : BitVec 32 := 128#32
  let v69 : BitVec 32 := Scalar.minsi v68 c128_i32_43
  let v70 : BitVec 32 := Scalar.subi v69 c0_i32_44
  let c1_i32_46 : BitVec 32 := 1#32
  let v72 : BitVec 32 := Scalar.divsi v70 c1_i32_46
  let v73 : BitVec 32 := Scalar.muli v72 c1_i32_46
  let v74 : BitVec 32 := Scalar.addi c0_i32_44 v73
  let v71 : BitVec 32 := Scalar.addi c0_i32_44 v70
  let c1_i32_48 : BitVec 32 := 1#32
  ⟨v74, v71, c1_i32_48⟩
def k0_off15 (v28 : BitVec 32) (k0_t6 : Fin (k0_t6_loop v28).trips) (v66 : BitVec 32) (k0_t8 : Fin (k0_t8_loop v28 k0_t6 v66).trips) : Fin 1 → Nat :=
  let c1_i32_28 : BitVec 32 := 1#32
  let c1_i32_30 : BitVec 32 := 1#32
  let arg16 : BitVec 32 := Scf.iv c1_i32_28 c1_i32_30 k0_t6
  let c128_i32_54 : BitVec 32 := 128#32
  let v85 : BitVec 32 := Scalar.muli arg16 c128_i32_54
  let c0_i32_44 : BitVec 32 := 0#32
  let c128_i32_42 : BitVec 32 := 128#32
  let v67 : BitVec 32 := Scalar.muli arg16 c128_i32_42
  let v68 : BitVec 32 := Scalar.subi v66 v67
  let c128_i32_43 : BitVec 32 := 128#32
  let v69 : BitVec 32 := Scalar.minsi v68 c128_i32_43
  let v70 : BitVec 32 := Scalar.subi v69 c0_i32_44
  let c1_i32_46 : BitVec 32 := 1#32
  let v72 : BitVec 32 := Scalar.divsi v70 c1_i32_46
  let v73 : BitVec 32 := Scalar.muli v72 c1_i32_46
  let v74 : BitVec 32 := Scalar.addi c0_i32_44 v73
  let c1_i32_48 : BitVec 32 := 1#32
  let arg18 : BitVec 32 := Scf.iv v74 c1_i32_48 k0_t8
  let v86 : BitVec 32 := Scalar.addi v85 arg18
  let v87 : Index := Scalar.indexCast v86
  ![v87.toNat]

def k0_chk9 (v28 : BitVec 32) (k0_t6 : Fin (k0_t6_loop v28).trips) (v66 : BitVec 32) : Prop :=
  (∀ (k0_h3 : k0_cond3 v28 = 1#1), (k0_t7_loop v28 k0_t6 v66).OK) ∧
  (∀ k0_t7 : Fin (k0_t7_loop v28 k0_t6 v66).trips, ∀ (k0_h3 : k0_cond3 v28 = 1#1), ∀ a, (k0_off13 v28 k0_t6 v66 k0_t7) a + S1.size a ≤ S4096.size a) ∧
  (∀ (k0_h3 : k0_cond3 v28 = 1#1), (k0_t8_loop v28 k0_t6 v66).OK) ∧
  (∀ k0_t8 : Fin (k0_t8_loop v28 k0_t6 v66).trips, ∀ (k0_h3 : k0_cond3 v28 = 1#1), ∀ a, (k0_off15 v28 k0_t6 v66 k0_t8) a + S1.size a ≤ S4096.size a)
theorem k0_t7_ok : ∀ (v28 : BitVec 32) (k0_t6 : Fin (k0_t6_loop v28).trips) (v66 : BitVec 32) (k0_hw9 : k0_chk9 v28 k0_t6 v66), ∀ (k0_h3 : k0_cond3 v28 = 1#1), (k0_t7_loop v28 k0_t6 v66).OK := fun v28 k0_t6 v66 k0_hw9 k0_h3 => k0_hw9.1 k0_h3
theorem k0_off13_inb : ∀ (v28 : BitVec 32) (k0_t6 : Fin (k0_t6_loop v28).trips) (v66 : BitVec 32) (k0_hw9 : k0_chk9 v28 k0_t6 v66) (k0_t7 : Fin (k0_t7_loop v28 k0_t6 v66).trips), ∀ (k0_h3 : k0_cond3 v28 = 1#1), ∀ a, (k0_off13 v28 k0_t6 v66 k0_t7) a + S1.size a ≤ S4096.size a := fun v28 k0_t6 v66 k0_hw9 k0_t7 k0_h3 => k0_hw9.2.1 k0_t7 k0_h3
theorem k0_t8_ok : ∀ (v28 : BitVec 32) (k0_t6 : Fin (k0_t6_loop v28).trips) (v66 : BitVec 32) (k0_hw9 : k0_chk9 v28 k0_t6 v66), ∀ (k0_h3 : k0_cond3 v28 = 1#1), (k0_t8_loop v28 k0_t6 v66).OK := fun v28 k0_t6 v66 k0_hw9 k0_h3 => k0_hw9.2.2.1 k0_h3
theorem k0_off15_inb : ∀ (v28 : BitVec 32) (k0_t6 : Fin (k0_t6_loop v28).trips) (v66 : BitVec 32) (k0_hw9 : k0_chk9 v28 k0_t6 v66) (k0_t8 : Fin (k0_t8_loop v28 k0_t6 v66).trips), ∀ (k0_h3 : k0_cond3 v28 = 1#1), ∀ a, (k0_off15 v28 k0_t6 v66 k0_t8) a + S1.size a ≤ S4096.size a := fun v28 k0_t6 v66 k0_hw9 k0_t8 k0_h3 => k0_hw9.2.2.2 k0_t8 k0_h3

def k0_mult6 (v88 : BitVec 32) : BitVec 32 :=
  let c7_i32_55 : BitVec 32 := 7#32
  let v89 : BitVec 32 := Scalar.shrsi v88 c7_i32_55
  let c7_i32_56 : BitVec 32 := 7#32
  let v90 : BitVec 32 := Scalar.shli v89 c7_i32_56
  v90

def k0_off16 (v88 : BitVec 32) : Fin 2 → Nat :=
  let c0_57 : Index := 0#32
  let c7_i32_55 : BitVec 32 := 7#32
  let v89 : BitVec 32 := Scalar.shrsi v88 c7_i32_55
  let c7_i32_56 : BitVec 32 := 7#32
  let v90 : BitVec 32 := Scalar.shli v89 c7_i32_56
  let v91 : BitVec 32 := v90
  let v92 : Index := Scalar.indexCast v91
  ![0, v92.toNat]

def k0_chk11 (v28 : BitVec 32) (v88 : BitVec 32) : Prop :=
  (∀ (k0_h3 : k0_cond3 v28 = 1#1), 128 ∣ (k0_mult6 v88).toNat) ∧
  (∀ (k0_h3 : k0_cond3 v28 = 1#1), ∀ a, (k0_off16 v88) a + S512x128.size a ≤ S512x4096.size a)
theorem k0_mult6_dvd : ∀ (v28 : BitVec 32) (v88 : BitVec 32) (k0_hw11 : k0_chk11 v28 v88), ∀ (k0_h3 : k0_cond3 v28 = 1#1), 128 ∣ (k0_mult6 v88).toNat := fun v28 v88 k0_hw11 k0_h3 => k0_hw11.1 k0_h3
theorem k0_off16_inb : ∀ (v28 : BitVec 32) (v88 : BitVec 32) (k0_hw11 : k0_chk11 v28 v88), ∀ (k0_h3 : k0_cond3 v28 = 1#1), ∀ a, (k0_off16 v88) a + S512x128.size a ≤ S512x4096.size a := fun v28 v88 k0_hw11 k0_h3 => k0_hw11.2 k0_h3

def k0_off17 (v28 : BitVec 32) (k0_t6 : Fin (k0_t6_loop v28).trips) : Fin 3 → Nat :=
  let c1_i32_28 : BitVec 32 := 1#32
  let c1_i32_30 : BitVec 32 := 1#32
  let arg16 : BitVec 32 := Scf.iv c1_i32_28 c1_i32_30 k0_t6
  let v80 : Index := Scalar.indexCast arg16
  let c0_51 : Index := 0#32
  let c0_52 : Index := 0#32
  ![v80.toNat, 0, 0]
@[reducible] def k0_t9_loop (v28 : BitVec 32) : Scf.Loop 32 :=
  let c1_i32_28 : BitVec 32 := 1#32
  let c127_i32 : BitVec 32 := 127#32
  let v29 : BitVec 32 := Scalar.addi v28 c127_i32
  let c7_i32 : BitVec 32 := 7#32
  let v30 : BitVec 32 := Scalar.shrsi v29 c7_i32
  let v45 : BitVec 32 := Scalar.subi v30 c1_i32_28
  let c1_i32_29 : BitVec 32 := 1#32
  let v47 : BitVec 32 := Scalar.divsi v45 c1_i32_29
  let v48 : BitVec 32 := Scalar.muli v47 c1_i32_29
  let v49 : BitVec 32 := Scalar.addi c1_i32_28 v48
  let v46 : BitVec 32 := Scalar.addi c1_i32_28 v45
  let c1_i32_31 : BitVec 32 := 1#32
  ⟨v49, v46, c1_i32_31⟩
@[reducible] def k0_t10_loop (v28 : BitVec 32) (k0_t9 : Fin (k0_t9_loop v28).trips) (v66 : BitVec 32) : Scf.Loop 32 :=
  let c0_i32_44 : BitVec 32 := 0#32
  let c1_i32_28 : BitVec 32 := 1#32
  let c127_i32 : BitVec 32 := 127#32
  let v29 : BitVec 32 := Scalar.addi v28 c127_i32
  let c7_i32 : BitVec 32 := 7#32
  let v30 : BitVec 32 := Scalar.shrsi v29 c7_i32
  let v45 : BitVec 32 := Scalar.subi v30 c1_i32_28
  let c1_i32_29 : BitVec 32 := 1#32
  let v47 : BitVec 32 := Scalar.divsi v45 c1_i32_29
  let v48 : BitVec 32 := Scalar.muli v47 c1_i32_29
  let v49 : BitVec 32 := Scalar.addi c1_i32_28 v48
  let c1_i32_31 : BitVec 32 := 1#32
  let arg16 : BitVec 32 := Scf.iv v49 c1_i32_31 k0_t9
  let c128_i32_42 : BitVec 32 := 128#32
  let v67 : BitVec 32 := Scalar.muli arg16 c128_i32_42
  let v68 : BitVec 32 := Scalar.subi v66 v67
  let c128_i32_43 : BitVec 32 := 128#32
  let v69 : BitVec 32 := Scalar.minsi v68 c128_i32_43
  let v70 : BitVec 32 := Scalar.subi v69 c0_i32_44
  let c1_i32_46 : BitVec 32 := 1#32
  let v72 : BitVec 32 := Scalar.divsi v70 c1_i32_46
  let v73 : BitVec 32 := Scalar.muli v72 c1_i32_46
  let v74 : BitVec 32 := Scalar.addi c0_i32_44 v73
  let c1_i32_47 : BitVec 32 := 1#32
  ⟨c0_i32_44, v74, c1_i32_47⟩

def k0_off18 (v28 : BitVec 32) (k0_t9 : Fin (k0_t9_loop v28).trips) (v66 : BitVec 32) (k0_t10 : Fin (k0_t10_loop v28 k0_t9 v66).trips) : Fin 1 → Nat :=
  let c1_i32_28 : BitVec 32 := 1#32
  let c127_i32 : BitVec 32 := 127#32
  let v29 : BitVec 32 := Scalar.addi v28 c127_i32
  let c7_i32 : BitVec 32 := 7#32
  let v30 : BitVec 32 := Scalar.shrsi v29 c7_i32
  let v45 : BitVec 32 := Scalar.subi v30 c1_i32_28
  let c1_i32_29 : BitVec 32 := 1#32
  let v47 : BitVec 32 := Scalar.divsi v45 c1_i32_29
  let v48 : BitVec 32 := Scalar.muli v47 c1_i32_29
  let v49 : BitVec 32 := Scalar.addi c1_i32_28 v48
  let c1_i32_31 : BitVec 32 := 1#32
  let arg16 : BitVec 32 := Scf.iv v49 c1_i32_31 k0_t9
  let c128_i32_54 : BitVec 32 := 128#32
  let v85 : BitVec 32 := Scalar.muli arg16 c128_i32_54
  let c0_i32_44 : BitVec 32 := 0#32
  let c1_i32_47 : BitVec 32 := 1#32
  let arg18 : BitVec 32 := Scf.iv c0_i32_44 c1_i32_47 k0_t10
  let v86 : BitVec 32 := Scalar.addi v85 arg18
  let v87 : Index := Scalar.indexCast v86
  ![v87.toNat]
def k0_mult7 (v88 : BitVec 32) : BitVec 32 :=
  let c7_i32_55 : BitVec 32 := 7#32
  let v89 : BitVec 32 := Scalar.shrsi v88 c7_i32_55
  let c7_i32_56 : BitVec 32 := 7#32
  let v90 : BitVec 32 := Scalar.shli v89 c7_i32_56
  v90

def k0_off19 (v88 : BitVec 32) : Fin 2 → Nat :=
  let c0_57 : Index := 0#32
  let c7_i32_55 : BitVec 32 := 7#32
  let v89 : BitVec 32 := Scalar.shrsi v88 c7_i32_55
  let c7_i32_56 : BitVec 32 := 7#32
  let v90 : BitVec 32 := Scalar.shli v89 c7_i32_56
  let v91 : BitVec 32 := v90
  let v92 : Index := Scalar.indexCast v91
  ![0, v92.toNat]

def k0_chk13 (v28 : BitVec 32) (v88 : BitVec 32) : Prop :=
  (∀ (k0_h3 : k0_cond3 v28 = 1#1), 128 ∣ (k0_mult7 v88).toNat) ∧
  (∀ (k0_h3 : k0_cond3 v28 = 1#1), ∀ a, (k0_off19 v88) a + S512x128.size a ≤ S512x4096.size a)
theorem k0_mult7_dvd : ∀ (v28 : BitVec 32) (v88 : BitVec 32) (k0_hw13 : k0_chk13 v28 v88), ∀ (k0_h3 : k0_cond3 v28 = 1#1), 128 ∣ (k0_mult7 v88).toNat := fun v28 v88 k0_hw13 k0_h3 => k0_hw13.1 k0_h3
theorem k0_off19_inb : ∀ (v28 : BitVec 32) (v88 : BitVec 32) (k0_hw13 : k0_chk13 v28 v88), ∀ (k0_h3 : k0_cond3 v28 = 1#1), ∀ a, (k0_off19 v88) a + S512x128.size a ≤ S512x4096.size a := fun v28 v88 k0_hw13 k0_h3 => k0_hw13.2 k0_h3

@[reducible] def k0_t11_loop (v28 : BitVec 32) (k0_t9 : Fin (k0_t9_loop v28).trips) (v66 : BitVec 32) : Scf.Loop 32 :=
  let c0_i32_44 : BitVec 32 := 0#32
  let c1_i32_28 : BitVec 32 := 1#32
  let c127_i32 : BitVec 32 := 127#32
  let v29 : BitVec 32 := Scalar.addi v28 c127_i32
  let c7_i32 : BitVec 32 := 7#32
  let v30 : BitVec 32 := Scalar.shrsi v29 c7_i32
  let v45 : BitVec 32 := Scalar.subi v30 c1_i32_28
  let c1_i32_29 : BitVec 32 := 1#32
  let v47 : BitVec 32 := Scalar.divsi v45 c1_i32_29
  let v48 : BitVec 32 := Scalar.muli v47 c1_i32_29
  let v49 : BitVec 32 := Scalar.addi c1_i32_28 v48
  let c1_i32_31 : BitVec 32 := 1#32
  let arg16 : BitVec 32 := Scf.iv v49 c1_i32_31 k0_t9
  let c128_i32_42 : BitVec 32 := 128#32
  let v67 : BitVec 32 := Scalar.muli arg16 c128_i32_42
  let v68 : BitVec 32 := Scalar.subi v66 v67
  let c128_i32_43 : BitVec 32 := 128#32
  let v69 : BitVec 32 := Scalar.minsi v68 c128_i32_43
  let v70 : BitVec 32 := Scalar.subi v69 c0_i32_44
  let c1_i32_46 : BitVec 32 := 1#32
  let v72 : BitVec 32 := Scalar.divsi v70 c1_i32_46
  let v73 : BitVec 32 := Scalar.muli v72 c1_i32_46
  let v74 : BitVec 32 := Scalar.addi c0_i32_44 v73
  let v71 : BitVec 32 := Scalar.addi c0_i32_44 v70
  let c1_i32_48 : BitVec 32 := 1#32
  ⟨v74, v71, c1_i32_48⟩
def k0_off20 (v28 : BitVec 32) (k0_t9 : Fin (k0_t9_loop v28).trips) (v66 : BitVec 32) (k0_t11 : Fin (k0_t11_loop v28 k0_t9 v66).trips) : Fin 1 → Nat :=
  let c1_i32_28 : BitVec 32 := 1#32
  let c127_i32 : BitVec 32 := 127#32
  let v29 : BitVec 32 := Scalar.addi v28 c127_i32
  let c7_i32 : BitVec 32 := 7#32
  let v30 : BitVec 32 := Scalar.shrsi v29 c7_i32
  let v45 : BitVec 32 := Scalar.subi v30 c1_i32_28
  let c1_i32_29 : BitVec 32 := 1#32
  let v47 : BitVec 32 := Scalar.divsi v45 c1_i32_29
  let v48 : BitVec 32 := Scalar.muli v47 c1_i32_29
  let v49 : BitVec 32 := Scalar.addi c1_i32_28 v48
  let c1_i32_31 : BitVec 32 := 1#32
  let arg16 : BitVec 32 := Scf.iv v49 c1_i32_31 k0_t9
  let c128_i32_54 : BitVec 32 := 128#32
  let v85 : BitVec 32 := Scalar.muli arg16 c128_i32_54
  let c0_i32_44 : BitVec 32 := 0#32
  let c128_i32_42 : BitVec 32 := 128#32
  let v67 : BitVec 32 := Scalar.muli arg16 c128_i32_42
  let v68 : BitVec 32 := Scalar.subi v66 v67
  let c128_i32_43 : BitVec 32 := 128#32
  let v69 : BitVec 32 := Scalar.minsi v68 c128_i32_43
  let v70 : BitVec 32 := Scalar.subi v69 c0_i32_44
  let c1_i32_46 : BitVec 32 := 1#32
  let v72 : BitVec 32 := Scalar.divsi v70 c1_i32_46
  let v73 : BitVec 32 := Scalar.muli v72 c1_i32_46
  let v74 : BitVec 32 := Scalar.addi c0_i32_44 v73
  let c1_i32_48 : BitVec 32 := 1#32
  let arg18 : BitVec 32 := Scf.iv v74 c1_i32_48 k0_t11
  let v86 : BitVec 32 := Scalar.addi v85 arg18
  let v87 : Index := Scalar.indexCast v86
  ![v87.toNat]

def k0_chk12 (v28 : BitVec 32) (k0_t9 : Fin (k0_t9_loop v28).trips) (v66 : BitVec 32) : Prop :=
  (∀ (k0_h3 : k0_cond3 v28 = 1#1), (k0_t10_loop v28 k0_t9 v66).OK) ∧
  (∀ k0_t10 : Fin (k0_t10_loop v28 k0_t9 v66).trips, ∀ (k0_h3 : k0_cond3 v28 = 1#1), ∀ a, (k0_off18 v28 k0_t9 v66 k0_t10) a + S1.size a ≤ S4096.size a) ∧
  (∀ (k0_h3 : k0_cond3 v28 = 1#1), (k0_t11_loop v28 k0_t9 v66).OK) ∧
  (∀ k0_t11 : Fin (k0_t11_loop v28 k0_t9 v66).trips, ∀ (k0_h3 : k0_cond3 v28 = 1#1), ∀ a, (k0_off20 v28 k0_t9 v66 k0_t11) a + S1.size a ≤ S4096.size a)
theorem k0_t10_ok : ∀ (v28 : BitVec 32) (k0_t9 : Fin (k0_t9_loop v28).trips) (v66 : BitVec 32) (k0_hw12 : k0_chk12 v28 k0_t9 v66), ∀ (k0_h3 : k0_cond3 v28 = 1#1), (k0_t10_loop v28 k0_t9 v66).OK := fun v28 k0_t9 v66 k0_hw12 k0_h3 => k0_hw12.1 k0_h3
theorem k0_off18_inb : ∀ (v28 : BitVec 32) (k0_t9 : Fin (k0_t9_loop v28).trips) (v66 : BitVec 32) (k0_hw12 : k0_chk12 v28 k0_t9 v66) (k0_t10 : Fin (k0_t10_loop v28 k0_t9 v66).trips), ∀ (k0_h3 : k0_cond3 v28 = 1#1), ∀ a, (k0_off18 v28 k0_t9 v66 k0_t10) a + S1.size a ≤ S4096.size a := fun v28 k0_t9 v66 k0_hw12 k0_t10 k0_h3 => k0_hw12.2.1 k0_t10 k0_h3
theorem k0_t11_ok : ∀ (v28 : BitVec 32) (k0_t9 : Fin (k0_t9_loop v28).trips) (v66 : BitVec 32) (k0_hw12 : k0_chk12 v28 k0_t9 v66), ∀ (k0_h3 : k0_cond3 v28 = 1#1), (k0_t11_loop v28 k0_t9 v66).OK := fun v28 k0_t9 v66 k0_hw12 k0_h3 => k0_hw12.2.2.1 k0_h3
theorem k0_off20_inb : ∀ (v28 : BitVec 32) (k0_t9 : Fin (k0_t9_loop v28).trips) (v66 : BitVec 32) (k0_hw12 : k0_chk12 v28 k0_t9 v66) (k0_t11 : Fin (k0_t11_loop v28 k0_t9 v66).trips), ∀ (k0_h3 : k0_cond3 v28 = 1#1), ∀ a, (k0_off20 v28 k0_t9 v66 k0_t11) a + S1.size a ≤ S4096.size a := fun v28 k0_t9 v66 k0_hw12 k0_t11 k0_h3 => k0_hw12.2.2.2 k0_t11 k0_h3

def k0_mult8 (v88 : BitVec 32) : BitVec 32 :=
  let c7_i32_55 : BitVec 32 := 7#32
  let v89 : BitVec 32 := Scalar.shrsi v88 c7_i32_55
  let c7_i32_56 : BitVec 32 := 7#32
  let v90 : BitVec 32 := Scalar.shli v89 c7_i32_56
  v90

def k0_off21 (v88 : BitVec 32) : Fin 2 → Nat :=
  let c0_57 : Index := 0#32
  let c7_i32_55 : BitVec 32 := 7#32
  let v89 : BitVec 32 := Scalar.shrsi v88 c7_i32_55
  let c7_i32_56 : BitVec 32 := 7#32
  let v90 : BitVec 32 := Scalar.shli v89 c7_i32_56
  let v91 : BitVec 32 := v90
  let v92 : Index := Scalar.indexCast v91
  ![0, v92.toNat]

def k0_chk14 (v28 : BitVec 32) (v88 : BitVec 32) : Prop :=
  (∀ (k0_h3 : k0_cond3 v28 = 1#1), 128 ∣ (k0_mult8 v88).toNat) ∧
  (∀ (k0_h3 : k0_cond3 v28 = 1#1), ∀ a, (k0_off21 v88) a + S512x128.size a ≤ S512x4096.size a)
theorem k0_mult8_dvd : ∀ (v28 : BitVec 32) (v88 : BitVec 32) (k0_hw14 : k0_chk14 v28 v88), ∀ (k0_h3 : k0_cond3 v28 = 1#1), 128 ∣ (k0_mult8 v88).toNat := fun v28 v88 k0_hw14 k0_h3 => k0_hw14.1 k0_h3
theorem k0_off21_inb : ∀ (v28 : BitVec 32) (v88 : BitVec 32) (k0_hw14 : k0_chk14 v28 v88), ∀ (k0_h3 : k0_cond3 v28 = 1#1), ∀ a, (k0_off21 v88) a + S512x128.size a ≤ S512x4096.size a := fun v28 v88 k0_hw14 k0_h3 => k0_hw14.2 k0_h3

def k0_off22 (v28 : BitVec 32) (k0_t9 : Fin (k0_t9_loop v28).trips) : Fin 3 → Nat :=
  let c1_i32_28 : BitVec 32 := 1#32
  let c127_i32 : BitVec 32 := 127#32
  let v29 : BitVec 32 := Scalar.addi v28 c127_i32
  let c7_i32 : BitVec 32 := 7#32
  let v30 : BitVec 32 := Scalar.shrsi v29 c7_i32
  let v45 : BitVec 32 := Scalar.subi v30 c1_i32_28
  let c1_i32_29 : BitVec 32 := 1#32
  let v47 : BitVec 32 := Scalar.divsi v45 c1_i32_29
  let v48 : BitVec 32 := Scalar.muli v47 c1_i32_29
  let v49 : BitVec 32 := Scalar.addi c1_i32_28 v48
  let c1_i32_31 : BitVec 32 := 1#32
  let arg16 : BitVec 32 := Scf.iv v49 c1_i32_31 k0_t9
  let v80 : Index := Scalar.indexCast arg16
  let c0_51 : Index := 0#32
  let c0_52 : Index := 0#32
  ![v80.toNat, 0, 0]

def k0_chk8 (v28 : BitVec 32) : Prop :=
  (∀ (k0_h3 : k0_cond3 v28 = 1#1), (k0_t6_loop v28).OK) ∧
  (∀ k0_t6 : Fin (k0_t6_loop v28).trips, ∀ (k0_h3 : k0_cond3 v28 = 1#1), ∀ a, (k0_off17 v28 k0_t6) a + S1x256x128.size a ≤ S32x256x128.size a) ∧
  (∀ (k0_h3 : k0_cond3 v28 = 1#1), (k0_t9_loop v28).OK) ∧
  (∀ k0_t9 : Fin (k0_t9_loop v28).trips, ∀ (k0_h3 : k0_cond3 v28 = 1#1), ∀ a, (k0_off22 v28 k0_t9) a + S1x256x128.size a ≤ S32x256x128.size a)
theorem k0_t6_ok : ∀ (v28 : BitVec 32) (k0_hw8 : k0_chk8 v28), ∀ (k0_h3 : k0_cond3 v28 = 1#1), (k0_t6_loop v28).OK := fun v28 k0_hw8 k0_h3 => k0_hw8.1 k0_h3
theorem k0_off17_inb : ∀ (v28 : BitVec 32) (k0_hw8 : k0_chk8 v28) (k0_t6 : Fin (k0_t6_loop v28).trips), ∀ (k0_h3 : k0_cond3 v28 = 1#1), ∀ a, (k0_off17 v28 k0_t6) a + S1x256x128.size a ≤ S32x256x128.size a := fun v28 k0_hw8 k0_t6 k0_h3 => k0_hw8.2.1 k0_t6 k0_h3
theorem k0_t9_ok : ∀ (v28 : BitVec 32) (k0_hw8 : k0_chk8 v28), ∀ (k0_h3 : k0_cond3 v28 = 1#1), (k0_t9_loop v28).OK := fun v28 k0_hw8 k0_h3 => k0_hw8.2.2.1 k0_h3
theorem k0_off22_inb : ∀ (v28 : BitVec 32) (k0_hw8 : k0_chk8 v28) (k0_t9 : Fin (k0_t9_loop v28).trips), ∀ (k0_h3 : k0_cond3 v28 = 1#1), ∀ a, (k0_off22 v28 k0_t9) a + S1x256x128.size a ≤ S32x256x128.size a := fun v28 k0_hw8 k0_t9 k0_h3 => k0_hw8.2.2.2 k0_t9 k0_h3

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x4096 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S2x128x4096 : Shape := ⟨3, ![2, 128, 4096]⟩
abbrev S4096 : Shape := ⟨1, ![4096]⟩
abbrev S14336x4096 : Shape := ⟨2, ![14336, 4096]⟩
abbrev S14336 : Shape := ⟨1, ![14336]⟩
abbrev S256x4096 : Shape := ⟨2, ![256, 4096]⟩
abbrev S1x4096 : Shape := ⟨2, ![1, 4096]⟩
abbrev S1x14336 : Shape := ⟨2, ![1, 14336]⟩
abbrev S256x14336 : Shape := ⟨2, ![256, 14336]⟩
abbrev S256x1 : Shape := ⟨2, ![256, 1]⟩
abbrev S256 : Shape := ⟨1, ![256]⟩
abbrev S2x128x14336 : Shape := ⟨3, ![2, 128, 14336]⟩
abbrev S2x128 : Shape := ⟨2, ![2, 128]⟩

abbrev nBuf : Space → Nat
  | .hbm => 18
  | .vmem => 9
  | .smem => 0
  | _ => 0

abbrev bufTy : (tb : Table) → Fin (tcTables nBuf tb) → BufTy
  | .hbm, ⟨0, _⟩ => ⟨S2x128x4096, .bf16⟩
  | .hbm, ⟨1, _⟩ => ⟨S4096, .i32⟩
  | .hbm, ⟨2, _⟩ => ⟨S14336x4096, .i8⟩
  | .hbm, ⟨3, _⟩ => ⟨S14336, .f32⟩
  | .hbm, ⟨4, _⟩ => ⟨S256x4096, .bf16⟩
  | .hbm, ⟨5, _⟩ => ⟨S1x4096, .i32⟩
  | .hbm, ⟨6, _⟩ => ⟨S1x14336, .f32⟩
  | .hbm, ⟨7, _⟩ => ⟨S256x14336, .bf16⟩
  | .hbm, ⟨8, _⟩ => ⟨S1x4096, .f32⟩
  | .hbm, ⟨9, _⟩ => ⟨S1x4096, .i32⟩
  | .hbm, ⟨10, _⟩ => ⟨S256x4096, .i8⟩
  | .hbm, ⟨11, _⟩ => ⟨S256x1, .f32⟩
  | .hbm, ⟨12, _⟩ => ⟨S2x128x14336, .bf16⟩
  | .hbm, ⟨13, _⟩ => ⟨S4096, .f32⟩
  | .hbm, ⟨14, _⟩ => ⟨S4096, .i32⟩
  | .hbm, ⟨15, _⟩ => ⟨S2x128x4096, .i8⟩
  | .hbm, ⟨16, _⟩ => ⟨S256, .f32⟩
  | .hbm, ⟨17, _⟩ => ⟨S2x128, .f32⟩
  | .local _ .vmem, ⟨0, _⟩ => ⟨S256x4096, .bf16⟩
  | .local _ .vmem, ⟨1, _⟩ => ⟨S1x4096, .i32⟩
  | .local _ .vmem, ⟨2, _⟩ => ⟨S14336x4096, .i8⟩
  | .local _ .vmem, ⟨3, _⟩ => ⟨S1x14336, .f32⟩
  | .local _ .vmem, ⟨4, _⟩ => ⟨S256x14336, .bf16⟩
  | .local _ .vmem, ⟨5, _⟩ => ⟨S1x4096, .f32⟩
  | .local _ .vmem, ⟨6, _⟩ => ⟨S1x4096, .i32⟩
  | .local _ .vmem, ⟨7, _⟩ => ⟨S256x4096, .i8⟩
  | .local _ .vmem, ⟨8, _⟩ => ⟨S256x1, .f32⟩
  | _, _ => ⟨S2x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S14336x4096 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x14336 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x14336 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4096 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x4096 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.OwnRules.lean ====
/- Loads and stores of a memref owned at stated contents: what the program continues with, and what the memref
   holds afterwards, both as plain functions of the contents. -/
module

public import Idealize.ShloMosaic.Lib.Memref
public import Idealize.ShloMosaic.Lib.Tactic

@[expose] public section

noncomputable section

namespace Cert.OwnRules

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The contents `X` with the rectangle `r` overwritten by `w`. -/
def over {s : Shape} {V : Type} (r : Rect s) (w : r.shape.Idx → V) (X : s.Idx → V) : s.Idx → V :=
  open Classical in fun y => if h : ∃ x, r.emb x = y then w h.choose else X y

/-- Inside the rectangle the overwritten contents are the payload. -/
theorem over_emb {s : Shape} {V : Type} (r : Rect s) (w : r.shape.Idx → V) (X : s.Idx → V) (x : r.shape.Idx) :
    over r w X (r.emb x) = w x := by
  have h : ∃ x', r.emb x' = r.emb x := ⟨x, rfl⟩
  unfold over
  rw [dif_pos h]
  exact congrArg w (r.emb.injective h.choose_spec)

/-- Outside the rectangle the overwritten contents are the old ones. -/
theorem over_of_not {s : Shape} {V : Type} (r : Rect s) (w : r.shape.Idx → V) (X : s.Idx → V) {y : s.Idx}
    (h : ∀ x, r.emb x ≠ y) : over r w X y = X y := by
  unfold over
  rw [dif_neg (fun ⟨x, hx⟩ => h x hx)]

variable {nD : Nat} {τ : Topo} {sig : RefSig} {Ix : Type} [DecidableEq Ix]
variable {Val : EltTy → Type} {Name : Type} [DecidableEq Name]
variable {U : Type} [URA U]
variable {Lvl : Type} {Λ : Labels}
local notation "𝕄" => MT nD τ sig Ix Val Name U Lvl

variable [Preorder Lvl] {defs : Defs nD τ sig Val Λ} (𝒱 : Variants) (c : Thread nD τ)
  (bd : Option 𝒱.V) (E : Set Name)
variable {s : Shape} {e : EltTy} {α : Type} {Q : α → sProp (MT nD τ sig Ix Val Name U Lvl)}

/-- A load of a rectangle of an owned memref continues with the contents under the rectangle. -/
theorem wp_load_owns {cs : CoreSpace} {m : Memref sig c.2.kind cs s e} {r : Rect s} {hl : m.view.LoadsAt r.toLoadRect}
    {k : (r.shape.Idx → Val e) → Prog (TpuEff nD τ sig Val Λ c.2) α} {q : PosShare TreeShare} {X : s.Idx → Val e} :
    (owns c m q X : sProp 𝕄)
      ⊢ iprop((owns c m q X -∗ wp frame (wpE defs 𝒱 c bd) E (k (fun x => X (r.emb x))) Q)
        -∗ wp frame (wpE defs 𝒱 c bd) E (Prog.lift (.load m r.toLoadRect hl) >>= k) Q) := by
  unfold owns
  iintro ⟨%f, %hf, H⟩ HK
  iapply (wp_load_rect 𝒱 c bd E (m := m) (r := r) (k := k) (hl := hl) (S := m.view.set) (f := f) (q := q) (by
    rw [View.set_slice]; exact Finset.map_subset_map.mpr (Finset.subset_univ _))) $$ H
  iintro H
  subst hf
  iapply HK
  iexists f
  isplitr; · ipureintro; rfl
  iexact H

/-- A store to a rectangle of an owned memref overwrites the rectangle. -/
theorem wp_store_owns {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X : s.Idx → Val e} :
    (owns c m fullShare X : sProp 𝕄)
      ⊢ iprop((owns c m fullShare (over r w X) -∗ wp frame (wpE defs 𝒱 c bd) E (k ⟨⟩) Q)
        -∗ wp frame (wpE defs 𝒱 c bd) E (Prog.lift (.store m r w Finset.univ hx hm) >>= k) Q) := by
  unfold owns
  iintro ⟨%f, %hf, H⟩ HK
  iapply (wp_store 𝒱 c bd E (m := m) (r := r) (w := w) (k := k) (hx := hx) (hm := hm) (S := m.view.set) (f := f) (by
    rw [View.setOn_slice]; exact Finset.map_subset_map.mpr (Finset.subset_univ _))) $$ H
  iintro H
  iapply HK
  iexists _
  isplitr
  · ipureintro
    subst hf
    funext y
    by_cases hy : ∃ x, r.emb x = y
    · obtain ⟨x, rfl⟩ := hy
      rw [over_emb]
      exact View.read_slice_write_emb r f w (Finset.mem_univ x)
    · rw [over_of_not r w _ (fun x hx => hy ⟨x, hx⟩)]
      exact View.read_slice_write_of_not_mem r f w _ (fun hm => by
        obtain ⟨x, -, hx⟩ := Finset.mem_map.mp hm; exact hy ⟨x, hx⟩)
  · iexact H

/-- A load of one word of scalar memory continues with the word. -/
theorem wp_smem_owns {m : Memref sig c.2.kind .smem s e} {r : Rect s} {h1 : r.shape.numel = 1} {hp : e.packing = 1}
    {k : Val e → Prog (TpuEff nD τ sig Val Λ c.2) α} {q : PosShare TreeShare} {X : s.Idx → Val e} :
    (owns c m q X : sProp 𝕄)
      ⊢ iprop((owns c m q X -∗ wp frame (wpE defs 𝒱 c bd) E
            (k (X (r.emb (Shape.Idx.first (h1.symm ▸ Nat.one_pos))))) Q)
        -∗ wp frame (wpE defs 𝒱 c bd) E (smemLoad m r h1 hp >>= k) Q) :=
  wp_load_owns 𝒱 c bd E (k := fun f => k (f (Shape.Idx.first (h1.symm ▸ Nat.one_pos))))

/-- An assumption that holds is passed. -/
theorem wp_assume_lift {P : Prop} {d : Decidable P} {k : PLift P → Prog (TpuEff nD τ sig Val Λ c.2) α} (h : P) :
    wp frame (wpE defs 𝒱 c bd) E (k ⟨h⟩) Q
      ⊢ (wp frame (wpE defs 𝒱 c bd) E (Prog.lift (TpuEff.assume P d) >>= k) Q : sProp 𝕄) :=
  wp_assume 𝒱 c bd E h

/-- A program that returns at once meets its postcondition at the value. -/
theorem wp_pure {a : α} : Q a ⊢ (wp frame (wpE defs 𝒱 c bd) E (pure a : Prog (TpuEff nD τ sig Val Λ c.2) α) Q : sProp 𝕄) :=
  by
  show Q a ⊢ wp frame (wpE defs 𝒱 c bd) E (.ret a) Q
  rw [wp_ret]; exact fupd_intro

end Cert.OwnRules
-- ==== Proof.KernelWords.lean ====
/- The words the kernel computes its loop bounds and offsets from, in closed form, for a count `c ≤ 4096` of outlier
   columns and a column index `d < 4096`; and that the kernel's assumptions hold of them. -/
module

public import proofs.«01_k».proof.Proof.Gen.Kernel.Skeleton
public import Idealize.ShloMosaic.Lib.LoopRemainder
public import Idealize.ShloMosaic.Lib.WordArith
public import Idealize.ShloMosaic.Lib.ValueIdxCore

@[expose] public section

set_option maxRecDepth 16384

noncomputable section

namespace Cert.Kernel.Words

open Cert.Kernel Cert.Kernel.Gen
open Idealize.ShloMosaic Idealize.SL.Sem

/-- The 32-bit word of a number. -/
abbrev wd (n : ℕ) : BitVec 32 := BitVec.ofNat 32 n

theorem subi_zero (x : BitVec 32) : Scalar.subi x 0#32 = x := by simp [Scalar.subi, IntOp.subi]
theorem zero_addi (x : BitVec 32) : Scalar.addi 0#32 x = x := by simp [Scalar.addi, IntOp.addi]

/-- The induction variable of a loop from 0 by steps of 1. -/
theorem iv_zero (k : ℕ) : Scf.iv 0#32 1#32 k = wd k := by simp [Scf.iv]
/-- The induction variable of a loop from 1 by steps of 1. -/
theorem iv_one (k : ℕ) : Scf.iv 1#32 1#32 k = wd (k + 1) := by
  simp only [Scf.iv, BitVec.mul_one, wd, BitVec.ofNat_add, BitVec.add_comm]

/-- The number of trips between two small numbers. -/
theorem trips_wd (a b : ℕ) (h : a < 2 ^ 31) (hb : b < 2 ^ 31) : Scf.trips (wd a) (wd b) 1#32 = b - a := by
  have h1 : (1#32 : BitVec 32).toInt = 1 := by decide
  unfold Scf.trips
  rw [h1, WordArith.toInt_ofNat_small _ h, WordArith.toInt_ofNat_small _ hb]
  omega

/-- Such a loop has a meaning. -/
theorem ok_wd (a b : ℕ) (h : a < 2 ^ 30) (hb : b < 2 ^ 30) : Scf.OK (wd a) (wd b) 1#32 := by
  have h1 : (1#32 : BitVec 32).toInt = 1 := by decide
  refine ⟨by rw [h1]; decide, ?_⟩
  rw [trips_wd a b (by omega) (by omega), h1, WordArith.toInt_ofNat_small _ (by omega)]
  norm_num
  omega

/-! ## The first loop -/

theorem t1_trips : k0_t1_loop.trips = 4096 := by decide +kernel

theorem t1_lt (k : Fin k0_t1_loop.trips) : k.val < 4096 := lt_of_lt_of_eq k.isLt t1_trips

theorem off1_eq (k : Fin k0_t1_loop.trips) : k0_off1 k = ![k.val] := by
  have hk := t1_lt k
  unfold k0_off1
  simp only [iv_zero, Scalar.indexCast]
  rw [show (wd k.val).toNat = k.val from WordArith.toNat_ofNat_of_lt _ (by omega)]

theorem off2_eq (n : ℕ) (hn : n < 4096) : k0_off2 (wd n) = ![n] := by
  unfold k0_off2
  simp only [Scalar.indexCast]
  rw [show (wd n).toNat = n from WordArith.toNat_ofNat_of_lt _ (by omega)]

theorem chk1_of (i : grid0.Coords) (n : ℕ) (hn : n < 4096) (v : BitVec 32) : k0_chk1 i (wd n) v := by
  intro _ _ a
  rw [off2_eq n hn]
  match a with
  | ⟨0, _⟩ => show n + 1 ≤ 4096; omega

theorem cond2_iff (v : BitVec 32) : k0_cond2 v = 1#1 ↔ v = 1#32 := by
  unfold k0_cond2
  by_cases h : v = 1#32
  · subst h; exact ⟨fun _ => rfl, fun _ => by decide⟩
  · refine ⟨fun h' => ?_, fun h' => absurd h' h⟩
    exfalso
    have : Scalar.cmpi .eq v 1#32 = 0#1 := by
      show BitVec.ofBool (v == 1#32) = 0#1
      rw [beq_false_of_ne h]; rfl
    simp only [this] at h'
    exact absurd h' (by decide)

/-! ## The gather of the activations' columns -/

theorem t2_ub (v : BitVec 32) :
    Scalar.addi 0#32 (Scalar.muli (Scalar.divsi (Scalar.subi v 0#32) 1#32) 1#32) = v := by
  rw [Scalar.muli_divsi_one, zero_addi, subi_zero]

theorem t2_trips (c : ℕ) (hc : c ≤ 4096) : (k0_t2_loop (wd c)).trips = c := by
  show Scf.trips (0#32) (Scalar.addi 0#32 (Scalar.muli (Scalar.divsi (Scalar.subi (wd c) 0#32) 1#32) 1#32)) 1#32 = c
  rw [t2_ub]
  exact trips_wd 0 c (by omega) (by omega)

theorem shr_toNat : ∀ k : Fin 4097, (Scalar.shrsi (wd k.val) 7#32).toNat = k.val / 128 := by decide +kernel
theorem shl_toNat : ∀ k : Fin 4097, (Scalar.shli (Scalar.shrsi (wd k.val) 7#32) 7#32).toNat = k.val / 128 * 128 := by
  decide +kernel

theorem off3_eq (c : ℕ) (hc : c ≤ 4096) (k : Fin (k0_t2_loop (wd c)).trips) : k0_off3 (wd c) k = ![k.val] := by
  have hk : k.val < c := lt_of_lt_of_eq k.isLt (t2_trips c hc)
  unfold k0_off3
  simp only [iv_zero, Scalar.indexCast]
  rw [show (wd k.val).toNat = k.val from WordArith.toNat_ofNat_of_lt _ (by omega)]

theorem off4_eq (d : ℕ) (hd : d < 4096) : k0_off4 (wd d) = ![0, d / 128 * 128] := by
  unfold k0_off4
  simp only [Scalar.indexCast]
  rw [shl_toNat ⟨d, by omega⟩]

theorem off5_eq (c : ℕ) (hc : c ≤ 4096) (k : Fin (k0_t2_loop (wd c)).trips) : k0_off5 (wd c) k = ![k.val / 128, 0, 0] := by
  have hk : k.val < c := lt_of_lt_of_eq k.isLt (t2_trips c hc)
  unfold k0_off5
  simp only [iv_zero, Scalar.indexCast]
  rw [shr_toNat ⟨k.val, by omega⟩]

theorem chk3_of (i : grid0.Coords) (d : ℕ) (hd : d < 4096) : k0_chk3 i (wd d) := by
  refine ⟨fun _ => ?_, fun _ a => ?_⟩
  · show 128 ∣ (Scalar.shli (Scalar.shrsi (wd d) 7#32) 7#32).toNat
    rw [shl_toNat ⟨d, by omega⟩]; exact Dvd.intro_left _ rfl
  · rw [off4_eq d hd]
    match a with
    | ⟨0, _⟩ => show 0 + 256 ≤ 256; omega
    | ⟨1, _⟩ => show d / 128 * 128 + 128 ≤ 4096; omega

theorem chk2_of (i : grid0.Coords) (c : ℕ) (hc : c ≤ 4096) : k0_chk2 i (wd c) := by
  have hk : ∀ k : Fin (k0_t2_loop (wd c)).trips, k.val < c := fun k => lt_of_lt_of_eq k.isLt (t2_trips c hc)
  refine ⟨fun _ => ?_, fun k _ a => ?_, fun k _ a => ?_, fun k _ hinb => ?_, fun _ => Scf.rem_ok _ _,
    fun k => (Scf.rem_no_trip _ _ k).elim, fun k => (Scf.rem_no_trip _ _ k).elim, fun k => (Scf.rem_no_trip _ _ k).elim⟩
  · show Scf.OK (0#32) (Scalar.addi 0#32 (Scalar.muli (Scalar.divsi (Scalar.subi (wd c) 0#32) 1#32) 1#32)) 1#32
    rw [t2_ub]; exact ok_wd 0 c (by omega) (by omega)
  · have := hk k
    rw [off3_eq c hc k]
    match a with
    | ⟨0, _⟩ => show k.val + 1 ≤ 4096; omega
  · have := hk k
    rw [off5_eq c hc k]
    match a with
    | ⟨0, _⟩ => show k.val / 128 + 1 ≤ 32; omega
    | ⟨1, _⟩ => show 0 + 256 ≤ 256; omega
    | ⟨2, _⟩ => show 0 + 128 ≤ 128; omega
  · have h5 := off5_eq c hc k
    rw [Rect.packedRows_iff_at]
    show Shape.PackedRowsAt S32x256x128 2 (k0_off5 (wd c) k) S1x256x128.size (fun _ => 1)
    rw [h5]
    have : ∀ q : Fin 33, Shape.PackedRowsAt S32x256x128 2 ![q.val, 0, 0] S1x256x128.size (fun _ => 1) := by decide +kernel
    exact this ⟨k.val / 128, by have := hk k; omega⟩

/-! ## The gather of the weights' columns: the first chunk -/

/-- The number of columns of a chunk, from the columns left. -/
theorem min_wd : ∀ d : Fin 4097, Scalar.minsi (wd d.val) 128#32 = wd (min d.val 128) := by decide +kernel

theorem t4_ub (c : ℕ) (hc : c ≤ 4096) :
    Scalar.addi 0#32 (Scalar.muli (Scalar.divsi (Scalar.subi (Scalar.minsi (Scalar.subi (wd c) 0#32) 128#32) 0#32) 1#32) 1#32)
      = wd (min c 128) := by
  rw [Scalar.muli_divsi_one, zero_addi, subi_zero, subi_zero]
  exact min_wd ⟨c, by omega⟩

theorem t4_trips (c : ℕ) (hc : c ≤ 4096) : (k0_t4_loop (wd c)).trips = min c 128 := by
  show Scf.trips (0#32) (Scalar.addi 0#32 (Scalar.muli (Scalar.divsi (Scalar.subi (Scalar.minsi (Scalar.subi (wd c) 0#32) 128#32) 0#32) 1#32) 1#32)) 1#32 = _
  rw [t4_ub c hc]
  exact trips_wd 0 _ (by omega) (by omega)

theorem off9_eq (c : ℕ) (hc : c ≤ 4096) (k : Fin (k0_t4_loop (wd c)).trips) : k0_off9 (wd c) k = ![k.val] := by
  have hk : k.val < min c 128 := lt_of_lt_of_eq k.isLt (t4_trips c hc)
  unfold k0_off9
  simp only [iv_zero, Scalar.indexCast, zero_addi]
  rw [show (wd k.val).toNat = k.val from WordArith.toNat_ofNat_of_lt _ (by omega)]

theorem off10_eq (d : ℕ) (hd : d < 4096) : k0_off10 (wd d) = ![0, d / 128 * 128] := by
  unfold k0_off10
  simp only [Scalar.indexCast]
  rw [shl_toNat ⟨d, by omega⟩]

theorem chk5_of (c : ℕ) (hc : c ≤ 4096) : k0_chk5 (wd c) := by
  refine ⟨?_, fun k a => ?_, Scf.rem_ok _ _, fun k => (Scf.rem_no_trip _ _ k).elim⟩
  · show Scf.OK (0#32) (Scalar.addi 0#32 (Scalar.muli (Scalar.divsi (Scalar.subi (Scalar.minsi (Scalar.subi (wd c) 0#32) 128#32) 0#32) 1#32) 1#32)) 1#32
    rw [t4_ub c hc]; exact ok_wd 0 _ (by omega) (by omega)
  · have hk : k.val < min c 128 := lt_of_lt_of_eq k.isLt (t4_trips c hc)
    rw [off9_eq c hc k]
    match a with
    | ⟨0, _⟩ => show k.val + 1 ≤ 4096; omega

theorem chk6_of (d : ℕ) (hd : d < 4096) : k0_chk6 (wd d) := by
  refine ⟨?_, fun a => ?_⟩
  · show 128 ∣ (Scalar.shli (Scalar.shrsi (wd d) 7#32) 7#32).toNat
    rw [shl_toNat ⟨d, by omega⟩]; exact Dvd.intro_left _ rfl
  · rw [off10_eq d hd]
    match a with
    | ⟨0, _⟩ => show 0 + 512 ≤ 512; omega
    | ⟨1, _⟩ => show d / 128 * 128 + 128 ≤ 4096; omega

/-! ## The further chunks -/

/-- The number of chunks. -/
abbrev nch (c : ℕ) : ℕ := (c + 127) / 128

theorem nch_wd : ∀ c : Fin 4097, Scalar.shrsi (Scalar.addi (wd c.val) 127#32) 7#32 = wd (nch c.val) := by decide +kernel

/-- More than one chunk. -/
theorem cond3_iff (c : ℕ) (hc : c ≤ 4096) : k0_cond3 (wd c) = 1#1 ↔ 1 < nch c := by
  have h : ∀ c : Fin 4097, k0_cond3 (wd c.val) = 1#1 ↔ 1 < nch c.val := by decide +kernel
  exact h ⟨c, by omega⟩

theorem t6_ub (c : ℕ) (hc : c ≤ 4096) :
    Scalar.addi 1#32 (Scalar.muli (Scalar.divsi (Scalar.subi (Scalar.shrsi (Scalar.addi (wd c) 127#32) 7#32) 1#32) 1#32) 1#32)
      = wd (nch c) := by
  rw [Scalar.muli_divsi_one, nch_wd ⟨c, by omega⟩]
  show 1#32 + (wd (nch c) - 1#32) = _
  rw [BitVec.add_comm, BitVec.sub_add_cancel]

theorem t6_trips (c : ℕ) (hc : c ≤ 4096) : (k0_t6_loop (wd c)).trips = nch c - 1 := by
  show Scf.trips (1#32) (Scalar.addi 1#32 (Scalar.muli (Scalar.divsi (Scalar.subi (Scalar.shrsi (Scalar.addi (wd c) 127#32) 7#32) 1#32) 1#32) 1#32)) 1#32 = _
  rw [t6_ub c hc]
  exact trips_wd 1 _ (by omega) (by unfold nch; omega)

/-- Before a further chunk some columns are left. -/
theorem t6_lt (c : ℕ) (hc : c ≤ 4096) (k : Fin (k0_t6_loop (wd c)).trips) : (k.val + 1) * 128 < c := by
  have hk := lt_of_lt_of_eq k.isLt (t6_trips c hc)
  unfold nch at hk
  omega

theorem t7_left (c : ℕ) (k : ℕ) (h : (k + 1) * 128 ≤ c) :
    Scalar.subi (wd c) (Scalar.muli (wd (k + 1)) 128#32) = wd (c - (k + 1) * 128) := by
  show wd c - wd (k + 1) * 128#32 = _
  rw [show wd (k + 1) * 128#32 = wd ((k + 1) * 128) from (BitVec.ofNat_mul _ _).symm]
  conv_lhs => rw [show c = (c - (k + 1) * 128) + (k + 1) * 128 by omega]
  rw [show wd ((c - (k + 1) * 128) + (k + 1) * 128) = wd (c - (k + 1) * 128) + wd ((k + 1) * 128) from BitVec.ofNat_add _ _]
  rw [BitVec.add_sub_cancel]

theorem t7_ub (c : ℕ) (hc : c ≤ 4096) (k : ℕ) (h : (k + 1) * 128 ≤ c) :
    Scalar.addi 0#32 (Scalar.muli (Scalar.divsi (Scalar.subi (Scalar.minsi (Scalar.subi (wd c) (Scalar.muli (Scf.iv 1#32 1#32 k) 128#32)) 128#32) 0#32) 1#32) 1#32)
      = wd (min (c - (k + 1) * 128) 128) := by
  rw [Scalar.muli_divsi_one, zero_addi, subi_zero, iv_one, t7_left c k h]
  exact min_wd ⟨c - (k + 1) * 128, by omega⟩

theorem t7_trips (c : ℕ) (hc : c ≤ 4096) (k : Fin (k0_t6_loop (wd c)).trips) :
    (k0_t7_loop (wd c) k (wd c)).trips = min (c - (k.val + 1) * 128) 128 := by
  show Scf.trips (0#32) (Scalar.addi 0#32 (Scalar.muli (Scalar.divsi (Scalar.subi (Scalar.minsi (Scalar.subi (wd c) (Scalar.muli (Scf.iv 1#32 1#32 k.val) 128#32)) 128#32) 0#32) 1#32) 1#32)) 1#32 = _
  rw [t7_ub c hc k.val (le_of_lt (t6_lt c hc k))]
  exact trips_wd 0 _ (by omega) (by omega)

theorem off13_eq (c : ℕ) (hc : c ≤ 4096) (k : Fin (k0_t6_loop (wd c)).trips) (l : Fin (k0_t7_loop (wd c) k (wd c)).trips) :
    k0_off13 (wd c) k (wd c) l = ![(k.val + 1) * 128 + l.val] := by
  have hk := t6_lt c hc k
  have hl : l.val < min (c - (k.val + 1) * 128) 128 := lt_of_lt_of_eq l.isLt (t7_trips c hc k)
  unfold k0_off13
  simp only [iv_zero, iv_one, Scalar.indexCast]
  rw [show Scalar.addi (Scalar.muli (wd (k.val + 1)) 128#32) (wd l.val) = wd ((k.val + 1) * 128 + l.val) from by
    show wd (k.val + 1) * 128#32 + wd l.val = _
    rw [show wd (k.val + 1) * 128#32 = wd ((k.val + 1) * 128) from (BitVec.ofNat_mul _ _).symm]
    exact (BitVec.ofNat_add _ _).symm]
  rw [show (wd ((k.val + 1) * 128 + l.val)).toNat = (k.val + 1) * 128 + l.val from WordArith.toNat_ofNat_of_lt _ (by omega)]

theorem off14_eq (d : ℕ) (hd : d < 4096) : k0_off14 (wd d) = ![0, d / 128 * 128] := by
  unfold k0_off14
  simp only [Scalar.indexCast]
  rw [shl_toNat ⟨d, by omega⟩]

theorem off17_eq (c : ℕ) (hc : c ≤ 4096) (k : Fin (k0_t6_loop (wd c)).trips) : k0_off17 (wd c) k = ![k.val + 1, 0, 0] := by
  have hk := t6_lt c hc k
  unfold k0_off17
  simp only [iv_one, Scalar.indexCast]
  rw [show (wd (k.val + 1)).toNat = k.val + 1 from WordArith.toNat_ofNat_of_lt _ (by omega)]

theorem chk8_of (c : ℕ) (hc : c ≤ 4096) : k0_chk8 (wd c) := by
  refine ⟨fun _ => ?_, fun k _ a => ?_, fun _ => Scf.rem_ok _ _, fun k => (Scf.rem_no_trip _ _ k).elim⟩
  · show Scf.OK (1#32) (Scalar.addi 1#32 (Scalar.muli (Scalar.divsi (Scalar.subi (Scalar.shrsi (Scalar.addi (wd c) 127#32) 7#32) 1#32) 1#32) 1#32)) 1#32
    rw [t6_ub c hc]; exact ok_wd 1 _ (by omega) (by unfold nch; omega)
  · have := t6_lt c hc k
    rw [off17_eq c hc k]
    match a with
    | ⟨0, _⟩ => show k.val + 1 + 1 ≤ 32; omega
    | ⟨1, _⟩ => show 0 + 256 ≤ 256; omega
    | ⟨2, _⟩ => show 0 + 128 ≤ 128; omega

theorem chk9_of (c : ℕ) (hc : c ≤ 4096) (k : Fin (k0_t6_loop (wd c)).trips) : k0_chk9 (wd c) k (wd c) := by
  have hk := t6_lt c hc k
  refine ⟨fun _ => ?_, fun l _ a => ?_, fun _ => Scf.rem_ok _ _, fun l => (Scf.rem_no_trip _ _ l).elim⟩
  · show Scf.OK (0#32) (Scalar.addi 0#32 (Scalar.muli (Scalar.divsi (Scalar.subi (Scalar.minsi (Scalar.subi (wd c) (Scalar.muli (Scf.iv 1#32 1#32 k.val) 128#32)) 128#32) 0#32) 1#32) 1#32)) 1#32
    rw [t7_ub c hc k.val (le_of_lt hk)]; exact ok_wd 0 _ (by omega) (by omega)
  · have hl : l.val < min (c - (k.val + 1) * 128) 128 := lt_of_lt_of_eq l.isLt (t7_trips c hc k)
    rw [off13_eq c hc k l]
    match a with
    | ⟨0, _⟩ => show (k.val + 1) * 128 + l.val + 1 ≤ 4096; omega

theorem chk10_of (v28 : BitVec 32) (d : ℕ) (hd : d < 4096) : k0_chk10 v28 (wd d) := by
  refine ⟨fun _ => ?_, fun _ a => ?_⟩
  · show 128 ∣ (Scalar.shli (Scalar.shrsi (wd d) 7#32) 7#32).toNat
    rw [shl_toNat ⟨d, by omega⟩]; exact Dvd.intro_left _ rfl
  · rw [off14_eq d hd]
    match a with
    | ⟨0, _⟩ => show 0 + 512 ≤ 512; omega
    | ⟨1, _⟩ => show d / 128 * 128 + 128 ≤ 4096; omega

end Cert.Kernel.Words
-- ==== Proof.KernelSpec.lean ====
/- What the kernel's loops compute, as recursions over the list of outlier columns: the list itself, the gathered
   columns of the activations and of the weights, chunk by chunk, and the side product they give. -/
module

public import proofs.«01_k».proof.Proof.OwnRules
public import proofs.«01_k».proof.Proof.KernelWords

@[expose] public section

set_option maxRecDepth 16384

noncomputable section

namespace Cert.Kernel.Spec

open Cert.Kernel Cert.Kernel.Gen Cert.Kernel.Words
open Idealize.ShloMosaic Idealize.ShloMosaic.ValueIdx Idealize.SL.Sem

variable {F : FTy → Type} [FloatOps F]

/-- The index of the list of 4096 words that a number names (modulo 4096). -/
def at1 (j : ℕ) : S4096.Idx := ix1 ⟨j % 4096, Nat.mod_lt _ (by decide)⟩

/-- The columns below `k` that the mask marks, in increasing order. -/
def hits (T : S4096.Idx → BitVec 32) (k : ℕ) : List ℕ := (List.range k).filter (fun d => decide (T (at1 d) = 1#32))

theorem hits_zero (T : S4096.Idx → BitVec 32) : hits T 0 = [] := rfl

theorem hits_succ_of (T : S4096.Idx → BitVec 32) (k : ℕ) (h : T (at1 k) = 1#32) : hits T (k + 1) = hits T k ++ [k] := by
  unfold hits
  rw [List.range_succ, List.filter_append]
  simp [h]

theorem hits_succ_of_not (T : S4096.Idx → BitVec 32) (k : ℕ) (h : ¬ T (at1 k) = 1#32) : hits T (k + 1) = hits T k := by
  unfold hits
  rw [List.range_succ, List.filter_append]
  simp [h]

theorem hits_length_le (T : S4096.Idx → BitVec 32) (k : ℕ) : (hits T k).length ≤ k := by
  unfold hits
  exact (List.length_filter_le _ _).trans_eq List.length_range

/-- The `j`-th entry of the list. -/
abbrev nth (L : List ℕ) (j : ℕ) : ℕ := L.getD j 0

theorem hits_nth_lt (T : S4096.Idx → BitVec 32) (k j : ℕ) (h : j < (hits T k).length) : nth (hits T k) j < k := by
  unfold nth
  rw [show (hits T k).getD j 0 = (hits T k)[j] by simp [List.getD, h]]
  have := List.getElem_mem h
  exact List.mem_range.mp (List.mem_of_mem_filter this)

/-- The words `X` start with the entries of `L`. -/
def Listed (L : List ℕ) (X : S4096.Idx → BitVec 32) : Prop := ∀ j, j < L.length → X (at1 j) = wd (nth L j)

/-- The block of 128 columns of the activations that holds column `d`. -/
def xBlk {V : Type} (x : S256x4096.Idx → V) (d : ℕ) : S256x128.Idx → V :=
  fun y => x (ix2 (y 0) ⟨(d / 128 * 128 + (y 1).val) % 4096, Nat.mod_lt _ (by decide)⟩)

/-- The block of 128 columns of the weights that holds column `d`. -/
def wBlk {V : Type} (w : S512x4096.Idx → V) (d : ℕ) : S512x128.Idx → V :=
  fun y => w (ix2 (y 0) ⟨(d / 128 * 128 + (y 1).val) % 4096, Nat.mod_lt _ (by decide)⟩)

/-- Chunk `q` of the gathered columns. -/
def chunk {V : Type} (X : S32x256x128.Idx → V) (q : ℕ) : S1x256x128.Idx → V :=
  fun y => X (ix3 ⟨q % 32, Nat.mod_lt _ (by decide)⟩ (y 1) (y 2))

/-- The gathered columns with chunk `q` replaced. -/
def putChunk {V : Type} (X : S32x256x128.Idx → V) (q : ℕ) (v : S1x256x128.Idx → V) : S32x256x128.Idx → V :=
  fun y => if (y 0).val = q then v (ix3 0 (y 1) (y 2)) else X y

/-- The lane numbers of the gather of the activations. -/
abbrev lanesX : IVec S256x128 32 := iota .tc S256x128 32 [1] iota_S256x128_d1_w32

/-- A chunk after column `d` of the activations, from its block `xb`, is put at lane `k` modulo 128. -/
def gx (k d : ℕ) (xb : Vec F S256x128 .bf16) (cur : Vec F S1x256x128 .bf16) : FVec F S1x256x128 .bf16 :=
  shapeCast S1x256x128 (truncf .bf16 (select (cmpi .eq lanesX (broadcast S256x128 (Scalar.andi (wd k) 127#32)))
    (dynamicRotate 1 (Scalar.andi (Scalar.subi (wd k) (wd d)) 127#32) none
      (extf .f32 (shapeCast S256x128 xb shapeCasts_S256x128_S256x128) bitsLt_bf16_f32) rotates_S256x128_d1)
    (extf .f32 (shapeCast S256x128 cur shapeCasts_S1x256x128_S256x128) bitsLt_bf16_f32)) bitsLt_bf16_f32)
    shapeCasts_S256x128_S1x256x128

/-- The gathered weights after column `d`, from its block `wb`, is put at lane `k`. -/
def gw (k d : ℕ) (wb : Vec F S512x128 .i8) (cur : Vec F S128x128 .i32) : IVec S128x128 32 :=
  shapeCast S128x128 (select (cmpi .eq (iota .tc S128x128 32 [1] iota_S128x128_d1_w32) (broadcast S128x128 (wd k)))
    (dynamicRotate 1 (Scalar.andi (Scalar.subi (wd k) (wd d)) 127#32) none
      (bitcast S128x128 32 wb bitcasts_S512x128_w8_S128x128_w32) rotates_S128x128_d1) cur)
    shapeCasts_S128x128_S128x128

theorem pay83_eq (v351 : BitVec 32) (t : Fin (k0_t2_loop v351).trips) (d : ℕ) (xb : Vec F S256x128 .bf16)
    (cur : Vec F S1x256x128 .bf16) : k0_pay83 lanesX v351 t (wd d) xb cur = gx t.val d xb cur := by
  unfold k0_pay83 gx
  simp only [iv_zero]

theorem pay87_eq (v12 : BitVec 32) (t : Fin (k0_t4_loop v12).trips) (d : ℕ) (wb : Vec F S512x128 .i8)
    (cur : Vec F S128x128 .i32) : k0_pay87 (F := F) v12 t (wd d) wb cur = gw (F := F) t.val d wb cur := by
  unfold k0_pay87 gw
  simp only [iv_zero]

theorem pay3_eq (v28 : BitVec 32) (k : Fin (k0_t6_loop v28).trips) (v66 : BitVec 32) (t : Fin (k0_t7_loop v28 k v66).trips)
    (d : ℕ) (wb : Vec F S512x128 .i8) (cur : Vec F S128x128 .i32) :
    k0_pay3 (F := F) v28 k v66 t (wd d) wb cur = gw (F := F) t.val d wb cur := by
  unfold k0_pay3 gw
  simp only [iv_zero]

/-- The gathered columns of the activations after the first `k` entries of the list. -/
def xgK (x : Vec F S256x4096 .bf16) (L : List ℕ) : ℕ → Vec F S32x256x128 .bf16
  | 0 => k0_pay82
  | k + 1 => putChunk (xgK x L k) (k / 128) (gx k (nth L k) (xBlk x (nth L k)) (chunk (xgK x L k) (k / 128)))

/-- The gathered columns of the weights after `l` entries of the list from entry `base` on, from `g`. -/
def gK (w : Vec F S512x4096 .i8) (L : List ℕ) (base : ℕ) (g : Vec F S128x128 .i32) : ℕ → Vec F S128x128 .i32
  | 0 => g
  | l + 1 => gw (F := F) l (nth L (base + l)) (wBlk w (nth L (base + l))) (gK w L base g l)

/-- The gathered columns of the weights at chunk `q`: each chunk's are put over the chunk before's. -/
def gAt (w : Vec F S512x4096 .i8) (L : List ℕ) : ℕ → Vec F S128x128 .i32
  | 0 => gK w L 0 (k0_pay86) (min L.length 128)
  | q + 1 => gK w L ((q + 1) * 128) (gAt w L q) (min (L.length - (q + 1) * 128) 128)

/-- The side product through chunk `q`. -/
def side (w : Vec F S512x4096 .i8) (Xg : Vec F S32x256x128 .bf16) (L : List ℕ) : ℕ → FVec F S256x512 .f32
  | 0 => k0_pay89 (gAt w L 0) (chunk Xg 0)
  | q + 1 => k0_pay5 (side w Xg L q) (gAt w L (q + 1)) (chunk Xg (q + 1))

/-! ## The rectangles of the loops' loads and stores -/

theorem emb_at1 (o : Fin 1 → ℕ) (h : ∀ a, o a + S1.size a ≤ S4096.size a) (n : ℕ) (ho : o = ![n])
    (x : (Rect.unit (s := S4096) o S1.size h).shape.Idx) : (Rect.unit (s := S4096) o S1.size h).emb x = at1 n := by
  subst ho
  have hn : n + 1 ≤ 4096 := h 0
  have hx : (x 0).val < 1 := (x 0).isLt
  funext a
  match a with
  | ⟨0, _⟩ =>
    refine Fin.ext ?_
    show n + 1 * (x 0).val = n % 4096
    rw [Nat.mod_eq_of_lt (by omega)]; omega

theorem emb_xBlk {V : Type} (X : S256x4096.Idx → V) (o : Fin 2 → ℕ) (h : ∀ a, o a + S256x128.size a ≤ S256x4096.size a) (d : ℕ)
    (ho : o = ![0, d / 128 * 128]) :
    (fun x => X ((Rect.unit (s := S256x4096) o S256x128.size h).emb x)) = xBlk X d := by
  subst ho
  have hn : d / 128 * 128 + 128 ≤ 4096 := h 1
  funext x
  have hx : (x 1).val < 128 := (x 1).isLt
  unfold xBlk
  congr 1
  funext a
  match a with
  | ⟨0, _⟩ => refine Fin.ext ?_; show 0 + 1 * (x 0).val = (x 0).val; omega
  | ⟨1, _⟩ =>
    refine Fin.ext ?_
    show d / 128 * 128 + 1 * (x 1).val = (d / 128 * 128 + (x 1).val) % 4096
    rw [Nat.mod_eq_of_lt (by omega)]; omega

theorem emb_wBlk {V : Type} (X : S512x4096.Idx → V) (o : Fin 2 → ℕ) (h : ∀ a, o a + S512x128.size a ≤ S512x4096.size a) (d : ℕ)
    (ho : o = ![0, d / 128 * 128]) :
    (fun x => X ((Rect.unit (s := S512x4096) o S512x128.size h).emb x)) = wBlk X d := by
  subst ho
  have hn : d / 128 * 128 + 128 ≤ 4096 := h 1
  funext x
  have hx : (x 1).val < 128 := (x 1).isLt
  unfold wBlk
  congr 1
  funext a
  match a with
  | ⟨0, _⟩ => refine Fin.ext ?_; show 0 + 1 * (x 0).val = (x 0).val; omega
  | ⟨1, _⟩ =>
    refine Fin.ext ?_
    show d / 128 * 128 + 1 * (x 1).val = (d / 128 * 128 + (x 1).val) % 4096
    rw [Nat.mod_eq_of_lt (by omega)]; omega

theorem emb_ix3 (o : Fin 3 → ℕ) (h : ∀ a, o a + S1x256x128.size a ≤ S32x256x128.size a) (q : ℕ)
    (ho : o = ![q, 0, 0]) (x : (Rect.unit (s := S32x256x128) o S1x256x128.size h).shape.Idx) :
    (Rect.unit (s := S32x256x128) o S1x256x128.size h).emb x = ix3 ⟨q % 32, Nat.mod_lt _ (by decide)⟩ (x 1) (x 2) := by
  subst ho
  have hn : q + 1 ≤ 32 := h 0
  have hx : (x 0).val < 1 := (x 0).isLt
  funext a
  match a with
  | ⟨0, _⟩ =>
    refine Fin.ext ?_
    show q + 1 * (x 0).val = q % 32
    rw [Nat.mod_eq_of_lt (by omega)]; omega
  | ⟨1, _⟩ => refine Fin.ext ?_; show 0 + 1 * (x 1).val = (x 1).val; omega
  | ⟨2, _⟩ => refine Fin.ext ?_; show 0 + 1 * (x 2).val = (x 2).val; omega

theorem emb_chunk {V : Type} (X : S32x256x128.Idx → V) (o : Fin 3 → ℕ) (h : ∀ a, o a + S1x256x128.size a ≤ S32x256x128.size a) (q : ℕ)
    (ho : o = ![q, 0, 0]) :
    (fun x => X ((Rect.unit (s := S32x256x128) o S1x256x128.size h).emb x)) = chunk X q := by
  funext x
  rw [emb_ix3 o h q ho x]
  rfl

theorem over_chunk {V : Type} (X : S32x256x128.Idx → V) (o : Fin 3 → ℕ) (h : ∀ a, o a + S1x256x128.size a ≤ S32x256x128.size a) (q : ℕ)
    (ho : o = ![q, 0, 0]) (v : S1x256x128.Idx → V) :
    OwnRules.over (Rect.unit (s := S32x256x128) o S1x256x128.size h) v X = putChunk X q v := by
  have hn : q + 1 ≤ 32 := by have := h 0; rw [ho] at this; exact this
  funext y
  unfold putChunk
  by_cases hy : (y 0).val = q
  · rw [if_pos hy]
    have : y = (Rect.unit (s := S32x256x128) o S1x256x128.size h).emb (ix3 0 (y 1) (y 2) : S1x256x128.Idx) := by
      rw [emb_ix3 o h q ho]
      funext a
      match a with
      | ⟨0, _⟩ => refine Fin.ext ?_; show (y 0).val = q % 32; rw [Nat.mod_eq_of_lt (by omega)]; exact hy
      | ⟨1, _⟩ => rfl
      | ⟨2, _⟩ => rfl
    conv_lhs => rw [this]
    rw [OwnRules.over_emb]
  · rw [if_neg hy, OwnRules.over_of_not]
    intro x hx
    rw [emb_ix3 o h q ho] at hx
    apply hy
    rw [← hx]
    show q % 32 = q
    exact Nat.mod_eq_of_lt (by omega)

/-- A rectangle of the whole shape reads, and overwrites, everything. -/
theorem emb_full {V : Type} {s : Shape} (X : s.Idx → V) (o : Fin s.rank → ℕ) (h : ∀ a, o a + s.size a ≤ s.size a) :
    (fun x => X ((Rect.unit (s := s) o s.size h).emb x)) = X := by
  funext x
  congr 1
  funext a
  refine Fin.ext ?_
  have := h a
  show o a + 1 * (x a).val = (x a).val
  omega

theorem over_full {V : Type} {s : Shape} (X : s.Idx → V) (o : Fin s.rank → ℕ) (h : ∀ a, o a + s.size a ≤ s.size a) (v : s.Idx → V) :
    OwnRules.over (Rect.unit (s := s) o s.size h) v X = v := by
  have := emb_full (fun x => OwnRules.over (Rect.unit (s := s) o s.size h) v X x) o h
  exact this.symm.trans (funext fun x => OwnRules.over_emb _ _ _ x)

end Cert.Kernel.Spec
-- ==== Proof.KernelColLoops.lean ====
/- The loop that lists the outlier columns. -/
module

public import proofs.«01_k».proof.Proof.KernelSpec
public import proofs.«01_k».proof.Proof.Gen.Kernel.Launch

@[expose] public section

set_option maxRecDepth 16384

noncomputable section

namespace Cert.Kernel.ColLoops

open Cert.Kernel Cert.Kernel.Gen Cert.Kernel.Words Cert.Kernel.Spec Cert.OwnRules
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The weakest precondition of a piece of the kernel's body on core `c`. -/
abbrev WP (c : Dev nD) {α : Type} (p : Prog (TpuEff nD τ sig (Elt F) Λ₀ .tc) α) (Q : α → sProp (MT nD τ sig Unit (Elt F) ℕ (UR sig nD τ) ℕ)) :
    sProp (MT nD τ sig Unit (Elt F) ℕ (UR sig nD τ) ℕ) :=
  wp (M := MT nD τ sig Unit (Elt F) ℕ (UR sig nD τ) ℕ) frame (wpE defs₀ Variants.none (c : Thread nD τ) none) Set.univ p Q

variable (i : grid0.Coords)
  (arg1 : Memref sig .tc .smem S4096 .i32) (harg1 : arg1.IsWhole)
  (arg2 : Memref sig .tc .vmem S256x4096 .bf16) (harg2 : arg2.IsWhole)
  (arg3 : Memref sig .tc .vmem S1x4096 .i32) (harg3 : arg3.IsWhole)
  (arg4 : Memref sig .tc .vmem S512x4096 .i8) (harg4 : arg4.IsWhole)
  (arg5 : Memref sig .tc .vmem S1x512 .f32) (harg5 : arg5.IsWhole)
  (arg6 : Memref sig .tc .vmem S256x512 .bf16) (harg6 : arg6.IsWhole)
  (arg7 : Memref sig .tc .vmem S1x4096 .f32) (harg7 : arg7.IsWhole)
  (arg8 : Memref sig .tc .vmem S1x4096 .i32) (harg8 : arg8.IsWhole)
  (arg9 : Memref sig .tc .vmem S256x4096 .i8) (harg9 : arg9.IsWhole)
  (arg10 : Memref sig .tc .vmem S256x128 .f32) (harg10 : arg10.IsWhole)
  (arg11 : Memref sig .tc .vmem S256x4096 .bf16) (harg11 : arg11.IsWhole)
  (arg12 : Memref sig .tc .vmem S32x256x128 .bf16) (harg12 : arg12.IsWhole)
  (arg13 : Memref sig .tc .vmem S128x128 .i32) (harg13 : arg13.IsWhole)
  (arg14 : Memref sig .tc .smem S1 .i32) (harg14 : arg14.IsWhole)
  (arg15 : Memref sig .tc .smem S4096 .i32) (harg15 : arg15.IsWhole)

/-- The listing loop: from the mask table at `T` it leaves the list of the marked columns at the start of the index
    buffer and continues with their number. -/
theorem t1_loop (c : Dev nD) (k0_h1 : k0_cond1 i = 1#1) (v308 : FVec F S1x4096 .f32) (v312 : FVec F S32x4096 .f32) (v317 : IVec S32x1 1) (v319 : FVec F S32x1 .f32) (cst_144 : F .f32)
    (q : PosShare TreeShare) (T : S4096.Idx → BitVec 32) (X0 : S4096.Idx → BitVec 32) (hok : k0_t1_loop.OK)
    {β : Type} (kk : BitVec 32 → Prog (TpuEff nD τ sig (Elt F) Λ₀ .tc) β) (Q : β → sProp (MT nD τ sig Unit (Elt F) ℕ (UR sig nD τ) ℕ)) :
    iprop(owns (c : Thread nD τ) arg1 q T ∗ owns (c : Thread nD τ) arg15 fullShare X0)
      ⊢ iprop((∀ X, ⌜Listed (hits T 4096) X⌝ -∗ owns (c : Thread nD τ) arg1 q T -∗ owns (c : Thread nD τ) arg15 fullShare X
          -∗ WP (F := F) c (kk (wd (hits T 4096).length)) Q)
        -∗ WP (F := F) c (Scf.Loop.for k0_t1_loop hok 0#32
          (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h1 v308 v312 v317 v319 cst_144) >>= kk) Q) := by
  iintro ⟨HT, HX⟩ HK
  iapply (Scf.wp_for_bind (M := 𝕄) frame (wpE defs₀ Variants.none (c : Thread nD τ) none) Set.univ k0_t1_loop.lb k0_t1_loop.ub k0_t1_loop.st hok 0#32 _
    (fun k acc => iprop(⌜acc = wd (hits T k).length⌝ ∗ owns (c : Thread nD τ) arg1 q T
      ∗ ∃ X, ⌜Listed (hits T k) X⌝ ∗ owns (c : Thread nD τ) arg15 fullShare X)) ?_) $$ [HT HX]
  case _ =>
    intro k acc
    have hk := t1_lt k
    iintro ⟨%ha, HT, %X, %hX, HX⟩
    subst ha
    have hlen := hits_length_le T k.val
    unfold k0_t1_body
    iapply (wp_smem_owns Variants.none (c : Thread nD τ) none Set.univ (m := arg1)) $$ HT
    iintro HT
    iapply (wp_assume_lift Variants.none (c : Thread nD τ) none Set.univ (chk1_of i _ (by omega) _))
    rw [emb_at1 (k0_off1 k) _ k.val (off1_eq k)]
    by_cases h2 : T (at1 k.val) = 1#32
    · rw [dif_pos ((cond2_iff _).mpr h2)]
      iapply (wp_smem_owns Variants.none (c : Thread nD τ) none Set.univ (m := arg15)) $$ HX
      iintro HX
      iapply (wp_store_owns Variants.none (c : Thread nD τ) none Set.univ (m := arg15)) $$ HX
      iintro HX
      iapply (wp_pure Variants.none (c : Thread nD τ) none Set.univ)
      isplitr
      · ipureintro
        rw [h2, hits_succ_of T _ h2, List.length_append]
        show _ = BitVec.ofNat 32 ((hits T k.val).length + 1)
        rw [BitVec.ofNat_add]; rfl
      isplitl [HT]; · iexact HT
      iexists _
      isplitr [HX]
      rotate_left
      · iexact HX
      · ipureintro
        rw [hits_succ_of T _ h2]
        intro j hj
        rw [List.length_append] at hj
        simp only [List.length_cons, List.length_nil] at hj
        have hoff := off2_eq (hits T k.val).length (by omega)
        by_cases hjl : j = (hits T k.val).length
        · subst hjl
          have he := emb_at1 (k0_off2 (wd (hits T k.val).length)) (k0_off2_inb i _ _ (chk1_of i _ (by omega) _) k0_h1 ((cond2_iff _).mpr h2)) _ hoff
            (Shape.Idx.first (show 0 < S1.numel from by decide))
          rw [← he, over_emb, iv_zero]
          simp [nth]
        · rw [over_of_not]
          · rw [hX j (by omega)]
            simp only [nth]
            rw [List.getD_eq_getElem?_getD, List.getD_eq_getElem?_getD, List.getElem?_append_left (by omega)]
          · intro x hx
            rw [emb_at1 _ _ _ hoff] at hx
            have h0 : ((at1 (hits T k.val).length) 0).val = (at1 j 0).val := by rw [hx]
            have h1 : (hits T k.val).length % 4096 = j % 4096 := h0
            rw [Nat.mod_eq_of_lt (by omega), Nat.mod_eq_of_lt (by omega)] at h1
            exact hjl h1.symm
    · rw [dif_neg (fun h => h2 ((cond2_iff _).mp h))]
      iapply (wp_pure Variants.none (c : Thread nD τ) none Set.univ)
      isplitr
      · ipureintro
        rw [hits_succ_of_not T _ h2]
        show wd _ + BitVec.setWidth 32 (BitVec.ofBool (T (at1 k.val) == 1#32)) = _
        rw [beq_false_of_ne h2]
        exact BitVec.add_zero _
      isplitl [HT]; · iexact HT
      iexists X
      isplitr [HX]
      · ipureintro; rw [hits_succ_of_not T _ h2]; exact hX
      · iexact HX
  · isplitr
    · ipureintro; rfl
    isplitl [HT]; · iexact HT
    iexists X0
    isplitr [HX]
    · ipureintro; intro j hj; exact absurd hj (Nat.not_lt_zero _)
    · iexact HX
  · iintro %acc ⟨%ha, HT, %X, %hX, HX⟩
    have h4 : Scf.trips k0_t1_loop.lb k0_t1_loop.ub k0_t1_loop.st = 4096 := t1_trips
    rw [h4] at ha hX
    subst ha
    iapply HK $$ %X %hX HT HX

/-- The loop that gathers the outlier columns of the activations. -/
theorem t2_loop (c : Dev nD) (k0_h1 : k0_cond1 i = 1#1) (L : List ℕ) (hL : L.length ≤ 4096) (hb : ∀ j, j < L.length → nth L j < 4096)
    (q : PosShare TreeShare) (X : S4096.Idx → BitVec 32) (hX : Listed L X) (x : Vec F S256x4096 .bf16)
    (hw2 : k0_chk2 i (wd L.length)) (hok : (k0_t2_loop (wd L.length)).OK)
    {β : Type} (kk : BitVec 32 → Prog (TpuEff nD τ sig (Elt F) Λ₀ .tc) β) (Q : β → sProp (MT nD τ sig Unit (Elt F) ℕ (UR sig nD τ) ℕ)) :
    iprop(owns (c : Thread nD τ) arg15 fullShare X ∗ owns (c : Thread nD τ) arg2 q x ∗ owns (c : Thread nD τ) arg12 fullShare (k0_pay82 (F := F)))
      ⊢ iprop((∀ a, owns (c : Thread nD τ) arg15 fullShare X -∗ owns (c : Thread nD τ) arg2 q x
          -∗ owns (c : Thread nD τ) arg12 fullShare (xgK x L L.length) -∗ WP (F := F) c (kk a) Q)
        -∗ WP (F := F) c (Scf.Loop.for (k0_t2_loop (wd L.length)) hok 0#32
          (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h1 lanesX (wd L.length) hw2) >>= kk) Q) := by
  iintro ⟨HX, Hx, HG⟩ HK
  iapply (Scf.wp_for_bind (M := 𝕄) frame (wpE defs₀ Variants.none (c : Thread nD τ) none) Set.univ (k0_t2_loop (wd L.length)).lb (k0_t2_loop (wd L.length)).ub (k0_t2_loop (wd L.length)).st hok 0#32 _
    (fun k acc => iprop(owns (c : Thread nD τ) arg15 fullShare X ∗ owns (c : Thread nD τ) arg2 q x ∗ owns (c : Thread nD τ) arg12 fullShare (xgK x L k))) ?_) $$ [HX Hx HG]
  case _ =>
    intro k acc
    have hk : k.val < L.length := lt_of_lt_of_eq k.isLt (t2_trips L.length hL)
    iintro ⟨HX, Hx, HG⟩
    unfold k0_t2_body
    iapply (wp_smem_owns Variants.none (c : Thread nD τ) none Set.univ (m := arg15)) $$ HX
    iintro HX
    rw [emb_at1 _ _ k.val (off3_eq L.length hL k), hX k.val hk]
    iapply (wp_assume_lift Variants.none (c : Thread nD τ) none Set.univ (chk3_of i _ (hb _ hk)))
    iapply (wp_load_owns Variants.none (c : Thread nD τ) none Set.univ (m := arg2)) $$ Hx
    iintro Hx
    rw [emb_xBlk x _ _ (nth L k.val) (off4_eq _ (hb _ hk))]
    iapply (wp_load_owns Variants.none (c : Thread nD τ) none Set.univ (m := arg12)) $$ HG
    iintro HG
    rw [emb_chunk _ _ _ (k.val / 128) (off5_eq L.length hL k)]
    iapply (wp_load_owns Variants.none (c : Thread nD τ) none Set.univ (m := arg12)) $$ HG
    iintro HG
    iapply (wp_store_owns Variants.none (c : Thread nD τ) none Set.univ (m := arg12)) $$ HG
    iintro HG
    rw [over_chunk _ _ _ (k.val / 128) (off5_eq L.length hL k), pay83_eq]
    iapply (wp_pure Variants.none (c : Thread nD τ) none Set.univ)
    isplitl [HX]; · iexact HX
    isplitl [Hx]; · iexact Hx
    iexact HG
  · isplitl [HX]; · iexact HX
    isplitl [Hx]; · iexact Hx
    iexact HG
  · iintro %acc ⟨HX, Hx, HG⟩
    have h4 : Scf.trips (k0_t2_loop (wd L.length)).lb (k0_t2_loop (wd L.length)).ub (k0_t2_loop (wd L.length)).st = L.length := t2_trips L.length hL
    rw [h4]
    iapply HK $$ %acc HX Hx HG

/-- The loop that gathers the outlier columns of the weights, first chunk. -/
theorem t4_loop (c : Dev nD) (L : List ℕ) (hL : L.length ≤ 4096) (hb : ∀ j, j < L.length → nth L j < 4096)
    (q : PosShare TreeShare) (X : S4096.Idx → BitVec 32) (hX : Listed L X) (w : Vec F S512x4096 .i8) (g : Vec F S128x128 .i32)
    (hw5 : k0_chk5 (wd L.length)) (hok : (k0_t4_loop (wd L.length)).OK)
    {β : Type} (kk : BitVec 32 → Prog (TpuEff nD τ sig (Elt F) Λ₀ .tc) β) (Q : β → sProp (MT nD τ sig Unit (Elt F) ℕ (UR sig nD τ) ℕ)) :
    iprop(owns (c : Thread nD τ) arg15 fullShare X ∗ owns (c : Thread nD τ) arg4 q w ∗ owns (c : Thread nD τ) arg13 fullShare g)
      ⊢ iprop((∀ a, owns (c : Thread nD τ) arg15 fullShare X -∗ owns (c : Thread nD τ) arg4 q w
          -∗ owns (c : Thread nD τ) arg13 fullShare (gK (F := F) w L 0 g (min L.length 128)) -∗ WP (F := F) c (kk a) Q)
        -∗ WP (F := F) c (Scf.Loop.for (k0_t4_loop (wd L.length)) hok 0#32
          (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 (wd L.length) hw5) >>= kk) Q) := by
  iintro ⟨HX, Hx, HG⟩ HK
  iapply (Scf.wp_for_bind (M := 𝕄) frame (wpE defs₀ Variants.none (c : Thread nD τ) none) Set.univ (k0_t4_loop (wd L.length)).lb (k0_t4_loop (wd L.length)).ub (k0_t4_loop (wd L.length)).st hok 0#32 _
    (fun k acc => iprop(owns (c : Thread nD τ) arg15 fullShare X ∗ owns (c : Thread nD τ) arg4 q w ∗ owns (c : Thread nD τ) arg13 fullShare (gK (F := F) w L 0 g k))) ?_) $$ [HX Hx HG]
  case _ =>
    intro k acc
    have hk : k.val < min L.length 128 := lt_of_lt_of_eq k.isLt (t4_trips L.length hL)
    have hk' : 0 + k.val < L.length := by omega
    iintro ⟨HX, Hx, HG⟩
    unfold k0_t4_body
    iapply (wp_smem_owns Variants.none (c : Thread nD τ) none Set.univ (m := arg15)) $$ HX
    iintro HX
    rw [emb_at1 _ _ (0 + k.val) ((off9_eq L.length hL k).trans (by rw [Nat.zero_add])), hX (0 + k.val) hk']
    iapply (wp_assume_lift Variants.none (c : Thread nD τ) none Set.univ (chk6_of _ (hb _ hk')))
    iapply (wp_load_owns Variants.none (c : Thread nD τ) none Set.univ (m := arg4)) $$ Hx
    iintro Hx
    rw [emb_wBlk w _ _ (nth L (0 + k.val)) (off10_eq _ (hb _ hk'))]
    iapply (wp_load_owns Variants.none (c : Thread nD τ) none Set.univ (m := arg13)) $$ HG
    iintro HG
    rw [emb_full (s := S128x128)]
    iapply (wp_load_owns Variants.none (c : Thread nD τ) none Set.univ (m := arg13)) $$ HG
    iintro HG
    iapply (wp_store_owns Variants.none (c : Thread nD τ) none Set.univ (m := arg13)) $$ HG
    iintro HG
    rw [over_full (s := S128x128), pay87_eq]
    iapply (wp_pure Variants.none (c : Thread nD τ) none Set.univ)
    isplitl [HX]; · iexact HX
    isplitl [Hx]; · iexact Hx
    iexact HG
  · isplitl [HX]; · iexact HX
    isplitl [Hx]; · iexact Hx
    iexact HG
  · iintro %acc ⟨HX, Hx, HG⟩
    have h4 : Scf.trips (k0_t4_loop (wd L.length)).lb (k0_t4_loop (wd L.length)).ub (k0_t4_loop (wd L.length)).st = min L.length 128 := t4_trips L.length hL
    rw [h4]
    iapply HK $$ %acc HX Hx HG

/-- The loop that gathers the outlier columns of the weights, a further chunk. -/
theorem t7_loop (c : Dev nD) (L : List ℕ) (hL : L.length ≤ 4096) (hb : ∀ j, j < L.length → nth L j < 4096)
    (q : PosShare TreeShare) (X : S4096.Idx → BitVec 32) (hX : Listed L X) (w : Vec F S512x4096 .i8) (g : Vec F S128x128 .i32)
    (h3 : k0_cond3 (wd L.length) = 1#1) (n : Fin (k0_t6_loop (wd L.length)).trips)
    (hw9 : k0_chk9 (wd L.length) n (wd L.length)) (hok : (k0_t7_loop (wd L.length) n (wd L.length)).OK)
    {β : Type} (kk : BitVec 32 → Prog (TpuEff nD τ sig (Elt F) Λ₀ .tc) β) (Q : β → sProp (MT nD τ sig Unit (Elt F) ℕ (UR sig nD τ) ℕ)) :
    iprop(owns (c : Thread nD τ) arg15 fullShare X ∗ owns (c : Thread nD τ) arg4 q w ∗ owns (c : Thread nD τ) arg13 fullShare g)
      ⊢ iprop((∀ a, owns (c : Thread nD τ) arg15 fullShare X -∗ owns (c : Thread nD τ) arg4 q w
          -∗ owns (c : Thread nD τ) arg13 fullShare (gK (F := F) w L ((n.val + 1) * 128) g (min (L.length - (n.val + 1) * 128) 128)) -∗ WP (F := F) c (kk a) Q)
        -∗ WP (F := F) c (Scf.Loop.for (k0_t7_loop (wd L.length) n (wd L.length)) hok 0#32
          (k0_t7_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 (wd L.length) h3 n (wd L.length) hw9) >>= kk) Q) := by
  iintro ⟨HX, Hx, HG⟩ HK
  iapply (Scf.wp_for_bind (M := 𝕄) frame (wpE defs₀ Variants.none (c : Thread nD τ) none) Set.univ (k0_t7_loop (wd L.length) n (wd L.length)).lb (k0_t7_loop (wd L.length) n (wd L.length)).ub (k0_t7_loop (wd L.length) n (wd L.length)).st hok 0#32 _
    (fun k acc => iprop(owns (c : Thread nD τ) arg15 fullShare X ∗ owns (c : Thread nD τ) arg4 q w ∗ owns (c : Thread nD τ) arg13 fullShare (gK (F := F) w L ((n.val + 1) * 128) g k))) ?_) $$ [HX Hx HG]
  case _ =>
    intro k acc
    have hk : k.val < min (L.length - (n.val + 1) * 128) 128 := lt_of_lt_of_eq k.isLt (t7_trips L.length hL n)
    have hk' : (n.val + 1) * 128 + k.val < L.length := by omega
    iintro ⟨HX, Hx, HG⟩
    unfold k0_t7_body
    iapply (wp_smem_owns Variants.none (c : Thread nD τ) none Set.univ (m := arg15)) $$ HX
    iintro HX
    rw [emb_at1 _ _ ((n.val + 1) * 128 + k.val) (off13_eq L.length hL n k), hX ((n.val + 1) * 128 + k.val) hk']
    iapply (wp_assume_lift Variants.none (c : Thread nD τ) none Set.univ (chk10_of _ _ (hb _ hk')))
    iapply (wp_load_owns Variants.none (c : Thread nD τ) none Set.univ (m := arg4)) $$ Hx
    iintro Hx
    rw [emb_wBlk w _ _ (nth L ((n.val + 1) * 128 + k.val)) (off14_eq _ (hb _ hk'))]
    iapply (wp_load_owns Variants.none (c : Thread nD τ) none Set.univ (m := arg13)) $$ HG
    iintro HG
    rw [emb_full (s := S128x128)]
    iapply (wp_load_owns Variants.none (c : Thread nD τ) none Set.univ (m := arg13)) $$ HG
    iintro HG
    iapply (wp_store_owns Variants.none (c : Thread nD τ) none Set.univ (m := arg13)) $$ HG
    iintro HG
    rw [over_full (s := S128x128), pay3_eq]
    iapply (wp_pure Variants.none (c : Thread nD τ) none Set.univ)
    isplitl [HX]; · iexact HX
    isplitl [Hx]; · iexact Hx
    iexact HG
  · isplitl [HX]; · iexact HX
    isplitl [Hx]; · iexact Hx
    iexact HG
  · iintro %acc ⟨HX, Hx, HG⟩
    have h4 : Scf.trips (k0_t7_loop (wd L.length) n (wd L.length)).lb (k0_t7_loop (wd L.length) n (wd L.length)).ub (k0_t7_loop (wd L.length) n (wd L.length)).st = min (L.length - (n.val + 1) * 128) 128 := t7_trips L.length hL n
    rw [h4]
    iapply HK $$ %acc HX Hx HG

/-- A remainder loop makes no trip: the program goes on with the carried value. -/
theorem rem_loop (c : Dev nD) {σ : Type} (a x : BitVec 32) (hok : Scf.OK (Scalar.addi a (Scalar.muli (Scalar.divsi x 1#32) 1#32)) (Scalar.addi a x) 1#32) (init : σ)
    (body : Fin (Scf.trips (Scalar.addi a (Scalar.muli (Scalar.divsi x 1#32) 1#32)) (Scalar.addi a x) 1#32) → σ → Prog (TpuEff nD τ sig (Elt F) Λ₀ .tc) σ)
    {β : Type} (kk : σ → Prog (TpuEff nD τ sig (Elt F) Λ₀ .tc) β) (Q : β → sProp (MT nD τ sig Unit (Elt F) ℕ (UR sig nD τ) ℕ)) :
    WP (F := F) c (kk init) Q ⊢ WP (F := F) c (Scf.for (Scalar.addi a (Scalar.muli (Scalar.divsi x 1#32) 1#32)) (Scalar.addi a x) 1#32 hok init body >>= kk) Q := by
  rw [Scf.for_rem_eq a x hok init body]
  exact .rfl

/-- The loop over the further chunks: it adds each chunk's part of the side product. -/
theorem t6_loop (c : Dev nD) (L : List ℕ) (hL : L.length ≤ 4096) (hb : ∀ j, j < L.length → nth L j < 4096)
    (q : PosShare TreeShare) (X : S4096.Idx → BitVec 32) (hX : Listed L X) (w : Vec F S512x4096 .i8) (Xg : Vec F S32x256x128 .bf16)
    (h3 : k0_cond3 (wd L.length) = 1#1)
    (hw8 : k0_chk8 (wd L.length)) (hok : (k0_t6_loop (wd L.length)).OK)
    {β : Type} (kk : FVec F S256x512 .f32 → Prog (TpuEff nD τ sig (Elt F) Λ₀ .tc) β) (Q : β → sProp (MT nD τ sig Unit (Elt F) ℕ (UR sig nD τ) ℕ)) :
    iprop(owns (c : Thread nD τ) arg14 fullShare (fun _ => wd L.length) ∗ owns (c : Thread nD τ) arg15 fullShare X ∗ owns (c : Thread nD τ) arg4 q w
        ∗ owns (c : Thread nD τ) arg13 fullShare (gAt (F := F) w L 0) ∗ owns (c : Thread nD τ) arg12 fullShare Xg)
      ⊢ iprop((owns (c : Thread nD τ) arg14 fullShare (fun _ => wd L.length) -∗ owns (c : Thread nD τ) arg15 fullShare X -∗ owns (c : Thread nD τ) arg4 q w
          -∗ owns (c : Thread nD τ) arg13 fullShare (gAt (F := F) w L (nch L.length - 1)) -∗ owns (c : Thread nD τ) arg12 fullShare Xg
          -∗ WP (F := F) c (kk (side w Xg L (nch L.length - 1))) Q)
        -∗ WP (F := F) c (Scf.Loop.for (k0_t6_loop (wd L.length)) hok (side w Xg L 0)
          (k0_t6_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 (wd L.length) hw8 h3) >>= kk) Q) := by
  iintro ⟨HN, HX, Hx, HG, HA⟩ HK
  iapply (Scf.wp_for_bind (M := 𝕄) frame (wpE defs₀ Variants.none (c : Thread nD τ) none) Set.univ (k0_t6_loop (wd L.length)).lb (k0_t6_loop (wd L.length)).ub (k0_t6_loop (wd L.length)).st hok (side w Xg L 0) _
    (fun k acc => iprop(⌜acc = side w Xg L k⌝ ∗ owns (c : Thread nD τ) arg14 fullShare (fun _ => wd L.length) ∗ owns (c : Thread nD τ) arg15 fullShare X ∗ owns (c : Thread nD τ) arg4 q w
      ∗ owns (c : Thread nD τ) arg13 fullShare (gAt (F := F) w L k) ∗ owns (c : Thread nD τ) arg12 fullShare Xg)) ?_) $$ [HN HX Hx HG HA]
  case _ =>
    intro k acc
    iintro ⟨%ha, HN, HX, Hx, HG, HA⟩
    subst ha
    unfold k0_t6_body
    iapply (wp_smem_owns Variants.none (c : Thread nD τ) none Set.univ (m := arg14)) $$ HN
    iintro HN
    iapply (wp_assume_lift Variants.none (c : Thread nD τ) none Set.univ (chk9_of L.length hL k))
    iapply (t7_loop i arg1 harg1 arg2 harg2 arg3 harg3 arg4 harg4 arg5 harg5 arg6 harg6 arg7 harg7 arg8 harg8 arg9 harg9 arg10 harg10 arg11 harg11 arg12 harg12 arg13 harg13 arg14 harg14 arg15 harg15 c L hL hb q X hX w _ h3 k (chk9_of L.length hL k) _) $$ [HX Hx HG]
    · isplitl [HX]; · iexact HX
      isplitl [Hx]; · iexact Hx
      iexact HG
    iintro %a HX Hx HG
    iapply (rem_loop c)
    iapply (wp_load_owns Variants.none (c : Thread nD τ) none Set.univ (m := arg13)) $$ HG
    iintro HG
    rw [emb_full (s := S128x128)]
    iapply (wp_load_owns Variants.none (c : Thread nD τ) none Set.univ (m := arg12)) $$ HA
    iintro HA
    rw [emb_chunk _ _ _ (k.val + 1) (off17_eq L.length hL k)]
    iapply (wp_pure Variants.none (c : Thread nD τ) none Set.univ)
    isplitr
    · ipureintro; rfl
    isplitl [HN]; · iexact HN
    isplitl [HX]; · iexact HX
    isplitl [Hx]; · iexact Hx
    isplitl [HG]; · iexact HG
    iexact HA
  · isplitr
    · ipureintro; rfl
    isplitl [HN]; · iexact HN
    isplitl [HX]; · iexact HX
    isplitl [Hx]; · iexact Hx
    isplitl [HG]; · iexact HG
    iexact HA
  · iintro %acc ⟨%ha, HN, HX, Hx, HG, HA⟩
    have h4 : Scf.trips (k0_t6_loop (wd L.length)).lb (k0_t6_loop (wd L.length)).ub (k0_t6_loop (wd L.length)).st = nch L.length - 1 := t6_trips L.length hL
    rw [h4] at ha ⊢
    subst ha
    iapply HK $$ HN HX Hx HG HA

end Cert.Kernel.ColLoops
-- ==== Proof.KernelQuant.lean ====
/- The quantisation of the activations, row block by row block, and the pieces of the kernel that do it. -/
module

public import proofs.«01_k».proof.Proof.KernelColLoops

@[expose] public section

set_option maxRecDepth 16384

noncomputable section

namespace Cert.Kernel.Quant

open Cert.Kernel Cert.Kernel.Gen Cert.Kernel.Words Cert.Kernel.Spec Cert.OwnRules Cert.Kernel.ColLoops
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A program followed by another: the first, to the second's weakest precondition. -/
theorem bind_wp (c : Dev nD) {α β : Type} (p : Prog (TpuEff nD τ sig (Elt F) Λ₀ .tc) α) (kk : α → Prog (TpuEff nD τ sig (Elt F) Λ₀ .tc) β)
    (Q : β → sProp (MT nD τ sig Unit (Elt F) ℕ (UR sig nD τ) ℕ)) :
    WP (F := F) c p (fun a => WP (F := F) c (kk a) Q) ⊢ WP (F := F) c (p >>= kk) Q := by
  unfold WP
  rw [Idealize.SL.Sem.wp_bind]

/-- Rows `32 r … 32 r + 31` of the activations. -/
def rows {V : Type} (x : S256x4096.Idx → V) (r : ℕ) : S32x4096.Idx → V :=
  fun y => x (ix2 ⟨(32 * r + (y 0).val) % 256, Nat.mod_lt _ (by decide)⟩ (y 1))

/-- Row blocks `f 0, …, f (k-1)` of 32 rows put over `X`. -/
def glue {V : Type} (f : ℕ → S32x4096.Idx → V) (k : ℕ) (X : S256x4096.Idx → V) : S256x4096.Idx → V :=
  fun y => if (y 0).val < 32 * k then f ((y 0).val / 32) (ix2 ⟨(y 0).val % 32, Nat.mod_lt _ (by decide)⟩ (y 1)) else X y

/-- Row blocks `f 0, …, f (k-1)` of 32 rows put over `X`, 128 columns. -/
def glueS {V : Type} (f : ℕ → S32x128.Idx → V) (k : ℕ) (X : S256x128.Idx → V) : S256x128.Idx → V :=
  fun y => if (y 0).val < 32 * k then f ((y 0).val / 32) (ix2 ⟨(y 0).val % 32, Nat.mod_lt _ (by decide)⟩ (y 1)) else X y

theorem glue_zero {V : Type} (f : ℕ → S32x4096.Idx → V) (X : S256x4096.Idx → V) : glue f 0 X = X := by
  funext y; unfold glue; rw [if_neg (by omega)]
theorem glueS_zero {V : Type} (f : ℕ → S32x128.Idx → V) (X : S256x128.Idx → V) : glueS f 0 X = X := by
  funext y; unfold glueS; rw [if_neg (by omega)]

theorem emb_rows {V : Type} (x : S256x4096.Idx → V) (o : Fin 2 → ℕ) (h : ∀ a, o a + S32x4096.size a ≤ S256x4096.size a) (r : ℕ)
    (ho : o = ![32 * r, 0]) : (fun y => x ((Rect.unit (s := S256x4096) o S32x4096.size h).emb y)) = rows x r := by
  subst ho
  have hn : 32 * r + 32 ≤ 256 := h 0
  funext y
  have hy : (y 0).val < 32 := (y 0).isLt
  unfold rows
  congr 1
  funext a
  match a with
  | ⟨0, _⟩ =>
    refine Fin.ext ?_
    show 32 * r + 1 * (y 0).val = (32 * r + (y 0).val) % 256
    rw [Nat.mod_eq_of_lt (by omega)]; omega
  | ⟨1, _⟩ => refine Fin.ext ?_; show 0 + 1 * (y 1).val = (y 1).val; omega

theorem over_glue {V : Type} (f : ℕ → S32x4096.Idx → V) (k : ℕ) (X : S256x4096.Idx → V) (o : Fin 2 → ℕ)
    (h : ∀ a, o a + S32x4096.size a ≤ S256x4096.size a) (ho : o = ![32 * k, 0]) :
    over (Rect.unit (s := S256x4096) o S32x4096.size h) (f k) (glue f k X) = glue f (k + 1) X := by
  subst ho
  have hn : 32 * k + 32 ≤ 256 := h 0
  funext y
  by_cases hy : 32 * k ≤ (y 0).val ∧ (y 0).val < 32 * k + 32
  · have he : y = (Rect.unit (s := S256x4096) ![32 * k, 0] S32x4096.size h).emb
        (ix2 ⟨(y 0).val % 32, Nat.mod_lt _ (by decide)⟩ (y 1) : S32x4096.Idx) := by
      funext a
      match a with
      | ⟨0, _⟩ => refine Fin.ext ?_; show (y 0).val = 32 * k + 1 * ((y 0).val % 32); omega
      | ⟨1, _⟩ => refine Fin.ext ?_; show (y 1).val = 0 + 1 * (y 1).val; omega
    conv_lhs => rw [he]
    rw [over_emb]
    unfold glue
    rw [if_pos (by omega), show (y 0).val / 32 = k by omega]
  · rw [over_of_not]
    · unfold glue
      by_cases h1 : (y 0).val < 32 * k
      · rw [if_pos h1, if_pos (by omega)]
      · rw [if_neg h1, if_neg (by omega)]
    · intro z hz
      have hz0 : (z 0).val < 32 := (z 0).isLt
      have : 32 * k + 1 * (z 0).val = (y 0).val := by rw [← hz]; rfl
      omega

theorem over_glueS {V : Type} (f : ℕ → S32x128.Idx → V) (k : ℕ) (X : S256x128.Idx → V) (o : Fin 2 → ℕ)
    (h : ∀ a, o a + S32x128.size a ≤ S256x128.size a) (ho : o = ![32 * k, 0]) :
    over (Rect.unit (s := S256x128) o S32x128.size h) (f k) (glueS f k X) = glueS f (k + 1) X := by
  subst ho
  have hn : 32 * k + 32 ≤ 256 := h 0
  funext y
  by_cases hy : 32 * k ≤ (y 0).val ∧ (y 0).val < 32 * k + 32
  · have he : y = (Rect.unit (s := S256x128) ![32 * k, 0] S32x128.size h).emb
        (ix2 ⟨(y 0).val % 32, Nat.mod_lt _ (by decide)⟩ (y 1) : S32x128.Idx) := by
      funext a
      match a with
      | ⟨0, _⟩ => refine Fin.ext ?_; show (y 0).val = 32 * k + 1 * ((y 0).val % 32); omega
      | ⟨1, _⟩ => refine Fin.ext ?_; show (y 1).val = 0 + 1 * (y 1).val; omega
    conv_lhs => rw [he]
    rw [over_emb]
    unfold glueS
    rw [if_pos (by omega), show (y 0).val / 32 = k by omega]
  · rw [over_of_not]
    · unfold glueS
      by_cases h1 : (y 0).val < 32 * k
      · rw [if_pos h1, if_pos (by omega)]
      · rw [if_neg h1, if_neg (by omega)]
    · intro z hz
      have hz0 : (z 0).val < 32 := (z 0).isLt
      have : 32 * k + 1 * (z 0).val = (y 0).val := by rw [← hz]; rfl
      omega

/-- The codes of row block `r`. -/
def codesR (m : Vec F S1x4096 .i32) (x : Vec F S256x4096 .bf16) (r : ℕ) : IVec S32x4096 8 := k0_pay16 m (rows x r)
/-- The codes of row block `r`, as the product reads them. -/
def cbfR (m : Vec F S1x4096 .i32) (x : Vec F S256x4096 .bf16) (r : ℕ) : FVec F S32x4096 .bf16 := k0_pay17 m (rows x r)
/-- The scales of row block `r`. -/
def scalesR (m : Vec F S1x4096 .i32) (x : Vec F S256x4096 .bf16) (r : ℕ) : FVec F S32x128 .f32 := k0_pay18 m (rows x r)
/-- The running maximum of each column through row block `r`. -/
def cm (x : Vec F S256x4096 .bf16) : ℕ → FVec F S1x4096 .f32
  | 0 => k0_pay12 (rows x 0)
  | r + 1 => k0_pay20 (cm x r) (rows x (r + 1))

section Payloads
variable (m : Vec F S1x4096 .i32) (x : Vec F S256x4096 .bf16)
theorem codesR_0 : k0_pay16 m (rows x 0) = codesR m x 0 := rfl
theorem cbfR_0 : k0_pay17 m (rows x 0) = cbfR m x 0 := rfl
theorem scalesR_0 : k0_pay18 m (rows x 0) = scalesR m x 0 := rfl
theorem cm_0 : k0_pay12 (rows x 0) = cm x 0 := rfl
theorem codesR_1 : k0_pay24 (k0_pay10 m) (rows x 1) = codesR m x 1 := rfl
theorem cbfR_1 : k0_pay25 (k0_pay10 m) (rows x 1) = cbfR m x 1 := rfl
theorem scalesR_1 : k0_pay26 (k0_pay10 m) (rows x 1) = scalesR m x 1 := rfl
theorem cm_1 : k0_pay20 (cm x 0) (rows x 1) = cm x 1 := rfl
theorem codesR_2 : k0_pay32 (k0_pay10 m) (rows x 2) = codesR m x 2 := rfl
theorem cbfR_2 : k0_pay33 (k0_pay10 m) (rows x 2) = cbfR m x 2 := rfl
theorem scalesR_2 : k0_pay34 (k0_pay10 m) (rows x 2) = scalesR m x 2 := rfl
theorem cm_2 : k0_pay28 (cm x 1) (rows x 2) = cm x 2 := rfl
theorem codesR_3 : k0_pay40 (k0_pay10 m) (k0_pay35 (rows x 3)) = codesR m x 3 := rfl
theorem cbfR_3 : k0_pay41 (k0_pay10 m) (k0_pay35 (rows x 3)) = cbfR m x 3 := rfl
theorem scalesR_3 : k0_pay42 (k0_pay10 m) (k0_pay35 (rows x 3)) = scalesR m x 3 := rfl
theorem codesR_4 : k0_pay48 (k0_pay10 m) (k0_pay43 (rows x 4)) (Scalar.ofBits .f32 0x00000000#32) = codesR m x 4 := rfl
theorem cbfR_4 : k0_pay49 (k0_pay10 m) (k0_pay43 (rows x 4)) (Scalar.ofBits .f32 0x00000000#32) = cbfR m x 4 := rfl
theorem scalesR_4 : k0_pay50 (k0_pay10 m) (k0_pay43 (rows x 4)) (Scalar.ofBits .f32 0x00000000#32) = scalesR m x 4 := rfl
theorem cm_4 : k0_pay44 (cm x 2) (k0_pay36 (rows x 3)) (rows x 4) = cm x 4 := rfl
theorem codesR_5 : k0_pay57 (k0_pay53 (k0_pay10 m) (rows x 5)) (k0_pay54 (k0_pay10 m) (rows x 5)) = codesR m x 5 := rfl
theorem cbfR_5 : k0_pay58 (k0_pay53 (k0_pay10 m) (rows x 5)) (k0_pay54 (k0_pay10 m) (rows x 5)) = cbfR m x 5 := rfl
theorem scalesR_5 : k0_pay59 (k0_pay54 (k0_pay10 m) (rows x 5)) = scalesR m x 5 := rfl
theorem cm_5 : k0_pay52 (cm x 4) (rows x 5) = cm x 5 := rfl
theorem codesR_6 : k0_pay67 (k0_pay62 (k0_pay10 m) (rows x 6)) (k0_pay63 (k0_pay10 m) (rows x 6)) k0_pay64 = codesR m x 6 := rfl
theorem cbfR_6 : k0_pay68 (k0_pay62 (k0_pay10 m) (rows x 6)) (k0_pay63 (k0_pay10 m) (rows x 6)) k0_pay64 = cbfR m x 6 := rfl
theorem scalesR_6 : k0_pay69 (k0_pay63 (k0_pay10 m) (rows x 6)) k0_pay64 = scalesR m x 6 := rfl
theorem cm_6 : k0_pay61 (cm x 5) (rows x 6) = cm x 6 := rfl
theorem codesR_7 : k0_pay78 (k0_pay72 (k0_pay10 m) (rows x 7)) (k0_pay74 (k0_pay10 m) (rows x 7)) (k0_pay75 (k0_pay10 m) (rows x 7)) (Scalar.ofBits .f32 0x3F800000#32) = codesR m x 7 := rfl
theorem cbfR_7 : k0_pay79 (k0_pay72 (k0_pay10 m) (rows x 7)) (k0_pay74 (k0_pay10 m) (rows x 7)) (k0_pay75 (k0_pay10 m) (rows x 7)) (Scalar.ofBits .f32 0x3F800000#32) = cbfR m x 7 := rfl
theorem scalesR_7 : k0_pay80 (k0_pay74 (k0_pay10 m) (rows x 7)) (k0_pay75 (k0_pay10 m) (rows x 7)) (Scalar.ofBits .f32 0x3F800000#32) = scalesR m x 7 := rfl
theorem cm_7 : k0_pay71 (cm x 6) (rows x 7) = cm x 7 := rfl

end Payloads

variable (i : grid0.Coords)
  (arg1 : Memref sig .tc .smem S4096 .i32) (harg1 : arg1.IsWhole)
  (arg2 : Memref sig .tc .vmem S256x4096 .bf16) (harg2 : arg2.IsWhole)
  (arg3 : Memref sig .tc .vmem S1x4096 .i32) (harg3 : arg3.IsWhole)
  (arg4 : Memref sig .tc .vmem S512x4096 .i8) (harg4 : arg4.IsWhole)
  (arg5 : Memref sig .tc .vmem S1x512 .f32) (harg5 : arg5.IsWhole)
  (arg6 : Memref sig .tc .vmem S256x512 .bf16) (harg6 : arg6.IsWhole)
  (arg7 : Memref sig .tc .vmem S1x4096 .f32) (harg7 : arg7.IsWhole)
  (arg8 : Memref sig .tc .vmem S1x4096 .i32) (harg8 : arg8.IsWhole)
  (arg9 : Memref sig .tc .vmem S256x4096 .i8) (harg9 : arg9.IsWhole)
  (arg10 : Memref sig .tc .vmem S256x128 .f32) (harg10 : arg10.IsWhole)
  (arg11 : Memref sig .tc .vmem S256x4096 .bf16) (harg11 : arg11.IsWhole)
  (arg12 : Memref sig .tc .vmem S32x256x128 .bf16) (harg12 : arg12.IsWhole)
  (arg13 : Memref sig .tc .vmem S128x128 .i32) (harg13 : arg13.IsWhole)
  (arg14 : Memref sig .tc .smem S1 .i32) (harg14 : arg14.IsWhole)
  (arg15 : Memref sig .tc .smem S4096 .i32) (harg15 : arg15.IsWhole)

/-- Piece 1 of the quantisation of the row blocks. -/
theorem part1_wp (c : Dev nD) (q3 q : PosShare TreeShare) (m : Vec F S1x4096 .i32) (x : Vec F S256x4096 .bf16)
    (X9 : Vec F S256x4096 .i8) (X11 : Vec F S256x4096 .bf16) (X10 : Vec F S256x128 .f32)
    {β : Type} (kk : (Σ' (v48 : IVec S1x4096 1) (v56 : FVec F S1x4096 .f32), FVec F S32x128 .f32) → Prog (TpuEff nD τ sig (Elt F) Λ₀ .tc) β) (Q : β → sProp (MT nD τ sig Unit (Elt F) ℕ (UR sig nD τ) ℕ)) :
    iprop(owns (c : Thread nD τ) arg3 q3 m ∗ owns (c : Thread nD τ) arg2 q x ∗ owns (c : Thread nD τ) arg9 fullShare (glue (codesR m x) 0 X9) ∗ owns (c : Thread nD τ) arg11 fullShare (glue (cbfR m x) 0 X11) ∗ owns (c : Thread nD τ) arg10 fullShare (glueS (scalesR m x) 0 X10))
      ⊢ iprop((owns (c : Thread nD τ) arg3 q3 m -∗ owns (c : Thread nD τ) arg2 q x -∗ owns (c : Thread nD τ) arg9 fullShare (glue (codesR m x) 1 X9) -∗ owns (c : Thread nD τ) arg11 fullShare (glue (cbfR m x) 1 X11) -∗ owns (c : Thread nD τ) arg10 fullShare (glueS (scalesR m x) 0 X10) -∗ WP (F := F) c (kk ⟨k0_pay10 m, cm x 0, k0_pay18 m (rows x 0)⟩) Q)
        -∗ WP (F := F) c (k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15  >>= kk) Q) := by
  iintro ⟨H3, H2, H9, H11, H10⟩ HK
  rw [k0_part1_eq_skeleton]
  unfold k0_part1_skel
  iapply (bind_wp c)
  iapply (wp_load_owns Variants.none (c : Thread nD τ) none Set.univ (m := arg3)) $$ H3
  iintro H3
  rw [emb_full (s := S1x4096)]
  iapply (wp_load_owns Variants.none (c : Thread nD τ) none Set.univ (m := arg2)) $$ H2
  iintro H2
  rw [emb_rows x _ _ 0 rfl]
  iapply (wp_load_owns Variants.none (c : Thread nD τ) none Set.univ (m := arg9)) $$ H9
  iintro H9
  iapply (wp_store_owns Variants.none (c : Thread nD τ) none Set.univ (m := arg9)) $$ H9
  iintro H9
  rw [codesR_0, over_glue (codesR m x) 0 _ _ _ rfl]
  iapply (wp_load_owns Variants.none (c : Thread nD τ) none Set.univ (m := arg11)) $$ H11
  iintro H11
  iapply (wp_store_owns Variants.none (c : Thread nD τ) none Set.univ (m := arg11)) $$ H11
  iintro H11
  rw [cbfR_0, over_glue (cbfR m x) 0 _ _ _ rfl]
  iapply (wp_pure Variants.none (c : Thread nD τ) none Set.univ)
  rw [cm_0]
  iapply HK $$ H3 H2 H9 H11 H10

/-- Piece 2 of the quantisation of the row blocks. -/
theorem part2_wp (c : Dev nD) (q3 q : PosShare TreeShare) (m : Vec F S1x4096 .i32) (x : Vec F S256x4096 .bf16)
    (X9 : Vec F S256x4096 .i8) (X11 : Vec F S256x4096 .bf16) (X10 : Vec F S256x128 .f32)
    {β : Type} (kk : (FVec F S1x4096 .f32) → Prog (TpuEff nD τ sig (Elt F) Λ₀ .tc) β) (Q : β → sProp (MT nD τ sig Unit (Elt F) ℕ (UR sig nD τ) ℕ)) :
    iprop(owns (c : Thread nD τ) arg2 q x ∗ owns (c : Thread nD τ) arg9 fullShare (glue (codesR m x) 1 X9) ∗ owns (c : Thread nD τ) arg11 fullShare (glue (cbfR m x) 1 X11) ∗ owns (c : Thread nD τ) arg10 fullShare (glueS (scalesR m x) 0 X10))
      ⊢ iprop((owns (c : Thread nD τ) arg2 q x -∗ owns (c : Thread nD τ) arg9 fullShare (glue (codesR m x) 2 X9) -∗ owns (c : Thread nD τ) arg11 fullShare (glue (cbfR m x) 2 X11) -∗ owns (c : Thread nD τ) arg10 fullShare (glueS (scalesR m x) 2 X10) -∗ WP (F := F) c (kk (cm x 1)) Q)
        -∗ WP (F := F) c (k0_part2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 (k0_pay10 m) (cm x 0) (k0_pay18 m (rows x 0)) >>= kk) Q) := by
  iintro ⟨H2, H9, H11, H10⟩ HK
  rw [k0_part2_eq_skeleton]
  unfold k0_part2_skel
  iapply (bind_wp c)
  iapply (wp_load_owns Variants.none (c : Thread nD τ) none Set.univ (m := arg10)) $$ H10
  iintro H10
  iapply (wp_store_owns Variants.none (c : Thread nD τ) none Set.univ (m := arg10)) $$ H10
  iintro H10
  rw [scalesR_0, over_glueS (scalesR m x) 0 _ _ _ rfl]
  iapply (wp_load_owns Variants.none (c : Thread nD τ) none Set.univ (m := arg2)) $$ H2
  iintro H2
  rw [emb_rows x _ _ 1 rfl]
  iapply (wp_load_owns Variants.none (c : Thread nD τ) none Set.univ (m := arg9)) $$ H9
  iintro H9
  iapply (wp_store_owns Variants.none (c : Thread nD τ) none Set.univ (m := arg9)) $$ H9
  iintro H9
  rw [codesR_1, over_glue (codesR m x) 1 _ _ _ rfl]
  iapply (wp_load_owns Variants.none (c : Thread nD τ) none Set.univ (m := arg11)) $$ H11
  iintro H11
  iapply (wp_store_owns Variants.none (c : Thread nD τ) none Set.univ (m := arg11)) $$ H11
  iintro H11
  rw [cbfR_1, over_glue (cbfR m x) 1 _ _ _ rfl]
  iapply (wp_load_owns Variants.none (c : Thread nD τ) none Set.univ (m := arg10)) $$ H10
  iintro H10
  iapply (wp_store_owns Variants.none (c : Thread nD τ) none Set.univ (m := arg10)) $$ H10
  iintro H10
  rw [scalesR_1, over_glueS (scalesR m x) 1 _ _ _ rfl]
  iapply (wp_pure Variants.none (c : Thread nD τ) none Set.univ)
  rw [cm_1]
  iapply HK $$ H2 H9 H11 H10

/-- Piece 3 of the quantisation of the row blocks. -/
theorem part3_wp (c : Dev nD) (q3 q : PosShare TreeShare) (m : Vec F S1x4096 .i32) (x : Vec F S256x4096 .bf16)
    (X9 : Vec F S256x4096 .i8) (X11 : Vec F S256x4096 .bf16) (X10 : Vec F S256x128 .f32)
    {β : Type} (kk : (Σ' (v128 : FVec F S1x4096 .f32) (v160 : FVec F S32x4096 .f32), FVec F S32x4096 .f32) → Prog (TpuEff nD τ sig (Elt F) Λ₀ .tc) β) (Q : β → sProp (MT nD τ sig Unit (Elt F) ℕ (UR sig nD τ) ℕ)) :
    iprop(owns (c : Thread nD τ) arg2 q x ∗ owns (c : Thread nD τ) arg9 fullShare (glue (codesR m x) 2 X9) ∗ owns (c : Thread nD τ) arg11 fullShare (glue (cbfR m x) 2 X11) ∗ owns (c : Thread nD τ) arg10 fullShare (glueS (scalesR m x) 2 X10))
      ⊢ iprop((owns (c : Thread nD τ) arg2 q x -∗ owns (c : Thread nD τ) arg9 fullShare (glue (codesR m x) 3 X9) -∗ owns (c : Thread nD τ) arg11 fullShare (glue (cbfR m x) 3 X11) -∗ owns (c : Thread nD τ) arg10 fullShare (glueS (scalesR m x) 3 X10) -∗ WP (F := F) c (kk ⟨cm x 2, k0_pay35 (rows x 3), k0_pay36 (rows x 3)⟩) Q)
        -∗ WP (F := F) c (k0_part3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 (k0_pay10 m) (cm x 1) >>= kk) Q) := by
  iintro ⟨H2, H9, H11, H10⟩ HK
  rw [k0_part3_eq_skeleton]
  unfold k0_part3_skel
  iapply (bind_wp c)
  iapply (wp_load_owns Variants.none (c : Thread nD τ) none Set.univ (m := arg2)) $$ H2
  iintro H2
  rw [emb_rows x _ _ 2 rfl]
  iapply (wp_load_owns Variants.none (c : Thread nD τ) none Set.univ (m := arg9)) $$ H9
  iintro H9
  iapply (wp_store_owns Variants.none (c : Thread nD τ) none Set.univ (m := arg9)) $$ H9
  iintro H9
  rw [codesR_2, over_glue (codesR m x) 2 _ _ _ rfl]
  iapply (wp_load_owns Variants.none (c : Thread nD τ) none Set.univ (m := arg11)) $$ H11
  iintro H11
  iapply (wp_store_owns Variants.none (c : Thread nD τ) none Set.univ (m := arg11)) $$ H11
  iintro H11
  rw [cbfR_2, over_glue (cbfR m x) 2 _ _ _ rfl]
  iapply (wp_load_owns Variants.none (c : Thread nD τ) none Set.univ (m := arg10)) $$ H10
  iintro H10
  iapply (wp_store_owns Variants.none (c : Thread nD τ) none Set.univ (m := arg10)) $$ H10
  iintro H10
  rw [scalesR_2, over_glueS (scalesR m x) 2 _ _ _ rfl]
  iapply (wp_load_owns Variants.none (c : Thread nD τ) none Set.univ (m := arg2)) $$ H2
  iintro H2
  rw [emb_rows x _ _ 3 rfl]
  iapply (wp_pure Variants.none (c : Thread nD τ) none Set.univ)
  rw [cm_2]
  iapply HK $$ H2 H9 H11 H10

/-- Piece 4 of the quantisation of the row blocks. -/
theorem part4_wp (c : Dev nD) (q3 q : PosShare TreeShare) (m : Vec F S1x4096 .i32) (x : Vec F S256x4096 .bf16)
    (X9 : Vec F S256x4096 .i8) (X11 : Vec F S256x4096 .bf16) (X10 : Vec F S256x128 .f32)
    {β : Type} (kk : (Σ' (v196 : FVec F S32x4096 .f32) (v200 : FVec F S1x4096 .f32), F .f32) → Prog (TpuEff nD τ sig (Elt F) Λ₀ .tc) β) (Q : β → sProp (MT nD τ sig Unit (Elt F) ℕ (UR sig nD τ) ℕ)) :
    iprop(owns (c : Thread nD τ) arg2 q x ∗ owns (c : Thread nD τ) arg9 fullShare (glue (codesR m x) 3 X9) ∗ owns (c : Thread nD τ) arg11 fullShare (glue (cbfR m x) 3 X11) ∗ owns (c : Thread nD τ) arg10 fullShare (glueS (scalesR m x) 3 X10))
      ⊢ iprop((owns (c : Thread nD τ) arg2 q x -∗ owns (c : Thread nD τ) arg9 fullShare (glue (codesR m x) 4 X9) -∗ owns (c : Thread nD τ) arg11 fullShare (glue (cbfR m x) 4 X11) -∗ owns (c : Thread nD τ) arg10 fullShare (glueS (scalesR m x) 4 X10) -∗ WP (F := F) c (kk ⟨k0_pay43 (rows x 4), cm x 4, Scalar.ofBits .f32 0x00000000#32⟩) Q)
        -∗ WP (F := F) c (k0_part4 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 (k0_pay10 m) (cm x 2) (k0_pay35 (rows x 3)) (k0_pay36 (rows x 3)) >>= kk) Q) := by
  iintro ⟨H2, H9, H11, H10⟩ HK
  rw [k0_part4_eq_skeleton]
  unfold k0_part4_skel
  iapply (bind_wp c)
  iapply (wp_load_owns Variants.none (c : Thread nD τ) none Set.univ (m := arg9)) $$ H9
  iintro H9
  iapply (wp_store_owns Variants.none (c : Thread nD τ) none Set.univ (m := arg9)) $$ H9
  iintro H9
  rw [codesR_3, over_glue (codesR m x) 3 _ _ _ rfl]
  iapply (wp_load_owns Variants.none (c : Thread nD τ) none Set.univ (m := arg11)) $$ H11
  iintro H11
  iapply (wp_store_owns Variants.none (c : Thread nD τ) none Set.univ (m := arg11)) $$ H11
  iintro H11
  rw [cbfR_3, over_glue (cbfR m x) 3 _ _ _ rfl]
  iapply (wp_load_owns Variants.none (c : Thread nD τ) none Set.univ (m := arg10)) $$ H10
  iintro H10
  iapply (wp_store_owns Variants.none (c : Thread nD τ) none Set.univ (m := arg10)) $$ H10
  iintro H10
  rw [scalesR_3, over_glueS (scalesR m x) 3 _ _ _ rfl]
  iapply (wp_load_owns Variants.none (c : Thread nD τ) none Set.univ (m := arg2)) $$ H2
  iintro H2
  rw [emb_rows x _ _ 4 rfl]
  iapply (wp_pure Variants.none (c : Thread nD τ) none Set.univ)
  rw [cm_4]
  iapply HK $$ H2 H9 H11 H10

/-- Piece 5 of the quantisation of the row blocks. -/
theorem part5_wp (c : Dev nD) (q3 q : PosShare TreeShare) (m : Vec F S1x4096 .i32) (x : Vec F S256x4096 .bf16)
    (X9 : Vec F S256x4096 .i8) (X11 : Vec F S256x4096 .bf16) (X10 : Vec F S256x128 .f32)
    {β : Type} (kk : (Σ' (v236 : FVec F S1x4096 .f32) (v240 : FVec F S32x4096 .f32), FVec F S32x4096 .f32) → Prog (TpuEff nD τ sig (Elt F) Λ₀ .tc) β) (Q : β → sProp (MT nD τ sig Unit (Elt F) ℕ (UR sig nD τ) ℕ)) :
    iprop(owns (c : Thread nD τ) arg2 q x ∗ owns (c : Thread nD τ) arg9 fullShare (glue (codesR m x) 4 X9) ∗ owns (c : Thread nD τ) arg11 fullShare (glue (cbfR m x) 4 X11) ∗ owns (c : Thread nD τ) arg10 fullShare (glueS (scalesR m x) 4 X10))
      ⊢ iprop((owns (c : Thread nD τ) arg2 q x -∗ owns (c : Thread nD τ) arg9 fullShare (glue (codesR m x) 5 X9) -∗ owns (c : Thread nD τ) arg11 fullShare (glue (cbfR m x) 5 X11) -∗ owns (c : Thread nD τ) arg10 fullShare (glueS (scalesR m x) 5 X10) -∗ WP (F := F) c (kk ⟨cm x 5, k0_pay53 (k0_pay10 m) (rows x 5), k0_pay54 (k0_pay10 m) (rows x 5)⟩) Q)
        -∗ WP (F := F) c (k0_part5 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 (k0_pay10 m) (k0_pay43 (rows x 4)) (cm x 4) (Scalar.ofBits .f32 0x00000000#32) >>= kk) Q) := by
  iintro ⟨H2, H9, H11, H10⟩ HK
  rw [k0_part5_eq_skeleton]
  unfold k0_part5_skel
  iapply (bind_wp c)
  iapply (wp_load_owns Variants.none (c : Thread nD τ) none Set.univ (m := arg9)) $$ H9
  iintro H9
  iapply (wp_store_owns Variants.none (c : Thread nD τ) none Set.univ (m := arg9)) $$ H9
  iintro H9
  rw [codesR_4, over_glue (codesR m x) 4 _ _ _ rfl]
  iapply (wp_load_owns Variants.none (c : Thread nD τ) none Set.univ (m := arg11)) $$ H11
  iintro H11
  iapply (wp_store_owns Variants.none (c : Thread nD τ) none Set.univ (m := arg11)) $$ H11
  iintro H11
  rw [cbfR_4, over_glue (cbfR m x) 4 _ _ _ rfl]
  iapply (wp_load_owns Variants.none (c : Thread nD τ) none Set.univ (m := arg10)) $$ H10
  iintro H10
  iapply (wp_store_owns Variants.none (c : Thread nD τ) none Set.univ (m := arg10)) $$ H10
  iintro H10
  rw [scalesR_4, over_glueS (scalesR m x) 4 _ _ _ rfl]
  iapply (wp_load_owns Variants.none (c : Thread nD τ) none Set.univ (m := arg2)) $$ H2
  iintro H2
  rw [emb_rows x _ _ 5 rfl]
  iapply (wp_pure Variants.none (c : Thread nD τ) none Set.univ)
  rw [cm_5]
  iapply HK $$ H2 H9 H11 H10

/-- Piece 6 of the quantisation of the row blocks. -/
theorem part6_wp (c : Dev nD) (q3 q : PosShare TreeShare) (m : Vec F S1x4096 .i32) (x : Vec F S256x4096 .bf16)
    (X9 : Vec F S256x4096 .i8) (X11 : Vec F S256x4096 .bf16) (X10 : Vec F S256x128 .f32)
    {β : Type} (kk : (Σ' (v272 : FVec F S1x4096 .f32) (v276 : FVec F S32x4096 .f32) (v279 : FVec F S32x1 .f32), FVec F S32x1 .f32) → Prog (TpuEff nD τ sig (Elt F) Λ₀ .tc) β) (Q : β → sProp (MT nD τ sig Unit (Elt F) ℕ (UR sig nD τ) ℕ)) :
    iprop(owns (c : Thread nD τ) arg2 q x ∗ owns (c : Thread nD τ) arg9 fullShare (glue (codesR m x) 5 X9) ∗ owns (c : Thread nD τ) arg11 fullShare (glue (cbfR m x) 5 X11) ∗ owns (c : Thread nD τ) arg10 fullShare (glueS (scalesR m x) 5 X10))
      ⊢ iprop((owns (c : Thread nD τ) arg2 q x -∗ owns (c : Thread nD τ) arg9 fullShare (glue (codesR m x) 6 X9) -∗ owns (c : Thread nD τ) arg11 fullShare (glue (cbfR m x) 6 X11) -∗ owns (c : Thread nD τ) arg10 fullShare (glueS (scalesR m x) 6 X10) -∗ WP (F := F) c (kk ⟨cm x 6, k0_pay62 (k0_pay10 m) (rows x 6), k0_pay63 (k0_pay10 m) (rows x 6), k0_pay64 (F := F)⟩) Q)
        -∗ WP (F := F) c (k0_part6 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 (k0_pay10 m) (cm x 5) (k0_pay53 (k0_pay10 m) (rows x 5)) (k0_pay54 (k0_pay10 m) (rows x 5)) >>= kk) Q) := by
  iintro ⟨H2, H9, H11, H10⟩ HK
  rw [k0_part6_eq_skeleton]
  unfold k0_part6_skel
  iapply (bind_wp c)
  iapply (wp_load_owns Variants.none (c : Thread nD τ) none Set.univ (m := arg9)) $$ H9
  iintro H9
  iapply (wp_store_owns Variants.none (c : Thread nD τ) none Set.univ (m := arg9)) $$ H9
  iintro H9
  rw [codesR_5, over_glue (codesR m x) 5 _ _ _ rfl]
  iapply (wp_load_owns Variants.none (c : Thread nD τ) none Set.univ (m := arg11)) $$ H11
  iintro H11
  iapply (wp_store_owns Variants.none (c : Thread nD τ) none Set.univ (m := arg11)) $$ H11
  iintro H11
  rw [cbfR_5, over_glue (cbfR m x) 5 _ _ _ rfl]
  iapply (wp_load_owns Variants.none (c : Thread nD τ) none Set.univ (m := arg10)) $$ H10
  iintro H10
  iapply (wp_store_owns Variants.none (c : Thread nD τ) none Set.univ (m := arg10)) $$ H10
  iintro H10
  rw [scalesR_5, over_glueS (scalesR m x) 5 _ _ _ rfl]
  iapply (wp_load_owns Variants.none (c : Thread nD τ) none Set.univ (m := arg2)) $$ H2
  iintro H2
  rw [emb_rows x _ _ 6 rfl]
  iapply (wp_pure Variants.none (c : Thread nD τ) none Set.univ)
  rw [cm_6]
  iapply HK $$ H2 H9 H11 H10

/-- Piece 7 of the quantisation of the row blocks. -/
theorem part7_wp (c : Dev nD) (q3 q : PosShare TreeShare) (m : Vec F S1x4096 .i32) (x : Vec F S256x4096 .bf16)
    (X9 : Vec F S256x4096 .i8) (X11 : Vec F S256x4096 .bf16) (X10 : Vec F S256x128 .f32)
    {β : Type} (kk : (Σ' (v308 : FVec F S1x4096 .f32) (v312 : FVec F S32x4096 .f32) (v317 : IVec S32x1 1) (v319 : FVec F S32x1 .f32), F .f32) → Prog (TpuEff nD τ sig (Elt F) Λ₀ .tc) β) (Q : β → sProp (MT nD τ sig Unit (Elt F) ℕ (UR sig nD τ) ℕ)) :
    iprop(owns (c : Thread nD τ) arg2 q x ∗ owns (c : Thread nD τ) arg9 fullShare (glue (codesR m x) 6 X9) ∗ owns (c : Thread nD τ) arg11 fullShare (glue (cbfR m x) 6 X11) ∗ owns (c : Thread nD τ) arg10 fullShare (glueS (scalesR m x) 6 X10))
      ⊢ iprop((owns (c : Thread nD τ) arg2 q x -∗ owns (c : Thread nD τ) arg9 fullShare (glue (codesR m x) 7 X9) -∗ owns (c : Thread nD τ) arg11 fullShare (glue (cbfR m x) 7 X11) -∗ owns (c : Thread nD τ) arg10 fullShare (glueS (scalesR m x) 7 X10) -∗ WP (F := F) c (kk ⟨cm x 7, k0_pay72 (k0_pay10 m) (rows x 7), k0_pay74 (k0_pay10 m) (rows x 7), k0_pay75 (k0_pay10 m) (rows x 7), Scalar.ofBits .f32 0x3F800000#32⟩) Q)
        -∗ WP (F := F) c (k0_part7 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 (k0_pay10 m) (cm x 6) (k0_pay62 (k0_pay10 m) (rows x 6)) (k0_pay63 (k0_pay10 m) (rows x 6)) (k0_pay64 (F := F)) >>= kk) Q) := by
  iintro ⟨H2, H9, H11, H10⟩ HK
  rw [k0_part7_eq_skeleton]
  unfold k0_part7_skel
  iapply (bind_wp c)
  iapply (wp_load_owns Variants.none (c : Thread nD τ) none Set.univ (m := arg9)) $$ H9
  iintro H9
  iapply (wp_store_owns Variants.none (c : Thread nD τ) none Set.univ (m := arg9)) $$ H9
  iintro H9
  rw [codesR_6, over_glue (codesR m x) 6 _ _ _ rfl]
  iapply (wp_load_owns Variants.none (c : Thread nD τ) none Set.univ (m := arg11)) $$ H11
  iintro H11
  iapply (wp_store_owns Variants.none (c : Thread nD τ) none Set.univ (m := arg11)) $$ H11
  iintro H11
  rw [cbfR_6, over_glue (cbfR m x) 6 _ _ _ rfl]
  iapply (wp_load_owns Variants.none (c : Thread nD τ) none Set.univ (m := arg10)) $$ H10
  iintro H10
  iapply (wp_store_owns Variants.none (c : Thread nD τ) none Set.univ (m := arg10)) $$ H10
  iintro H10
  rw [scalesR_6, over_glueS (scalesR m x) 6 _ _ _ rfl]
  iapply (wp_load_owns Variants.none (c : Thread nD τ) none Set.univ (m := arg2)) $$ H2
  iintro H2
  rw [emb_rows x _ _ 7 rfl]
  iapply (wp_pure Variants.none (c : Thread nD τ) none Set.univ)
  rw [cm_7]
  iapply HK $$ H2 H9 H11 H10

end Cert.Kernel.Quant
-- ==== Proof.KernelBody.lean ====
/- The kernel's body at a grid point: what it holds before, what it leaves. -/
module

public import proofs.«01_k».proof.Proof.KernelQuant

@[expose] public section

set_option maxRecDepth 16384

noncomputable section

namespace Cert.Kernel.Body

open Cert.Kernel Cert.Kernel.Gen Cert.Kernel.Words Cert.Kernel.Spec Cert.OwnRules Cert.Kernel.ColLoops Cert.Kernel.Quant
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The codes of the activations. -/
def codes (m : Vec F S1x4096 .i32) (x : Vec F S256x4096 .bf16) : Vec F S256x4096 .i8 :=
  fun y => codesR m x ((y 0).val / 32) (ix2 ⟨(y 0).val % 32, Nat.mod_lt _ (by decide)⟩ (y 1))
/-- The codes of the activations, as the product reads them. -/
def cbf (m : Vec F S1x4096 .i32) (x : Vec F S256x4096 .bf16) : Vec F S256x4096 .bf16 :=
  fun y => cbfR m x ((y 0).val / 32) (ix2 ⟨(y 0).val % 32, Nat.mod_lt _ (by decide)⟩ (y 1))
/-- The scales of the rows, along 128 lanes. -/
def scales (m : Vec F S1x4096 .i32) (x : Vec F S256x4096 .bf16) : Vec F S256x128 .f32 :=
  fun y => scalesR m x ((y 0).val / 32) (ix2 ⟨(y 0).val % 32, Nat.mod_lt _ (by decide)⟩ (y 1))
/-- The gathered outlier columns of the activations. -/
def xg (x : Vec F S256x4096 .bf16) (L : List ℕ) : Vec F S32x256x128 .bf16 := xgK x L L.length
/-- The first lane of the scales. -/
def lane0 {V : Type} (s : S256x128.Idx → V) : S256x1.Idx → V := fun y => s (ix2 (y 0) ⟨(y 1).val, lt_of_lt_of_le (y 1).isLt (show 1 ≤ 128 by decide)⟩)
/-- One block of the result: the product of the codes, times the rows' scales, plus the side product of the outlier
    columns, times the columns' scales. -/
def yBlk (B : Vec F S256x4096 .bf16) (S : Vec F S256x128 .f32) (A : Vec F S32x256x128 .bf16) (L : List ℕ) (w : Vec F S512x4096 .i8) (ws : Vec F S1x512 .f32) : Vec F S256x512 .bf16 :=
  k0_pay2 (k0_pay85 B w) (side w A L (nch L.length - 1)) (lane0 S) ws

theorem glue_eight {V : Type} (f : ℕ → S32x4096.Idx → V) (X : S256x4096.Idx → V) :
    glue f 8 X = fun y => f ((y 0).val / 32) (ix2 ⟨(y 0).val % 32, Nat.mod_lt _ (by decide)⟩ (y 1)) := by
  funext y; unfold glue; rw [if_pos (show (y 0).val < 32 * 8 from (y 0).isLt)]
theorem glueS_eight {V : Type} (f : ℕ → S32x128.Idx → V) (X : S256x128.Idx → V) :
    glueS f 8 X = fun y => f ((y 0).val / 32) (ix2 ⟨(y 0).val % 32, Nat.mod_lt _ (by decide)⟩ (y 1)) := by
  funext y; unfold glueS; rw [if_pos (show (y 0).val < 32 * 8 from (y 0).isLt)]

theorem glue_codes (m : Vec F S1x4096 .i32) (x : Vec F S256x4096 .bf16) (X : Vec F S256x4096 .i8) : glue (codesR m x) (7 + 1) X = codes m x := glue_eight _ _
theorem glue_cbf (m : Vec F S1x4096 .i32) (x : Vec F S256x4096 .bf16) (X : Vec F S256x4096 .bf16) : glue (cbfR m x) (7 + 1) X = cbf m x := glue_eight _ _
theorem glue_scales (m : Vec F S1x4096 .i32) (x : Vec F S256x4096 .bf16) (X : Vec F S256x128 .f32) : glueS (scalesR m x) (7 + 1) X = scales m x := glueS_eight _ _
theorem gAt_start (w : Vec F S512x4096 .i8) (L : List ℕ) : gK (F := F) w L 0 k0_pay86 (min L.length 128) = gAt (F := F) w L 0 := rfl
theorem xg_def (x : Vec F S256x4096 .bf16) (L : List ℕ) : xgK x L L.length = xg x L := rfl

theorem yBlk_def (B : Vec F S256x4096 .bf16) (S : Vec F S256x128 .f32) (A : Vec F S32x256x128 .bf16) (L : List ℕ) (w : Vec F S512x4096 .i8) (ws : Vec F S1x512 .f32) :
    k0_pay2 (k0_pay85 B w) (side w A L (nch L.length - 1)) (lane0 S) ws = yBlk B S A L w ws := rfl
theorem over_cnt (X : S1.Idx → BitVec 32) (h : ∀ a, ![0] a + S1.size a ≤ S1.size a) (v : BitVec 32) :
    over (V := BitVec 32) (Rect.unit (s := S1) ![0] S1.size h) (fun _ => v) X = fun _ : S1.Idx => v := over_full (s := S1) _ _ _ _

theorem emb_lane0 {V : Type} (s : S256x128.Idx → V) (h : ∀ a, ![0, 0] a + S256x1.size a ≤ S256x128.size a) :
    (fun y => s ((Rect.unit (s := S256x128) ![0, 0] S256x1.size h).emb y)) = lane0 s := by
  funext y
  unfold lane0
  congr 1
  funext a
  match a with
  | ⟨0, _⟩ => refine Fin.ext ?_; show 0 + 1 * (y 0).val = (y 0).val; omega
  | ⟨1, _⟩ => refine Fin.ext ?_; show 0 + 1 * (y 1).val = (y 1).val; omega

theorem pay9_eq (s : Vec F S256x1 .f32) (S : FVec F S256x512 .f32) (B : Vec F S256x4096 .bf16) (w : Vec F S512x4096 .i8) (ws : Vec F S1x512 .f32) :
    k0_pay9 s S B w ws = k0_pay2 (k0_pay85 B w) S s ws := rfl

theorem cond3_nch (c : ℕ) (hc : c ≤ 4096) (h : ¬ k0_cond3 (wd c) = 1#1) : nch c - 1 = 0 := by
  have := (cond3_iff c hc).not.mp h
  omega

variable (i : grid0.Coords)
  (arg1 : Memref sig .tc .smem S4096 .i32) (harg1 : arg1.IsWhole)
  (arg2 : Memref sig .tc .vmem S256x4096 .bf16) (harg2 : arg2.IsWhole)
  (arg3 : Memref sig .tc .vmem S1x4096 .i32) (harg3 : arg3.IsWhole)
  (arg4 : Memref sig .tc .vmem S512x4096 .i8) (harg4 : arg4.IsWhole)
  (arg5 : Memref sig .tc .vmem S1x512 .f32) (harg5 : arg5.IsWhole)
  (arg6 : Memref sig .tc .vmem S256x512 .bf16) (harg6 : arg6.IsWhole)
  (arg7 : Memref sig .tc .vmem S1x4096 .f32) (harg7 : arg7.IsWhole)
  (arg8 : Memref sig .tc .vmem S1x4096 .i32) (harg8 : arg8.IsWhole)
  (arg9 : Memref sig .tc .vmem S256x4096 .i8) (harg9 : arg9.IsWhole)
  (arg10 : Memref sig .tc .vmem S256x128 .f32) (harg10 : arg10.IsWhole)
  (arg11 : Memref sig .tc .vmem S256x4096 .bf16) (harg11 : arg11.IsWhole)
  (arg12 : Memref sig .tc .vmem S32x256x128 .bf16) (harg12 : arg12.IsWhole)
  (arg13 : Memref sig .tc .vmem S128x128 .i32) (harg13 : arg13.IsWhole)
  (arg14 : Memref sig .tc .smem S1 .i32) (harg14 : arg14.IsWhole)
  (arg15 : Memref sig .tc .smem S4096 .i32) (harg15 : arg15.IsWhole)

/-- The last piece of the quantisation: the last row block, the column maximum and the new mask, and the list of the
    outlier columns. -/
theorem part8_wp (c : Dev nD) (k0_h1 : k0_cond1 i = 1#1) (q1 : PosShare TreeShare) (m : Vec F S1x4096 .i32) (x : Vec F S256x4096 .bf16) (T : S4096.Idx → BitVec 32)
    (X9 : Vec F S256x4096 .i8) (X11 : Vec F S256x4096 .bf16) (X10 : Vec F S256x128 .f32) (X7 : Vec F S1x4096 .f32) (X8 : Vec F S1x4096 .i32)
    (X15 : S4096.Idx → BitVec 32) (X14 : S1.Idx → BitVec 32) (X12 : Vec F S32x256x128 .bf16)
    {β : Type} (kk : (Σ' (v346 : IVec S256x128 32), FVec F S32x256x128 .bf16) → Prog (TpuEff nD τ sig (Elt F) Λ₀ .tc) β) (Q : β → sProp (MT nD τ sig Unit (Elt F) ℕ (UR sig nD τ) ℕ)) :
    iprop(owns (c : Thread nD τ) arg9 fullShare (glue (codesR m x) 7 X9) ∗ owns (c : Thread nD τ) arg11 fullShare (glue (cbfR m x) 7 X11) ∗ owns (c : Thread nD τ) arg10 fullShare (glueS (scalesR m x) 7 X10) ∗ owns (c : Thread nD τ) arg7 fullShare X7 ∗ owns (c : Thread nD τ) arg8 fullShare X8 ∗ owns (c : Thread nD τ) arg1 q1 T ∗ owns (c : Thread nD τ) arg15 fullShare X15 ∗ owns (c : Thread nD τ) arg14 fullShare X14 ∗ owns (c : Thread nD τ) arg12 fullShare X12)
      ⊢ iprop((∀ X, ⌜Listed (hits T 4096) X⌝ -∗ owns (c : Thread nD τ) arg9 fullShare (codes m x) -∗ owns (c : Thread nD τ) arg11 fullShare (cbf m x) -∗ owns (c : Thread nD τ) arg10 fullShare (scales m x) -∗ owns (c : Thread nD τ) arg7 fullShare (cm x 7) -∗ owns (c : Thread nD τ) arg8 fullShare (k0_pay81 (cm x 7)) -∗ owns (c : Thread nD τ) arg1 q1 T -∗ owns (c : Thread nD τ) arg15 fullShare X -∗ owns (c : Thread nD τ) arg14 fullShare (fun _ => wd (hits T 4096).length) -∗ owns (c : Thread nD τ) arg12 fullShare X12 -∗ WP (F := F) c (kk ⟨lanesX, k0_pay82 (F := F)⟩) Q)
        -∗ WP (F := F) c (k0_part8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h1 (cm x 7) (k0_pay72 (k0_pay10 m) (rows x 7)) (k0_pay74 (k0_pay10 m) (rows x 7)) (k0_pay75 (k0_pay10 m) (rows x 7)) (Scalar.ofBits .f32 0x3F800000#32) >>= kk) Q) := by
  iintro ⟨H9, H11, H10, H7, H8, H1, H15, H14, H12⟩ HK
  rw [k0_part8_eq_skeleton]
  unfold k0_part8_skel
  iapply (bind_wp c)
  iapply (wp_load_owns Variants.none (c : Thread nD τ) none Set.univ (m := arg9)) $$ H9
  iintro H9
  iapply (wp_store_owns Variants.none (c : Thread nD τ) none Set.univ (m := arg9)) $$ H9
  iintro H9
  rw [codesR_7, over_glue (codesR m x) 7 _ _ _ rfl, glue_codes]
  iapply (wp_load_owns Variants.none (c : Thread nD τ) none Set.univ (m := arg11)) $$ H11
  iintro H11
  iapply (wp_store_owns Variants.none (c : Thread nD τ) none Set.univ (m := arg11)) $$ H11
  iintro H11
  rw [cbfR_7, over_glue (cbfR m x) 7 _ _ _ rfl, glue_cbf]
  iapply (wp_load_owns Variants.none (c : Thread nD τ) none Set.univ (m := arg10)) $$ H10
  iintro H10
  iapply (wp_store_owns Variants.none (c : Thread nD τ) none Set.univ (m := arg10)) $$ H10
  iintro H10
  rw [scalesR_7, over_glueS (scalesR m x) 7 _ _ _ rfl, glue_scales]
  iapply (wp_load_owns Variants.none (c : Thread nD τ) none Set.univ (m := arg7)) $$ H7
  iintro H7
  iapply (wp_store_owns Variants.none (c : Thread nD τ) none Set.univ (m := arg7)) $$ H7
  iintro H7
  rw [over_full (s := S1x4096)]
  iapply (wp_load_owns Variants.none (c : Thread nD τ) none Set.univ (m := arg8)) $$ H8
  iintro H8
  iapply (wp_store_owns Variants.none (c : Thread nD τ) none Set.univ (m := arg8)) $$ H8
  iintro H8
  rw [over_full (s := S1x4096)]
  iapply (t1_loop i arg1 harg1 arg2 harg2 arg3 harg3 arg4 harg4 arg5 harg5 arg6 harg6 arg7 harg7 arg8 harg8 arg9 harg9 arg10 harg10 arg11 harg11 arg12 harg12 arg13 harg13 arg14 harg14 arg15 harg15 c k0_h1 _ _ _ _ _ q1 T X15 _) $$ [H1 H15]
  · isplitl [H1]; · iexact H1
    iexact H15
  iintro %X %hX H1 H15
  iapply (wp_smem_owns Variants.none (c : Thread nD τ) none Set.univ (m := arg14)) $$ H14
  iintro H14
  iapply (wp_store_owns Variants.none (c : Thread nD τ) none Set.univ (m := arg14)) $$ H14
  iintro H14
  rw [over_cnt]
  iapply (wp_load_owns Variants.none (c : Thread nD τ) none Set.univ (m := arg12)) $$ H12
  iintro H12
  iapply (wp_pure Variants.none (c : Thread nD τ) none Set.univ)
  iapply HK $$ %X %hX H9 H11 H10 H7 H8 H1 H15 H14 H12

/-- The main product and the first chunk of the side product, at a grid point after the first. -/
theorem part9_later_wp (c : Dev nD) (h1 : ¬ k0_cond1 i = 1#1) (L : List ℕ) (hL : L.length ≤ 4096) (hb : ∀ j, j < L.length → nth L j < 4096) (X : S4096.Idx → BitVec 32) (hX : Listed L X) (q4 : PosShare TreeShare) (w : Vec F S512x4096 .i8) (B : Vec F S256x4096 .bf16) (A : Vec F S32x256x128 .bf16) (X13 : Vec F S128x128 .i32)
    {β : Type} (kk : (Σ' (v6 : FVec F S256x512 .f32) (v27 : FVec F S256x512 .f32) (v28 : Elt F .i32) (k0_hw8 : k0_chk8 v28), BitVec 32) → Prog (TpuEff nD τ sig (Elt F) Λ₀ .tc) β) (Q : β → sProp (MT nD τ sig Unit (Elt F) ℕ (UR sig nD τ) ℕ)) :
    iprop(owns (c : Thread nD τ) arg11 fullShare B ∗ owns (c : Thread nD τ) arg4 q4 w ∗ owns (c : Thread nD τ) arg13 fullShare X13 ∗ owns (c : Thread nD τ) arg14 fullShare (fun _ => wd L.length) ∗ owns (c : Thread nD τ) arg15 fullShare X ∗ owns (c : Thread nD τ) arg12 fullShare A)
      ⊢ iprop((owns (c : Thread nD τ) arg11 fullShare B -∗ owns (c : Thread nD τ) arg4 q4 w -∗ owns (c : Thread nD τ) arg13 fullShare (gAt (F := F) w L 0) -∗ owns (c : Thread nD τ) arg14 fullShare (fun _ => wd L.length) -∗ owns (c : Thread nD τ) arg15 fullShare X -∗ owns (c : Thread nD τ) arg12 fullShare A -∗ WP (F := F) c (kk ⟨k0_pay85 B w, side w A L 0, wd L.length, chk8_of L.length hL, 127#32⟩) Q)
        -∗ WP (F := F) c (k0_part9 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 >>= kk) Q) := by
  iintro ⟨H11, H4, H13, H14, H15, H12⟩ HK
  rw [k0_part9_eq_skeleton]
  unfold k0_part9_skel
  iapply (bind_wp c)
  rw [dif_neg h1]
  iapply (wp_load_owns Variants.none (c : Thread nD τ) none Set.univ (m := arg11)) $$ H11
  iintro H11
  rw [emb_full (s := S256x4096)]
  iapply (wp_load_owns Variants.none (c : Thread nD τ) none Set.univ (m := arg4)) $$ H4
  iintro H4
  rw [emb_full (s := S512x4096)]
  iapply (wp_load_owns Variants.none (c : Thread nD τ) none Set.univ (m := arg13)) $$ H13
  iintro H13
  iapply (wp_store_owns Variants.none (c : Thread nD τ) none Set.univ (m := arg13)) $$ H13
  iintro H13
  rw [over_full (s := S128x128)]
  iapply (wp_smem_owns Variants.none (c : Thread nD τ) none Set.univ (m := arg14)) $$ H14
  iintro H14
  iapply (wp_assume_lift Variants.none (c : Thread nD τ) none Set.univ (chk5_of L.length hL))
  iapply (t4_loop i arg1 harg1 arg2 harg2 arg3 harg3 arg4 harg4 arg5 harg5 arg6 harg6 arg7 harg7 arg8 harg8 arg9 harg9 arg10 harg10 arg11 harg11 arg12 harg12 arg13 harg13 arg14 harg14 arg15 harg15 c L hL hb q4 X hX w _ (chk5_of L.length hL) _) $$ [H15 H4 H13]
  · isplitl [H15]; · iexact H15
    isplitl [H4]; · iexact H4
    iexact H13
  iintro %a H15 H4 H13
  rw [gAt_start]
  iapply (rem_loop c)
  iapply (wp_load_owns Variants.none (c : Thread nD τ) none Set.univ (m := arg13)) $$ H13
  iintro H13
  rw [emb_full (s := S128x128)]
  iapply (wp_load_owns Variants.none (c : Thread nD τ) none Set.univ (m := arg12)) $$ H12
  iintro H12
  rw [emb_chunk _ _ _ 0 rfl]
  iapply (wp_smem_owns Variants.none (c : Thread nD τ) none Set.univ (m := arg14)) $$ H14
  iintro H14
  iapply (wp_assume_lift Variants.none (c : Thread nD τ) none Set.univ (chk8_of L.length hL))
  iapply (wp_pure Variants.none (c : Thread nD τ) none Set.univ)
  iapply HK $$ H11 H4 H13 H14 H15 H12

set_option maxHeartbeats 1600000 in
/-- The first grid point: the quantisation, the list of the outlier columns and their gather, the main product and the
    first chunk of the side product. -/
theorem part9_first_wp (c : Dev nD) (h1 : k0_cond1 i = 1#1) (q1 q2 q3 q4 : PosShare TreeShare) (T : S4096.Idx → BitVec 32) (x : Vec F S256x4096 .bf16) (m : Vec F S1x4096 .i32) (w : Vec F S512x4096 .i8)
    (X7 : Vec F S1x4096 .f32) (X8 : Vec F S1x4096 .i32) (X9 : Vec F S256x4096 .i8) (X10 : Vec F S256x128 .f32) (X11 : Vec F S256x4096 .bf16) (X12 : Vec F S32x256x128 .bf16) (X13 : Vec F S128x128 .i32) (X14 : S1.Idx → BitVec 32) (X15 : S4096.Idx → BitVec 32)
    {β : Type} (kk : (Σ' (v6 : FVec F S256x512 .f32) (v27 : FVec F S256x512 .f32) (v28 : Elt F .i32) (k0_hw8 : k0_chk8 v28), BitVec 32) → Prog (TpuEff nD τ sig (Elt F) Λ₀ .tc) β) (Q : β → sProp (MT nD τ sig Unit (Elt F) ℕ (UR sig nD τ) ℕ)) :
    iprop(owns (c : Thread nD τ) arg1 q1 T ∗ owns (c : Thread nD τ) arg2 q2 x ∗ owns (c : Thread nD τ) arg3 q3 m ∗ owns (c : Thread nD τ) arg4 q4 w ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15)
      ⊢ iprop((∀ X, ⌜Listed (hits T 4096) X⌝ -∗ owns (c : Thread nD τ) arg1 q1 T -∗ owns (c : Thread nD τ) arg2 q2 x -∗ owns (c : Thread nD τ) arg3 q3 m -∗ owns (c : Thread nD τ) arg4 q4 w -∗ owns (c : Thread nD τ) arg7 fullShare (cm x 7) -∗ owns (c : Thread nD τ) arg8 fullShare (k0_pay81 (cm x 7)) -∗ owns (c : Thread nD τ) arg9 fullShare (codes m x) -∗ owns (c : Thread nD τ) arg10 fullShare (scales m x) -∗ owns (c : Thread nD τ) arg11 fullShare (cbf m x) -∗ owns (c : Thread nD τ) arg12 fullShare (xg x (hits T 4096)) -∗ owns (c : Thread nD τ) arg13 fullShare (gAt (F := F) w (hits T 4096) 0) -∗ owns (c : Thread nD τ) arg14 fullShare (fun _ => wd (hits T 4096).length) -∗ owns (c : Thread nD τ) arg15 fullShare X -∗ WP (F := F) c (kk ⟨k0_pay85 (cbf m x) w, side w (xg x (hits T 4096)) (hits T 4096) 0, wd (hits T 4096).length, chk8_of (hits T 4096).length (hits_length_le T 4096), 127#32⟩) Q)
        -∗ WP (F := F) c (k0_part9 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 >>= kk) Q) := by
  iintro ⟨H1, H2, H3, H4, H7, H8, H9, H10, H11, H12, H13, H14, H15⟩ HK
  rw [k0_part9_eq_skeleton]
  unfold k0_part9_skel
  iapply (bind_wp c)
  rw [dif_pos h1]
  rw [← glue_zero (codesR m x) X9, ← glue_zero (cbfR m x) X11, ← glueS_zero (scalesR m x) X10]
  iapply (part1_wp i arg1 harg1 arg2 harg2 arg3 harg3 arg4 harg4 arg5 harg5 arg6 harg6 arg7 harg7 arg8 harg8 arg9 harg9 arg10 harg10 arg11 harg11 arg12 harg12 arg13 harg13 arg14 harg14 arg15 harg15 c q3 q2 m x X9 X11 X10) $$ [H3 H2 H9 H11 H10]
  · isplitl [H3]; · iexact H3
    isplitl [H2]; · iexact H2
    isplitl [H9]; · iexact H9
    isplitl [H11]; · iexact H11
    iexact H10
  iintro H3 H2 H9 H11 H10
  iapply (part2_wp i arg1 harg1 arg2 harg2 arg3 harg3 arg4 harg4 arg5 harg5 arg6 harg6 arg7 harg7 arg8 harg8 arg9 harg9 arg10 harg10 arg11 harg11 arg12 harg12 arg13 harg13 arg14 harg14 arg15 harg15 c q3 q2 m x X9 X11 X10) $$ [H2 H9 H11 H10]
  · isplitl [H2]; · iexact H2
    isplitl [H9]; · iexact H9
    isplitl [H11]; · iexact H11
    iexact H10
  iintro H2 H9 H11 H10
  iapply (part3_wp i arg1 harg1 arg2 harg2 arg3 harg3 arg4 harg4 arg5 harg5 arg6 harg6 arg7 harg7 arg8 harg8 arg9 harg9 arg10 harg10 arg11 harg11 arg12 harg12 arg13 harg13 arg14 harg14 arg15 harg15 c q3 q2 m x X9 X11 X10) $$ [H2 H9 H11 H10]
  · isplitl [H2]; · iexact H2
    isplitl [H9]; · iexact H9
    isplitl [H11]; · iexact H11
    iexact H10
  iintro H2 H9 H11 H10
  iapply (part4_wp i arg1 harg1 arg2 harg2 arg3 harg3 arg4 harg4 arg5 harg5 arg6 harg6 arg7 harg7 arg8 harg8 arg9 harg9 arg10 harg10 arg11 harg11 arg12 harg12 arg13 harg13 arg14 harg14 arg15 harg15 c q3 q2 m x X9 X11 X10) $$ [H2 H9 H11 H10]
  · isplitl [H2]; · iexact H2
    isplitl [H9]; · iexact H9
    isplitl [H11]; · iexact H11
    iexact H10
  iintro H2 H9 H11 H10
  iapply (part5_wp i arg1 harg1 arg2 harg2 arg3 harg3 arg4 harg4 arg5 harg5 arg6 harg6 arg7 harg7 arg8 harg8 arg9 harg9 arg10 harg10 arg11 harg11 arg12 harg12 arg13 harg13 arg14 harg14 arg15 harg15 c q3 q2 m x X9 X11 X10) $$ [H2 H9 H11 H10]
  · isplitl [H2]; · iexact H2
    isplitl [H9]; · iexact H9
    isplitl [H11]; · iexact H11
    iexact H10
  iintro H2 H9 H11 H10
  iapply (part6_wp i arg1 harg1 arg2 harg2 arg3 harg3 arg4 harg4 arg5 harg5 arg6 harg6 arg7 harg7 arg8 harg8 arg9 harg9 arg10 harg10 arg11 harg11 arg12 harg12 arg13 harg13 arg14 harg14 arg15 harg15 c q3 q2 m x X9 X11 X10) $$ [H2 H9 H11 H10]
  · isplitl [H2]; · iexact H2
    isplitl [H9]; · iexact H9
    isplitl [H11]; · iexact H11
    iexact H10
  iintro H2 H9 H11 H10
  iapply (part7_wp i arg1 harg1 arg2 harg2 arg3 harg3 arg4 harg4 arg5 harg5 arg6 harg6 arg7 harg7 arg8 harg8 arg9 harg9 arg10 harg10 arg11 harg11 arg12 harg12 arg13 harg13 arg14 harg14 arg15 harg15 c q3 q2 m x X9 X11 X10) $$ [H2 H9 H11 H10]
  · isplitl [H2]; · iexact H2
    isplitl [H9]; · iexact H9
    isplitl [H11]; · iexact H11
    iexact H10
  iintro H2 H9 H11 H10
  iapply (part8_wp i arg1 harg1 arg2 harg2 arg3 harg3 arg4 harg4 arg5 harg5 arg6 harg6 arg7 harg7 arg8 harg8 arg9 harg9 arg10 harg10 arg11 harg11 arg12 harg12 arg13 harg13 arg14 harg14 arg15 harg15 c h1 q1 m x T X9 X11 X10 X7 X8 X15 X14 X12) $$ [H9 H11 H10 H7 H8 H1 H15 H14 H12]
  · isplitl [H9]; · iexact H9
    isplitl [H11]; · iexact H11
    isplitl [H10]; · iexact H10
    isplitl [H7]; · iexact H7
    isplitl [H8]; · iexact H8
    isplitl [H1]; · iexact H1
    isplitl [H15]; · iexact H15
    isplitl [H14]; · iexact H14
    iexact H12
  iintro %X %hX H9 H11 H10 H7 H8 H1 H15 H14 H12
  iapply (wp_store_owns Variants.none (c : Thread nD τ) none Set.univ (m := arg12)) $$ H12
  iintro H12
  rw [over_full (s := S32x256x128)]
  iapply (wp_smem_owns Variants.none (c : Thread nD τ) none Set.univ (m := arg14)) $$ H14
  iintro H14
  iapply (wp_assume_lift Variants.none (c : Thread nD τ) none Set.univ (chk2_of i _ (hits_length_le T 4096)))
  iapply (t2_loop i arg1 harg1 arg2 harg2 arg3 harg3 arg4 harg4 arg5 harg5 arg6 harg6 arg7 harg7 arg8 harg8 arg9 harg9 arg10 harg10 arg11 harg11 arg12 harg12 arg13 harg13 arg14 harg14 arg15 harg15 c h1 (hits T 4096) (hits_length_le T 4096) (fun j h => hits_nth_lt T 4096 j h) q2 X hX x (chk2_of i _ (hits_length_le T 4096)) _) $$ [H15 H2 H12]
  · isplitl [H15]; · iexact H15
    isplitl [H2]; · iexact H2
    iexact H12
  iintro %a0 H15 H2 H12
  rw [xg_def]
  iapply (rem_loop c)
  iapply (wp_load_owns Variants.none (c : Thread nD τ) none Set.univ (m := arg11)) $$ H11
  iintro H11
  rw [emb_full (s := S256x4096)]
  iapply (wp_load_owns Variants.none (c : Thread nD τ) none Set.univ (m := arg4)) $$ H4
  iintro H4
  rw [emb_full (s := S512x4096)]
  iapply (wp_load_owns Variants.none (c : Thread nD τ) none Set.univ (m := arg13)) $$ H13
  iintro H13
  iapply (wp_store_owns Variants.none (c : Thread nD τ) none Set.univ (m := arg13)) $$ H13
  iintro H13
  rw [over_full (s := S128x128)]
  iapply (wp_smem_owns Variants.none (c : Thread nD τ) none Set.univ (m := arg14)) $$ H14
  iintro H14
  iapply (wp_assume_lift Variants.none (c : Thread nD τ) none Set.univ (chk5_of (hits T 4096).length (hits_length_le T 4096)))
  iapply (t4_loop i arg1 harg1 arg2 harg2 arg3 harg3 arg4 harg4 arg5 harg5 arg6 harg6 arg7 harg7 arg8 harg8 arg9 harg9 arg10 harg10 arg11 harg11 arg12 harg12 arg13 harg13 arg14 harg14 arg15 harg15 c (hits T 4096) (hits_length_le T 4096) (fun j h => hits_nth_lt T 4096 j h) q4 X hX w _ (chk5_of (hits T 4096).length (hits_length_le T 4096)) _) $$ [H15 H4 H13]
  · isplitl [H15]; · iexact H15
    isplitl [H4]; · iexact H4
    iexact H13
  iintro %a H15 H4 H13
  rw [gAt_start]
  iapply (rem_loop c)
  iapply (wp_load_owns Variants.none (c : Thread nD τ) none Set.univ (m := arg13)) $$ H13
  iintro H13
  rw [emb_full (s := S128x128)]
  iapply (wp_load_owns Variants.none (c : Thread nD τ) none Set.univ (m := arg12)) $$ H12
  iintro H12
  rw [emb_chunk _ _ _ 0 rfl]
  iapply (wp_smem_owns Variants.none (c : Thread nD τ) none Set.univ (m := arg14)) $$ H14
  iintro H14
  iapply (wp_assume_lift Variants.none (c : Thread nD τ) none Set.univ (chk8_of (hits T 4096).length (hits_length_le T 4096)))
  iapply (wp_pure Variants.none (c : Thread nD τ) none Set.univ)
  iapply HK $$ %X %hX H1 H2 H3 H4 H7 H8 H9 H10 H11 H12 H13 H14 H15

set_option maxHeartbeats 1600000 in
/-- The body at a grid point after the first. -/
theorem later_wp (c : Dev nD) (h1 : ¬ k0_cond1 i = 1#1) (L : List ℕ) (hL : L.length ≤ 4096) (hb : ∀ j, j < L.length → nth L j < 4096) (X : S4096.Idx → BitVec 32) (hX : Listed L X) (q4 : PosShare TreeShare) (w : Vec F S512x4096 .i8) (B : Vec F S256x4096 .bf16) (A : Vec F S32x256x128 .bf16) (X13 : Vec F S128x128 .i32)
    (q5 : PosShare TreeShare) (ws : Vec F S1x512 .f32) (S : Vec F S256x128 .f32) (X6 : Vec F S256x512 .bf16)
    (Q : PUnit → sProp (MT nD τ sig Unit (Elt F) ℕ (UR sig nD τ) ℕ)) :
    iprop(owns (c : Thread nD τ) arg4 q4 w ∗ owns (c : Thread nD τ) arg5 q5 ws ∗ owns (c : Thread nD τ) arg6 fullShare X6 ∗ owns (c : Thread nD τ) arg10 fullShare S ∗ owns (c : Thread nD τ) arg11 fullShare B ∗ owns (c : Thread nD τ) arg12 fullShare A ∗ owns (c : Thread nD τ) arg13 fullShare X13 ∗ owns (c : Thread nD τ) arg14 fullShare (fun _ => wd L.length) ∗ owns (c : Thread nD τ) arg15 fullShare X)
      ⊢ iprop((∀ G, owns (c : Thread nD τ) arg4 q4 w -∗ owns (c : Thread nD τ) arg5 q5 ws -∗ owns (c : Thread nD τ) arg6 fullShare (yBlk B S A L w ws) -∗ owns (c : Thread nD τ) arg10 fullShare S -∗ owns (c : Thread nD τ) arg11 fullShare B -∗ owns (c : Thread nD τ) arg12 fullShare A -∗ owns (c : Thread nD τ) arg13 fullShare G -∗ owns (c : Thread nD τ) arg14 fullShare (fun _ => wd L.length) -∗ owns (c : Thread nD τ) arg15 fullShare X -∗ Q ⟨⟩)
        -∗ WP (F := F) c (cc0_llm_int8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15) Q) := by
  iintro ⟨H4, H5, H6, H10, H11, H12, H13, H14, H15⟩ HK
  rw [cc0_llm_int8_eq_skeleton]
  unfold cc0_llm_int8_skel
  iapply (part9_later_wp i arg1 harg1 arg2 harg2 arg3 harg3 arg4 harg4 arg5 harg5 arg6 harg6 arg7 harg7 arg8 harg8 arg9 harg9 arg10 harg10 arg11 harg11 arg12 harg12 arg13 harg13 arg14 harg14 arg15 harg15 c h1 L hL hb X hX q4 w B A X13) $$ [H11 H4 H13 H14 H15 H12]
  · isplitl [H11]; · iexact H11
    isplitl [H4]; · iexact H4
    isplitl [H13]; · iexact H13
    isplitl [H14]; · iexact H14
    isplitl [H15]; · iexact H15
    iexact H12
  iintro H11 H4 H13 H14 H15 H12
  iapply (wp_load_owns Variants.none (c : Thread nD τ) none Set.univ (m := arg10)) $$ H10
  iintro H10
  rw [emb_lane0]
  iapply (wp_load_owns Variants.none (c : Thread nD τ) none Set.univ (m := arg5)) $$ H5
  iintro H5
  rw [emb_full (s := S1x512)]
  iapply (wp_load_owns Variants.none (c : Thread nD τ) none Set.univ (m := arg6)) $$ H6
  iintro H6
  iapply (wp_store_owns Variants.none (c : Thread nD τ) none Set.univ (m := arg6)) $$ H6
  iintro H6
  rw [over_full (s := S256x512)]
  by_cases h3 : k0_cond3 (wd L.length) = 1#1
  · rw [dif_pos h3]
    iapply (t6_loop i arg1 harg1 arg2 harg2 arg3 harg3 arg4 harg4 arg5 harg5 arg6 harg6 arg7 harg7 arg8 harg8 arg9 harg9 arg10 harg10 arg11 harg11 arg12 harg12 arg13 harg13 arg14 harg14 arg15 harg15 c L hL hb q4 X hX w A h3 (chk8_of L.length hL) _) $$ [H14 H15 H4 H13 H12]
    · isplitl [H14]; · iexact H14
      isplitl [H15]; · iexact H15
      isplitl [H4]; · iexact H4
      isplitl [H13]; · iexact H13
      iexact H12
    iintro H14 H15 H4 H13 H12
    iapply (rem_loop c)
    iapply (wp_load_owns Variants.none (c : Thread nD τ) none Set.univ (m := arg11)) $$ H11
    iintro H11
    rw [emb_full (s := S256x4096)]
    iapply (wp_load_owns Variants.none (c : Thread nD τ) none Set.univ (m := arg4)) $$ H4
    iintro H4
    rw [emb_full (s := S512x4096)]
    iapply (wp_load_owns Variants.none (c : Thread nD τ) none Set.univ (m := arg5)) $$ H5
    iintro H5
    rw [emb_full (s := S1x512)]
    iapply (wp_load_owns Variants.none (c : Thread nD τ) none Set.univ (m := arg6)) $$ H6
    iintro H6
    iapply (wp_store_owns Variants.none (c : Thread nD τ) none Set.univ (m := arg6)) $$ H6
    iintro H6
    rw [over_full (s := S256x512), pay9_eq, yBlk_def]
    iapply (wp_pure Variants.none (c : Thread nD τ) none Set.univ)
    iapply HK $$ %(gAt (F := F) w L (nch L.length - 1)) H4 H5 H6 H10 H11 H12 H13 H14 H15
  · rw [dif_neg h3]
    iapply (wp_pure Variants.none (c : Thread nD τ) none Set.univ)
    rw [show side w A L 0 = side w A L (nch L.length - 1) from by rw [cond3_nch _ hL h3], yBlk_def]
    iapply HK $$ %(gAt (F := F) w L 0) H4 H5 H6 H10 H11 H12 H13 H14 H15

set_option maxHeartbeats 1600000 in
/-- The body at the first grid point. -/
theorem first_wp (c : Dev nD) (h1 : k0_cond1 i = 1#1) (q1 q2 q3 q4 q5 : PosShare TreeShare) (T : S4096.Idx → BitVec 32) (x : Vec F S256x4096 .bf16) (m : Vec F S1x4096 .i32) (w : Vec F S512x4096 .i8) (ws : Vec F S1x512 .f32) (X6 : Vec F S256x512 .bf16)
    (X7 : Vec F S1x4096 .f32) (X8 : Vec F S1x4096 .i32) (X9 : Vec F S256x4096 .i8) (X10 : Vec F S256x128 .f32) (X11 : Vec F S256x4096 .bf16) (X12 : Vec F S32x256x128 .bf16) (X13 : Vec F S128x128 .i32) (X14 : S1.Idx → BitVec 32) (X15 : S4096.Idx → BitVec 32)
    (Q : PUnit → sProp (MT nD τ sig Unit (Elt F) ℕ (UR sig nD τ) ℕ)) :
    iprop(owns (c : Thread nD τ) arg1 q1 T ∗ owns (c : Thread nD τ) arg2 q2 x ∗ owns (c : Thread nD τ) arg3 q3 m ∗ owns (c : Thread nD τ) arg4 q4 w ∗ owns (c : Thread nD τ) arg5 q5 ws ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15)
      ⊢ iprop((∀ X G, ⌜Listed (hits T 4096) X⌝ -∗ owns (c : Thread nD τ) arg1 q1 T -∗ owns (c : Thread nD τ) arg2 q2 x -∗ owns (c : Thread nD τ) arg3 q3 m -∗ owns (c : Thread nD τ) arg4 q4 w -∗ owns (c : Thread nD τ) arg5 q5 ws -∗ owns (c : Thread nD τ) arg6 fullShare (yBlk (cbf m x) (scales m x) (xg x (hits T 4096)) (hits T 4096) w ws) -∗ owns (c : Thread nD τ) arg7 fullShare (cm x 7) -∗ owns (c : Thread nD τ) arg8 fullShare (k0_pay81 (cm x 7)) -∗ owns (c : Thread nD τ) arg9 fullShare (codes m x) -∗ owns (c : Thread nD τ) arg10 fullShare (scales m x) -∗ owns (c : Thread nD τ) arg11 fullShare (cbf m x) -∗ owns (c : Thread nD τ) arg12 fullShare (xg x (hits T 4096)) -∗ owns (c : Thread nD τ) arg13 fullShare G -∗ owns (c : Thread nD τ) arg14 fullShare (fun _ => wd (hits T 4096).length) -∗ owns (c : Thread nD τ) arg15 fullShare X -∗ Q ⟨⟩)
        -∗ WP (F := F) c (cc0_llm_int8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15) Q) := by
  iintro ⟨H1, H2, H3, H4, H5, H6, H7, H8, H9, H10, H11, H12, H13, H14, H15⟩ HK
  rw [cc0_llm_int8_eq_skeleton]
  unfold cc0_llm_int8_skel
  iapply (part9_first_wp i arg1 harg1 arg2 harg2 arg3 harg3 arg4 harg4 arg5 harg5 arg6 harg6 arg7 harg7 arg8 harg8 arg9 harg9 arg10 harg10 arg11 harg11 arg12 harg12 arg13 harg13 arg14 harg14 arg15 harg15 c h1 q1 q2 q3 q4 T x m w X7 X8 X9 X10 X11 X12 X13 X14 X15) $$ [H1 H2 H3 H4 H7 H8 H9 H10 H11 H12 H13 H14 H15]
  · isplitl [H1]; · iexact H1
    isplitl [H2]; · iexact H2
    isplitl [H3]; · iexact H3
    isplitl [H4]; · iexact H4
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  iintro %X %hX H1 H2 H3 H4 H7 H8 H9 H10 H11 H12 H13 H14 H15
  iapply (wp_load_owns Variants.none (c : Thread nD τ) none Set.univ (m := arg10)) $$ H10
  iintro H10
  rw [emb_lane0]
  iapply (wp_load_owns Variants.none (c : Thread nD τ) none Set.univ (m := arg5)) $$ H5
  iintro H5
  rw [emb_full (s := S1x512)]
  iapply (wp_load_owns Variants.none (c : Thread nD τ) none Set.univ (m := arg6)) $$ H6
  iintro H6
  iapply (wp_store_owns Variants.none (c : Thread nD τ) none Set.univ (m := arg6)) $$ H6
  iintro H6
  rw [over_full (s := S256x512)]
  by_cases h3 : k0_cond3 (wd (hits T 4096).length) = 1#1
  · rw [dif_pos h3]
    iapply (t6_loop i arg1 harg1 arg2 harg2 arg3 harg3 arg4 harg4 arg5 harg5 arg6 harg6 arg7 harg7 arg8 harg8 arg9 harg9 arg10 harg10 arg11 harg11 arg12 harg12 arg13 harg13 arg14 harg14 arg15 harg15 c (hits T 4096) (hits_length_le T 4096) (fun j h => hits_nth_lt T 4096 j h) q4 X hX w (xg x (hits T 4096)) h3 (chk8_of (hits T 4096).length (hits_length_le T 4096)) _) $$ [H14 H15 H4 H13 H12]
    · isplitl [H14]; · iexact H14
      isplitl [H15]; · iexact H15
      isplitl [H4]; · iexact H4
      isplitl [H13]; · iexact H13
      iexact H12
    iintro H14 H15 H4 H13 H12
    iapply (rem_loop c)
    iapply (wp_load_owns Variants.none (c : Thread nD τ) none Set.univ (m := arg11)) $$ H11
    iintro H11
    rw [emb_full (s := S256x4096)]
    iapply (wp_load_owns Variants.none (c : Thread nD τ) none Set.univ (m := arg4)) $$ H4
    iintro H4
    rw [emb_full (s := S512x4096)]
    iapply (wp_load_owns Variants.none (c : Thread nD τ) none Set.univ (m := arg5)) $$ H5
    iintro H5
    rw [emb_full (s := S1x512)]
    iapply (wp_load_owns Variants.none (c : Thread nD τ) none Set.univ (m := arg6)) $$ H6
    iintro H6
    iapply (wp_store_owns Variants.none (c : Thread nD τ) none Set.univ (m := arg6)) $$ H6
    iintro H6
    rw [over_full (s := S256x512), pay9_eq, yBlk_def]
    iapply (wp_pure Variants.none (c : Thread nD τ) none Set.univ)
    iapply HK $$ %X %(gAt (F := F) w (hits T 4096) (nch (hits T 4096).length - 1)) %hX H1 H2 H3 H4 H5 H6 H7 H8 H9 H10 H11 H12 H13 H14 H15
  · rw [dif_neg h3]
    iapply (wp_pure Variants.none (c : Thread nD τ) none Set.univ)
    rw [show side w (xg x (hits T 4096)) (hits T 4096) 0 = side w (xg x (hits T 4096)) (hits T 4096) (nch (hits T 4096).length - 1) from by rw [cond3_nch _ (hits_length_le T 4096) h3], yBlk_def]
    iapply HK $$ %X %(gAt (F := F) w (hits T 4096) 0) %hX H1 H2 H3 H4 H5 H6 H7 H8 H9 H10 H11 H12 H13 H14 H15

end Cert.Kernel.Body
-- ==== Proof.KernelRegion.lean ====
/- The program around the kernel's one grid: what each grid point finds and leaves, and the run of the whole program. -/
module

public import proofs.«01_k».proof.Proof.KernelBody
public import proofs.«01_k».proof.Proof.Gen.Kernel.Launch
public import Idealize.ShloMosaic.Lib.Pipeline.FrameBody
public import Idealize.ShloMosaic.Lib.Pipeline.FrameSuffix
public import Idealize.ShloMosaic.Lib.Claim
public import Idealize.ShloMosaic.Lib.Pipeline.Value
public import Idealize.ShloMosaic.Lib.Pipeline.ValueKit.Geometry

@[expose] public section

set_option maxRecDepth 16384

noncomputable section

namespace Cert.Kernel.Region

open Cert.Kernel Cert.Kernel.Gen Cert.Kernel.Words Cert.Kernel.Spec Cert.OwnRules Cert.Kernel.Quant Cert.Kernel.Body
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program's own lines around the grid -/

/-- A core's buffers when the grid is entered: after the reshapes before it. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- The program is its lines before the grid, the grid, and its lines after it. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- A line that reads one buffer and writes another touches only buffers the lines after the grid may touch, if both are such. -/
theorem pair_sub (x y : Ref sig .tc) (hx : x ∈ Finset.univ.image (Pipeline.arrRef spec0) ∪ Pipeline.restRefsP sig pre0 spec0)
    (hy : y ∈ Finset.univ.image (Pipeline.arrRef spec0) ∪ Pipeline.restRefsP sig pre0 spec0) :
    ({Proc.devRef (τ := τ) .tc x, Proc.devRef (τ := τ) .tc y} : Finset (DevRef τ sig)) ⊆ Pipeline.tailRefs sig pre0 spec0 := by
  intro b hb
  rcases Finset.mem_insert.mp hb with rfl | hb
  · exact Finset.mem_map_of_mem _ hx
  · rw [Finset.mem_singleton.mp hb]; exact Finset.mem_map_of_mem _ hy

/-- The lines after the grid touch the grid's arrays and the buffers it leaves alone. -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl
  · exact pair_sub main_v3_0 main_v4 (by decide) (by decide)
  · exact pair_sub main_v3_1 main_v5 (by decide) (by decide)
  · exact pair_sub main_v3_2 main_v6 (by decide) (by decide)
  · exact pair_sub main_v3_3 main_v7 (by decide) (by decide)
  · exact pair_sub main_v3_4 main_v8 (by decide) (by decide)
  · exact pair_sub main_v8 main_v9 (by decide) (by decide)
  · exact pair_sub main_v9 main_v10 (by decide) (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- They write no array of the grid. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No line before the grid writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No line before the grid writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No line before the grid writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No line before the grid writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No line after the grid writes `main_arg0`. -/
theorem W_main_arg0 (a : (p : Fin 1) → (pcfgs (F := F) p).Adm) (dats : (p : Fin _) → (c : Dev nD) → Dat τ (Elt F) Unit ℕ (UR sig nD τ) ℕ (Pipeline.pin pcfgs a p) c) (c : Dev nD) :
    Pipeline.afterTail pcfgs a dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No line after the grid writes `main_arg1`. -/
theorem W_main_arg1 (a : (p : Fin 1) → (pcfgs (F := F) p).Adm) (dats : (p : Fin _) → (c : Dev nD) → Dat τ (Elt F) Unit ℕ (UR sig nD τ) ℕ (Pipeline.pin pcfgs a p) c) (c : Dev nD) :
    Pipeline.afterTail pcfgs a dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No line after the grid writes `main_arg3`. -/
theorem W_main_arg3 (a : (p : Fin 1) → (pcfgs (F := F) p).Adm) (dats : (p : Fin _) → (c : Dev nD) → Dat τ (Elt F) Unit ℕ (UR sig nD τ) ℕ (Pipeline.pin pcfgs a p) c) (c : Dev nD) :
    Pipeline.afterTail pcfgs a dats 0 (V0 m) [hostOps1] c main_arg3 = m ((c : Thread nD τ).loc main_arg3) := by
  unfold Pipeline.afterTail
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## What the windows hold -/

/-- The table read ahead of the grid, as the grid finds it. -/
def tab : (p : Fin 1) → (pcfgs (F := F) p).Adm := fun _ => ⟨fun k => V m (0 : Dev nD) (pre0.ref k), trivial⟩

/-- The grid at that table. -/
abbrev cfgA : Cfg sig Λ₀ := cfg0 (tab m 0)

/-- The activations, the mask row and the mask table, as the grid finds them. -/
def xA (c : Dev nD) : Vec F S256x4096 .bf16 := V m c main_v0
def mA (c : Dev nD) : Vec F S1x4096 .i32 := V m c main_v1
def tA (c : Dev nD) : S4096.Idx → BitVec 32 := V m c main_arg1
/-- The columns the mask table marks. -/
def lA (c : Dev nD) : List ℕ := hits (tA m c) 4096

/-- Window `w`'s block at point `t`, read off its array as the grid finds it. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

theorem iblk_0 (c : Dev nD) (t : Fin (cfgA m).N) : iblk m c 0 t = xA m c := by
  funext y
  show V m c main_v0 ((((cfgA m).win 0).rect t).emb y) = V m c main_v0 y
  congr 1; funext a; apply Fin.ext
  exact Pipeline.Window.rect_emb_val_of_index_zero ((cfgA m).win 0) t a (by fin_cases a <;> rfl) y
theorem iblk_1 (c : Dev nD) (t : Fin (cfgA m).N) : iblk m c 1 t = mA m c := by
  funext y
  show V m c main_v1 ((((cfgA m).win 1).rect t).emb y) = V m c main_v1 y
  congr 1; funext a; apply Fin.ext
  exact Pipeline.Window.rect_emb_val_of_index_zero ((cfgA m).win 1) t a (by fin_cases a <;> rfl) y

/-- The outlier columns of the activations, gathered. -/
def xgA (c : Dev nD) : Vec F S32x256x128 .bf16 := xg (xA m c) (lA m c)

/-- What the body leaves in the outlier scratch buffers at point 0, and every later point finds. -/
def kept (c : Dev nD) : sProp (MT nD τ sig Unit (Elt F) ℕ (UR sig nD τ) ℕ) :=
  iprop((∃ r, prngReg c r)
    ∗ owns (c : Thread nD τ) (Memref.whole cc0_scratch0) fullShare (cbf (mA m c) (xA m c))
    ∗ owns (c : Thread nD τ) (Memref.whole cc0_scratch1) fullShare (xgA m c)
    ∗ (∃ G, owns (c : Thread nD τ) (Memref.whole cc0_scratch2) fullShare G)
    ∗ owns (c : Thread nD τ) (Memref.whole cc0_scratch3) fullShare (fun _ => wd (lA m c).length)
    ∗ (∃ X, ⌜Listed (lA m c) X⌝ ∗ owns (c : Thread nD τ) (Memref.whole cc0_scratch4) fullShare X))

/-- What the grid's points find and leave: the inputs' blocks, each output's block after the point, and the scratch
    buffers: at anything before point 0, filled after it. -/
def dats (p : Fin 1) (c : Dev nD) : Dat τ (Elt F) Unit ℕ (UR sig nD τ) ℕ (Pipeline.pin pcfgs (tab m) p) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yBlk (cbf (mA m c) (xA m c)) (scales (mA m c) (xA m c)) (xgA m c) (lA m c) (iblk m c 2 t) (iblk m c 3 t)
    | ⟨5, _⟩ => cm (xA m c) 7
    | ⟨6, _⟩ => k0_pay81 (cm (xA m c) 7)
    | ⟨7, _⟩ => codes (mA m c) (xA m c)
    | ⟨8, _⟩ => scales (mA m c) (xA m c)
  Φ t := if t.val = 0 then iprop(Pipeline.ΦA spec0 c ∗ Pipeline.ΦT pre0 (tab m 0).1 c) else kept m c
  q _ := fullShare
  owed _ := 0

theorem A_eq (c : Dev nD) (w : Fin (cfgA m).W) : (dats m 0 c).A w = V m c (Pipeline.arrRef spec0 w) := by
  dsimp only [dats]
theorem after_0 (c : Dev nD) (t : Fin (cfgA m).N) : (dats m 0 c).after 0 t = iblk m c 0 t := by dsimp only [dats]; rfl
theorem after_1 (c : Dev nD) (t : Fin (cfgA m).N) : (dats m 0 c).after 1 t = iblk m c 1 t := by dsimp only [dats]; rfl
theorem after_2 (c : Dev nD) (t : Fin (cfgA m).N) : (dats m 0 c).after 2 t = iblk m c 2 t := by dsimp only [dats]; rfl
theorem after_3 (c : Dev nD) (t : Fin (cfgA m).N) : (dats m 0 c).after 3 t = iblk m c 3 t := by dsimp only [dats]; rfl
theorem after_4 (c : Dev nD) (t : Fin (cfgA m).N) : (dats m 0 c).after 4 t = yBlk (cbf (mA m c) (xA m c)) (scales (mA m c) (xA m c)) (xgA m c) (lA m c) (iblk m c 2 t) (iblk m c 3 t) := by dsimp only [dats]; rfl
theorem after_5 (c : Dev nD) (t : Fin (cfgA m).N) : (dats m 0 c).after 5 t = cm (xA m c) 7 := by dsimp only [dats]; rfl
theorem after_6 (c : Dev nD) (t : Fin (cfgA m).N) : (dats m 0 c).after 6 t = k0_pay81 (cm (xA m c) 7) := by dsimp only [dats]; rfl
theorem after_7 (c : Dev nD) (t : Fin (cfgA m).N) : (dats m 0 c).after 7 t = codes (mA m c) (xA m c) := by dsimp only [dats]; rfl
theorem after_8 (c : Dev nD) (t : Fin (cfgA m).N) : (dats m 0 c).after 8 t = scales (mA m c) (xA m c) := by dsimp only [dats]; rfl

/-- Input window 0's buffer holds its block at every point. -/
theorem before_0 (c : Dev nD) (t : Fin (cfgA m).N) (d) : (dats m 0 c).before 0 t d = xA m c :=
  (((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl : _ = iblk m c 0 t)).trans (iblk_0 m c t)
/-- Input window 1's buffer holds its block at every point. -/
theorem before_1 (c : Dev nD) (t : Fin (cfgA m).N) (d) : (dats m 0 c).before 1 t d = mA m c :=
  (((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl : _ = iblk m c 1 t)).trans (iblk_1 m c t)
/-- Input window 2's buffer holds its block at every point. -/
theorem before_2 (c : Dev nD) (t : Fin (cfgA m).N) (d) : (dats m 0 c).before 2 t d = iblk m c 2 t :=
  (((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl : _ = iblk m c 2 t))
/-- Input window 3's buffer holds its block at every point. -/
theorem before_3 (c : Dev nD) (t : Fin (cfgA m).N) (d) : (dats m 0 c).before 3 t d = iblk m c 3 t :=
  (((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl : _ = iblk m c 3 t))

/-- The first-point condition of the body, point by point. -/
theorem cond1_iff : ∀ t : Fin grid0.N, k0_cond1 (grid0.coords t) = 1#1 ↔ t.val = 0 := by decide +kernel

/-- The four outputs written at point 0 only are idle at the later points. -/
theorem idle_5 : ∀ t : Fin grid0.N, idle0 5 (grid0.coords t) = decide (t.val ≠ 0) := by decide +kernel
theorem idle_6 : ∀ t : Fin grid0.N, idle0 6 (grid0.coords t) = decide (t.val ≠ 0) := by decide +kernel
theorem idle_7 : ∀ t : Fin grid0.N, idle0 7 (grid0.coords t) = decide (t.val ≠ 0) := by decide +kernel
theorem idle_8 : ∀ t : Fin grid0.N, idle0 8 (grid0.coords t) = decide (t.val ≠ 0) := by decide +kernel

/-- They are written back at the last point. -/
theorem flush_5 : ∀ t : Fin grid0.N, Window.flushOf grid0 true cc0_transform_5 t = decide (t.val = 27) := by decide +kernel
theorem flush_6 : ∀ t : Fin grid0.N, Window.flushOf grid0 true cc0_transform_6 t = decide (t.val = 27) := by decide +kernel
theorem flush_7 : ∀ t : Fin grid0.N, Window.flushOf grid0 true cc0_transform_7 t = decide (t.val = 27) := by decide +kernel
theorem flush_8 : ∀ t : Fin grid0.N, Window.flushOf grid0 true cc0_transform_8 t = decide (t.val = 27) := by decide +kernel

/-- An output written at point 0 only still holds at every later point what point 0 left. -/
theorem before_kept {cfg : Cfg sig Λ₀} {c : Dev nD} (dat : Dat τ (Elt F) Unit ℕ (UR sig nD τ) ℕ cfg c) (w : Fin cfg.W)
    (hw : (cfg.win w).isOut = true) (hclip : ∀ (i : cfg.grid.Coords) a, (cfg.win w).clip i a = none)
    (hfl : ∀ t : Fin cfg.N, t.val + 1 < cfg.N → (cfg.win w).flush t = false)
    (hidle : ∀ t : Fin cfg.N, cfg.idle w (cfg.grid.coords t) = decide (t.val ≠ 0))
    (hconst : ∀ t t' : Fin cfg.N, dat.after w t = dat.after w t') :
    ∀ (n : ℕ) (h : n < cfg.N) (hn : n ≠ 0) (d), dat.before w ⟨n, h⟩ d = dat.after w ⟨n, h⟩
  | 0, _, hn, _ => absurd rfl hn
  | k + 1, h, hn, d => by
    have hk : k < cfg.N := by omega
    by_cases h0 : k = 0
    · subst h0
      have hl : cfg.idle w (cfg.grid.coords ⟨0, hk⟩) = false := by rw [hidle]; simp
      rw [dat.before_of_pos w ⟨0 + 1, h⟩ (by simp) ((cfg.win w).fetch_out hw _) d]
      show (if (cfg.win w).flush ⟨0, hk⟩ = true then d else dat.left w ⟨0, hk⟩ d) = _
      rw [hfl ⟨0, hk⟩ h, if_neg Bool.false_ne_true]
      unfold Dat.left; rw [hl]
      show dat.kept w ⟨0, hk⟩ d = _
      unfold Dat.kept
      rw [Pipeline.fill_of_clip_none w _ (hclip _) d (dat.after w _), Window.fill_cut]
      exact hconst _ _
    · have ih := before_kept dat w hw hclip hfl hidle hconst k hk h0 d
      have hl : cfg.idle w (cfg.grid.coords ⟨k, hk⟩) = true := by rw [hidle]; simp [h0]
      rw [dat.before_of_pos w ⟨k + 1, h⟩ (by simp) ((cfg.win w).fetch_out hw _) d]
      show (if (cfg.win w).flush ⟨k, hk⟩ = true then d else dat.left w ⟨k, hk⟩ d) = _
      rw [hfl ⟨k, hk⟩ h, if_neg Bool.false_ne_true]
      unfold Dat.left; rw [hl]
      show dat.before w ⟨k, hk⟩ d = _
      rw [ih]
      exact hconst _ _

/-- So what the body leaves there is what the grid wants left: at a later point the buffer as found. -/
theorem leaves_kept {cfg : Cfg sig Λ₀} {c : Dev nD} (dat : Dat τ (Elt F) Unit ℕ (UR sig nD τ) ℕ cfg c) (w : Fin cfg.W)
    (hidle : ∀ t : Fin cfg.N, cfg.idle w (cfg.grid.coords t) = decide (t.val ≠ 0))
    (hbef : ∀ t : Fin cfg.N, t.val ≠ 0 → ∀ d, dat.before w t d = dat.after w t)
    (hd : Nonempty ((cfg.win w).block.Idx → Elt F (cfg.win w).elt)) (t : Fin cfg.N) :
    owns (c : Thread nD τ) ((cfg.win w).stage (cfg.slots t w)) fullShare (dat.after w t) ⊢ dat.leavesExact w t := by
  unfold Dat.leavesExact
  by_cases h0 : t.val = 0
  · have hl : cfg.idle w (cfg.grid.coords t) = false := by rw [hidle]; simp [h0]
    rw [hl]
  · have hl : cfg.idle w (cfg.grid.coords t) = true := by rw [hidle]; simp [h0]
    rw [hl]
    cases hf : (cfg.win w).flush t
    · obtain ⟨d⟩ := hd
      iintro H
      iexists d
      rw [hbef t h0 d]
      iexact H
    · exact .rfl

theorem before_5 (c : Dev nD) (t : Fin (cfgA m).N) (h0 : t.val ≠ 0) (d) : (dats m 0 c).before 5 t d = (dats m 0 c).after 5 t :=
  before_kept (dats m 0 c) 5 rfl (fun _ _ => rfl)
    (fun t ht => ((Window.flush_eq_flushOf _ t).trans (flush_5 t)).trans (decide_eq_false (by have h2 : t.val + 1 < 28 := ht; omega)))
    (fun t => idle_5 t) (fun t t' => by rw [after_5, after_5]) t.val t.isLt h0 d
theorem leaves_5 (c : Dev nD) (t : Fin (cfgA m).N) :
    owns (c : Thread nD τ) (((cfgA m).win 5).stage ((cfgA m).slots t 5)) fullShare ((dats m 0 c).after 5 t) ⊢ (dats m 0 c).leavesExact 5 t :=
  leaves_kept (dats m 0 c) 5 (fun t => idle_5 t) (fun t h d => before_5 m c t h d) ⟨(dats m 0 c).after 5 t⟩ t
theorem before_6 (c : Dev nD) (t : Fin (cfgA m).N) (h0 : t.val ≠ 0) (d) : (dats m 0 c).before 6 t d = (dats m 0 c).after 6 t :=
  before_kept (dats m 0 c) 6 rfl (fun _ _ => rfl)
    (fun t ht => ((Window.flush_eq_flushOf _ t).trans (flush_6 t)).trans (decide_eq_false (by have h2 : t.val + 1 < 28 := ht; omega)))
    (fun t => idle_6 t) (fun t t' => by rw [after_6, after_6]) t.val t.isLt h0 d
theorem leaves_6 (c : Dev nD) (t : Fin (cfgA m).N) :
    owns (c : Thread nD τ) (((cfgA m).win 6).stage ((cfgA m).slots t 6)) fullShare ((dats m 0 c).after 6 t) ⊢ (dats m 0 c).leavesExact 6 t :=
  leaves_kept (dats m 0 c) 6 (fun t => idle_6 t) (fun t h d => before_6 m c t h d) ⟨(dats m 0 c).after 6 t⟩ t
theorem before_7 (c : Dev nD) (t : Fin (cfgA m).N) (h0 : t.val ≠ 0) (d) : (dats m 0 c).before 7 t d = (dats m 0 c).after 7 t :=
  before_kept (dats m 0 c) 7 rfl (fun _ _ => rfl)
    (fun t ht => ((Window.flush_eq_flushOf _ t).trans (flush_7 t)).trans (decide_eq_false (by have h2 : t.val + 1 < 28 := ht; omega)))
    (fun t => idle_7 t) (fun t t' => by rw [after_7, after_7]) t.val t.isLt h0 d
theorem leaves_7 (c : Dev nD) (t : Fin (cfgA m).N) :
    owns (c : Thread nD τ) (((cfgA m).win 7).stage ((cfgA m).slots t 7)) fullShare ((dats m 0 c).after 7 t) ⊢ (dats m 0 c).leavesExact 7 t :=
  leaves_kept (dats m 0 c) 7 (fun t => idle_7 t) (fun t h d => before_7 m c t h d) ⟨(dats m 0 c).after 7 t⟩ t
theorem before_8 (c : Dev nD) (t : Fin (cfgA m).N) (h0 : t.val ≠ 0) (d) : (dats m 0 c).before 8 t d = (dats m 0 c).after 8 t :=
  before_kept (dats m 0 c) 8 rfl (fun _ _ => rfl)
    (fun t ht => ((Window.flush_eq_flushOf _ t).trans (flush_8 t)).trans (decide_eq_false (by have h2 : t.val + 1 < 28 := ht; omega)))
    (fun t => idle_8 t) (fun t t' => by rw [after_8, after_8]) t.val t.isLt h0 d
theorem leaves_8 (c : Dev nD) (t : Fin (cfgA m).N) :
    owns (c : Thread nD τ) (((cfgA m).win 8).stage ((cfgA m).slots t 8)) fullShare ((dats m 0 c).after 8 t) ⊢ (dats m 0 c).leavesExact 8 t :=
  leaves_kept (dats m 0 c) 8 (fun t => idle_8 t) (fun t h d => before_8 m c t h d) ⟨(dats m 0 c).after 8 t⟩ t

/-! ## The body at a point -/

/-- The body as point `t` calls it. -/
abbrev bodyAt (t : Fin (cfgA m).N) : Prog (TpuEff nD τ sig (Elt F) Λ₀ .tc) PUnit :=
  cc0_llm_int8 (grid0.coords t) (Memref.whole main_arg1) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (spec0_5.stage ((cfgA m).slots t 5)) (hstage0_5 (((cfgA m).slots t 5).cast nbuf0_5)) (spec0_6.stage ((cfgA m).slots t 6)) (hstage0_6 (((cfgA m).slots t 6).cast nbuf0_6)) (spec0_7.stage ((cfgA m).slots t 7)) (hstage0_7 (((cfgA m).slots t 7).cast nbuf0_7)) (spec0_8.stage ((cfgA m).slots t 8)) (hstage0_8 (((cfgA m).slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

theorem defs₀_row (t : Fin (cfgA m).N) :
    defs₀ (F := F) .tc (cfgA m).body ((cfgA m).bodyArgs t ((cfgA m).slots t)) = bodyAt m t := by
  unfold defs₀; rw [Defs.onTc_tc]

/-- The table the body reads, at half its share. -/
theorem table_eq (c : Dev nD) : (Pipeline.ΦT pre0 (tab m 0).1 c : sProp (MT nD τ sig Unit (Elt F) ℕ (UR sig nD τ) ℕ))
    = owns (c : Thread nD τ) (Memref.whole main_arg1) fullShare.right (tA m c) := by
  obtain rfl : c = (0 : Dev nD) := Subsingleton.elim _ _
  rw [owns_whole]
  unfold Pipeline.ΦT Pipeline.prefHeld
  rw [bigSep_univ_eq_bigSepL [(0 : Fin 1)] (by decide) (by decide)]
  rfl

theorem Φ_eq (c : Dev nD) (t : Fin ((cfgA m).N + 1)) : (dats m 0 c).Φ t
    = if t.val = 0 then iprop(Pipeline.ΦA spec0 c ∗ Pipeline.ΦT pre0 (tab m 0).1 c) else kept m c := rfl
theorem Φ_first (c : Dev nD) (t : Fin (cfgA m).N) (h : t.val = 0) : (dats m 0 c).Φ t.castSucc
    = iprop(Pipeline.ΦA spec0 c ∗ Pipeline.ΦT pre0 (tab m 0).1 c) := by
  show (if t.castSucc.val = 0 then _ else _) = _
  rw [if_pos (by simpa using h)]
theorem Φ_later (c : Dev nD) (t : Fin (cfgA m).N) (h : t.val ≠ 0) : (dats m 0 c).Φ t.castSucc = kept m c := by
  show (if t.castSucc.val = 0 then _ else _) = _
  rw [if_neg (by simpa using h)]
theorem Φ_succ (c : Dev nD) (t : Fin (cfgA m).N) : (dats m 0 c).Φ t.succ = kept m c := by
  exact (Φ_eq m c _).trans (if_neg (by simp))

/-- What the body is called with at point `t`. -/
def bodyPre (c : Dev nD) (t : Fin (cfgA m).N) : sProp (MT nD τ sig Unit (Elt F) ℕ (UR sig nD τ) ℕ) :=
  iprop((dats m 0 c).Φ t.castSucc ∗ (dats m 0 c).owesAt () t.castSucc
    ∗ (∃ d, owns (c : Thread nD τ) (((cfgA m).win 0).stage ((cfgA m).slots t 0)) fullShare ((dats m 0 c).before 0 t d))
    ∗ (∃ d, owns (c : Thread nD τ) (((cfgA m).win 1).stage ((cfgA m).slots t 1)) fullShare ((dats m 0 c).before 1 t d))
    ∗ (∃ d, owns (c : Thread nD τ) (((cfgA m).win 2).stage ((cfgA m).slots t 2)) fullShare ((dats m 0 c).before 2 t d))
    ∗ (∃ d, owns (c : Thread nD τ) (((cfgA m).win 3).stage ((cfgA m).slots t 3)) fullShare ((dats m 0 c).before 3 t d))
    ∗ (∃ d, owns (c : Thread nD τ) (((cfgA m).win 4).stage ((cfgA m).slots t 4)) fullShare ((dats m 0 c).before 4 t d))
    ∗ (∃ d, owns (c : Thread nD τ) (((cfgA m).win 5).stage ((cfgA m).slots t 5)) fullShare ((dats m 0 c).before 5 t d))
    ∗ (∃ d, owns (c : Thread nD τ) (((cfgA m).win 6).stage ((cfgA m).slots t 6)) fullShare ((dats m 0 c).before 6 t d))
    ∗ (∃ d, owns (c : Thread nD τ) (((cfgA m).win 7).stage ((cfgA m).slots t 7)) fullShare ((dats m 0 c).before 7 t d))
    ∗ (∃ d, owns (c : Thread nD τ) (((cfgA m).win 8).stage ((cfgA m).slots t 8)) fullShare ((dats m 0 c).before 8 t d)))

/-- And what it returns. -/
def bodyPost (c : Dev nD) (t : Fin (cfgA m).N) : sProp (MT nD τ sig Unit (Elt F) ℕ (UR sig nD τ) ℕ) :=
  iprop((dats m 0 c).Φ t.succ ∗ (dats m 0 c).owesAt () t.succ
    ∗ owns (c : Thread nD τ) (((cfgA m).win 0).stage ((cfgA m).slots t 0)) fullShare ((dats m 0 c).after 0 t)
    ∗ owns (c : Thread nD τ) (((cfgA m).win 1).stage ((cfgA m).slots t 1)) fullShare ((dats m 0 c).after 1 t)
    ∗ owns (c : Thread nD τ) (((cfgA m).win 2).stage ((cfgA m).slots t 2)) fullShare ((dats m 0 c).after 2 t)
    ∗ owns (c : Thread nD τ) (((cfgA m).win 3).stage ((cfgA m).slots t 3)) fullShare ((dats m 0 c).after 3 t)
    ∗ owns (c : Thread nD τ) (((cfgA m).win 4).stage ((cfgA m).slots t 4)) fullShare ((dats m 0 c).after 4 t)
    ∗ owns (c : Thread nD τ) (((cfgA m).win 5).stage ((cfgA m).slots t 5)) fullShare ((dats m 0 c).after 5 t)
    ∗ owns (c : Thread nD τ) (((cfgA m).win 6).stage ((cfgA m).slots t 6)) fullShare ((dats m 0 c).after 6 t)
    ∗ owns (c : Thread nD τ) (((cfgA m).win 7).stage ((cfgA m).slots t 7)) fullShare ((dats m 0 c).after 7 t)
    ∗ owns (c : Thread nD τ) (((cfgA m).win 8).stage ((cfgA m).slots t 8)) fullShare ((dats m 0 c).after 8 t))

theorem lA_length (c : Dev nD) : (lA m c).length ≤ 4096 := hits_length_le _ _

set_option maxHeartbeats 1600000 in
/-- The body at point 0. -/
theorem sound_first (c : Dev nD) (t : Fin (cfgA m).N) (h0 : t.val = 0) :
    bodyPre m c t ⊢ wp frame (wpE (defs₀ (F := F)) Variants.none c none) Set.univ (bodyAt m t) (fun _ => bodyPost m c t) := by
  unfold bodyPre bodyPost bodyAt
  simp only [before_0, before_1, before_2, before_3]
  rw [Φ_first m c t h0, Φ_succ, show (dats m 0 c).owesAt () t.succ = (dats m 0 c).owesAt () t.castSucc from rfl,
    after_0, after_1, after_2, after_3, after_4, after_5, after_6, after_7, after_8, table_eq, iblk_0, iblk_1]
  unfold Pipeline.ΦA kept
  rw [scopedRest0_eq]
  iintro ⟨⟨⟨⟨⟨%s0, S0⟩, ⟨%s1, S1⟩, ⟨%s2, S2⟩, ⟨%s3, S3⟩, ⟨%s4, S4⟩⟩, Hp⟩, Ht⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (first_wp (grid0.coords t) _ _ _ _ _ _ _ _ _ _ _ _ _ _ _ _ _ _ _ _ _ _ _ _ _ _ _ _ _ _ c ((cond1_iff t).mpr h0) fullShare.right fullShare fullShare fullShare fullShare (tA m c) (xA m c) (mA m c) (iblk m c 2 t) (iblk m c 3 t) _ _ _ _ _ s0 s1 s2 s3 s4 _) $$ [Ht H0 H1 H2 H3 H4 H5 H6 H7 H8 S0 S1 S2 S3 S4]
  · isplitl [Ht]; · iexact Ht
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    rw [owns_whole, owns_whole, owns_whole, owns_whole, owns_whole]
    isplitl [S0]; · iexact S0
    isplitl [S1]; · iexact S1
    isplitl [S2]; · iexact S2
    isplitl [S3]; · iexact S3
    iexact S4
  iintro %X %G %hX Ht H0 H1 H2 H3 H4 H5 H6 H7 H8 S0 S1 S2 S3 S4
  isplitl [Hp S0 S1 S2 S3 S4]
  · isplitl [Hp]; · iexact Hp
    isplitl [S0]; · iexact S0
    isplitl [S1]; · iexact S1
    isplitl [S2]; · iexists G; iexact S2
    isplitl [S3]; · iexact S3
    iexists X
    isplitr; · ipureintro; exact hX
    iexact S4
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 1600000 in
/-- The body at a later point. -/
theorem sound_later (c : Dev nD) (t : Fin (cfgA m).N) (h0 : t.val ≠ 0) :
    bodyPre m c t ⊢ wp frame (wpE (defs₀ (F := F)) Variants.none c none) Set.univ (bodyAt m t) (fun _ => bodyPost m c t) := by
  unfold bodyPre bodyPost bodyAt
  simp only [before_0, before_1, before_2, before_3, before_5 m c t h0, before_6 m c t h0, before_7 m c t h0, before_8 m c t h0]
  rw [Φ_later m c t h0, Φ_succ, show (dats m 0 c).owesAt () t.succ = (dats m 0 c).owesAt () t.castSucc from rfl,
    after_0, after_1, after_2, after_3, after_4, after_5, after_6, after_7, after_8, iblk_0, iblk_1]
  unfold kept
  iintro ⟨⟨Hp, S0, S1, ⟨%G, S2⟩, S3, ⟨%X, %hX, S4⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (later_wp (grid0.coords t) _ _ _ _ _ _ _ _ _ _ _ _ _ _ _ _ _ _ _ _ _ _ _ _ _ _ _ _ _ _ c (fun h => h0 ((cond1_iff t).mp h)) (lA m c) (lA_length m c) (fun j hj => hits_nth_lt _ _ j hj) X hX fullShare (iblk m c 2 t) (cbf (mA m c) (xA m c)) (xgA m c) G fullShare (iblk m c 3 t) (scales (mA m c) (xA m c)) _ _) $$ [H2 H3 H4 H8 S0 S1 S2 S3 S4]
  · isplitl [H2]; · iexact H2
    isplitl [H3]; · iexact H3
    isplitl [H4]; · iexact H4
    isplitl [H8]; · iexact H8
    isplitl [S0]; · iexact S0
    isplitl [S1]; · iexact S1
    isplitl [S2]; · iexact S2
    isplitl [S3]; · iexact S3
    iexact S4
  iintro %G' H2 H3 H4 H8 S0 S1 S2 S3 S4
  isplitl [Hp S0 S1 S2 S3 S4]
  · isplitl [Hp]; · iexact Hp
    isplitl [S0]; · iexact S0
    isplitl [S1]; · iexact S1
    isplitl [S2]; · iexists G'; iexact S2
    isplitl [S3]; · iexact S3
    iexists X
    isplitr; · ipureintro; exact hX
    iexact S4
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem sound_body (c : Dev nD) (t : Fin (cfgA m).N) :
    bodyPre m c t ⊢ wp frame (wpE (defs₀ (F := F)) Variants.none c none) Set.univ (bodyAt m t) (fun _ => bodyPost m c t) := by
  by_cases h0 : t.val = 0
  · exact sound_first m c t h0
  · exact sound_later m c t h0

/-- The body does at every point what the grid asks of it. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  exact Idealize.SL.BI.sep_mono (Idealize.SL.BI.Entails.refl _) (Idealize.SL.BI.sep_mono (Idealize.SL.BI.Entails.refl _) (Idealize.SL.BI.sep_mono (Idealize.SL.BI.Entails.refl _) (Idealize.SL.BI.sep_mono (Idealize.SL.BI.Entails.refl _) (Idealize.SL.BI.sep_mono (Idealize.SL.BI.Entails.refl _) (Idealize.SL.BI.sep_mono (Idealize.SL.BI.Entails.refl _) (Idealize.SL.BI.sep_mono (Idealize.SL.BI.Entails.refl _)
    (Idealize.SL.BI.sep_mono (leaves_5 m c t) (Idealize.SL.BI.sep_mono (leaves_6 m c t) (Idealize.SL.BI.sep_mono (leaves_7 m c t) (leaves_8 m c t))))))))))

/-! ## The run and the frame -/

theorem hin (c : Dev nD) : iprop(Pipeline.ΦA spec0 c ∗ Pipeline.ΦT pre0 (tab m 0).1 c) ⊢ (dats m 0 c).Φ 0 := by
  rw [show (dats m 0 c).Φ 0 = iprop(Pipeline.ΦA spec0 c ∗ Pipeline.ΦT pre0 (tab m 0).1 c) from (Φ_eq m c 0).trans (if_pos rfl)]

theorem hout (c : Dev nD) : (dats m 0 c).Φ (Fin.last (cfgA m).N) ⊢ Pipeline.ΦA spec0 c := by
  rw [show (dats m 0 c).Φ (Fin.last (cfgA m).N) = kept m c from (Φ_eq m c _).trans (if_neg (by show ¬ (cfgA m).N = 0; rw [show (cfgA m).N = 28 from N_0]; decide))]
  unfold kept Pipeline.ΦA
  rw [scopedRest0_eq]
  rw [owns_whole, owns_whole, owns_whole]
  iintro ⟨Hp, S0, S1, ⟨%G, S2⟩, S3, ⟨%X, -, S4⟩⟩
  isplitr [Hp]
  · isplitl [S0]; · iexists _; iexact S0
    isplitl [S1]; · iexists _; iexact S1
    isplitl [S2]; · iexists _; rw [← owns_whole]; iexact S2
    isplitl [S3]; · iexists _; iexact S3
    iexists _; rw [← owns_whole]; iexact S4
  · iexact Hp

theorem hpf (c : Dev nD) (k : Fin pre0.K) : V0 m c (Proc.devRef .tc (pre0.ref k)) = (tab m 0).1 k := by
  obtain rfl : c = (0 : Dev nD) := Subsingleton.elim _ _
  rfl

set_option backward.isDefEq.respectTransparency.types false in
set_option maxHeartbeats 800000 in
/-- Every run of the program ends, with the grid's arrays and every other buffer as computed, and every counter at zero. -/
theorem run_main_quiescent : θ_run defs (onTc (τ := τ) (main (F := F))) (s₀ m ρ) (fun r => (Pipeline.FramePost (Pipeline.pin pcfgs (tab m)) (dats m) 0 (Pipeline.afterTail pcfgs (tab m) (dats m) 0 (V0 m) [hostOps1])) r ∧ r.2.sem = fun _ => 0) :=
  Pipeline.θ_run_frameP_around_track (Q' := _) pcfgs (tab m) (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := hpf m) (hin := hin m) (hout := hout m)

/-- The four arguments end as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by exact (by decide : ∀ w, Pipeline.arrRef spec0 w ≠ main_arg0)))).trans (W_main_arg0 m (tab m) (dats m) c),
      ((h.1 c).2 main_arg1 (Pipeline.mem_restRefs_of main_arg1 (by decide) (by exact (by decide : ∀ w, Pipeline.arrRef spec0 w ≠ main_arg1)))).trans (W_main_arg1 m (tab m) (dats m) c),
      ((h.1 c).1 2).trans (((dats m 0 c).arrAt_in 2 rfl _).trans ((A_eq m c 2).trans (V_main_arg2 m c))),
      ((h.1 c).2 main_arg3 (Pipeline.mem_restRefs_of main_arg3 (by decide) (by exact (by decide : ∀ w, Pipeline.arrRef spec0 w ≠ main_arg3)))).trans (W_main_arg3 m (tab m) (dats m) c)⟩, h.2⟩) (run_main_quiescent m ρ)

end Cert.Kernel.Region

end
-- ==== Proof.Words.lean ====
/- The words the kernel computes its loop bounds and offsets from, in closed form, for a count `c ≤ 4096` of outlier
   columns and a column index `d < 4096`; and that the kernel's assumptions hold of them. -/
module

public import proofs.«01_k».proof.Proof.Gen.KernelIdeal.Skeleton
public import Idealize.ShloMosaic.Lib.LoopRemainder
public import Idealize.ShloMosaic.Lib.WordArith
public import Idealize.ShloMosaic.Lib.ValueIdxCore

@[expose] public section

set_option maxRecDepth 16384

noncomputable section

namespace Cert.KernelIdeal.Words

open Cert.KernelIdeal Cert.KernelIdeal.Gen
open Idealize.ShloMosaic Idealize.SL.Sem

/-- The 32-bit word of a number. -/
abbrev wd (n : ℕ) : BitVec 32 := BitVec.ofNat 32 n

theorem subi_zero (x : BitVec 32) : Scalar.subi x 0#32 = x := by simp [Scalar.subi, IntOp.subi]
theorem zero_addi (x : BitVec 32) : Scalar.addi 0#32 x = x := by simp [Scalar.addi, IntOp.addi]

/-- The induction variable of a loop from 0 by steps of 1. -/
theorem iv_zero (k : ℕ) : Scf.iv 0#32 1#32 k = wd k := by simp [Scf.iv]
/-- The induction variable of a loop from 1 by steps of 1. -/
theorem iv_one (k : ℕ) : Scf.iv 1#32 1#32 k = wd (k + 1) := by
  simp only [Scf.iv, BitVec.mul_one, wd, BitVec.ofNat_add, BitVec.add_comm]

/-- The number of trips between two small numbers. -/
theorem trips_wd (a b : ℕ) (h : a < 2 ^ 31) (hb : b < 2 ^ 31) : Scf.trips (wd a) (wd b) 1#32 = b - a := by
  have h1 : (1#32 : BitVec 32).toInt = 1 := by decide
  unfold Scf.trips
  rw [h1, WordArith.toInt_ofNat_small _ h, WordArith.toInt_ofNat_small _ hb]
  omega

/-- Such a loop has a meaning. -/
theorem ok_wd (a b : ℕ) (h : a < 2 ^ 30) (hb : b < 2 ^ 30) : Scf.OK (wd a) (wd b) 1#32 := by
  have h1 : (1#32 : BitVec 32).toInt = 1 := by decide
  refine ⟨by rw [h1]; decide, ?_⟩
  rw [trips_wd a b (by omega) (by omega), h1, WordArith.toInt_ofNat_small _ (by omega)]
  norm_num
  omega

/-! ## The first loop -/

theorem t1_trips : k0_t1_loop.trips = 4096 := by decide +kernel

theorem t1_lt (k : Fin k0_t1_loop.trips) : k.val < 4096 := lt_of_lt_of_eq k.isLt t1_trips

theorem off1_eq (k : Fin k0_t1_loop.trips) : k0_off1 k = ![k.val] := by
  have hk := t1_lt k
  unfold k0_off1
  simp only [iv_zero, Scalar.indexCast]
  rw [show (wd k.val).toNat = k.val from WordArith.toNat_ofNat_of_lt _ (by omega)]

theorem off2_eq (n : ℕ) (hn : n < 4096) : k0_off2 (wd n) = ![n] := by
  unfold k0_off2
  simp only [Scalar.indexCast]
  rw [show (wd n).toNat = n from WordArith.toNat_ofNat_of_lt _ (by omega)]

theorem chk1_of (i : grid0.Coords) (n : ℕ) (hn : n < 4096) (v : BitVec 32) : k0_chk1 i (wd n) v := by
  intro _ _ a
  rw [off2_eq n hn]
  match a with
  | ⟨0, _⟩ => show n + 1 ≤ 4096; omega

theorem cond2_iff (v : BitVec 32) : k0_cond2 v = 1#1 ↔ v = 1#32 := by
  unfold k0_cond2
  by_cases h : v = 1#32
  · subst h; exact ⟨fun _ => rfl, fun _ => by decide⟩
  · refine ⟨fun h' => ?_, fun h' => absurd h' h⟩
    exfalso
    have : Scalar.cmpi .eq v 1#32 = 0#1 := by
      show BitVec.ofBool (v == 1#32) = 0#1
      rw [beq_false_of_ne h]; rfl
    simp only [this] at h'
    exact absurd h' (by decide)

/-! ## The gather of the activations' columns -/

theorem t2_ub (v : BitVec 32) :
    Scalar.addi 0#32 (Scalar.muli (Scalar.divsi (Scalar.subi v 0#32) 1#32) 1#32) = v := by
  rw [Scalar.muli_divsi_one, zero_addi, subi_zero]

theorem t2_trips (c : ℕ) (hc : c ≤ 4096) : (k0_t2_loop (wd c)).trips = c := by
  show Scf.trips (0#32) (Scalar.addi 0#32 (Scalar.muli (Scalar.divsi (Scalar.subi (wd c) 0#32) 1#32) 1#32)) 1#32 = c
  rw [t2_ub]
  exact trips_wd 0 c (by omega) (by omega)

theorem shr_toNat : ∀ k : Fin 4097, (Scalar.shrsi (wd k.val) 7#32).toNat = k.val / 128 := by decide +kernel
theorem shl_toNat : ∀ k : Fin 4097, (Scalar.shli (Scalar.shrsi (wd k.val) 7#32) 7#32).toNat = k.val / 128 * 128 := by
  decide +kernel

theorem off3_eq (c : ℕ) (hc : c ≤ 4096) (k : Fin (k0_t2_loop (wd c)).trips) : k0_off3 (wd c) k = ![k.val] := by
  have hk : k.val < c := lt_of_lt_of_eq k.isLt (t2_trips c hc)
  unfold k0_off3
  simp only [iv_zero, Scalar.indexCast]
  rw [show (wd k.val).toNat = k.val from WordArith.toNat_ofNat_of_lt _ (by omega)]

theorem off4_eq (d : ℕ) (hd : d < 4096) : k0_off4 (wd d) = ![0, d / 128 * 128] := by
  unfold k0_off4
  simp only [Scalar.indexCast]
  rw [shl_toNat ⟨d, by omega⟩]

theorem off5_eq (c : ℕ) (hc : c ≤ 4096) (k : Fin (k0_t2_loop (wd c)).trips) : k0_off5 (wd c) k = ![k.val / 128, 0, 0] := by
  have hk : k.val < c := lt_of_lt_of_eq k.isLt (t2_trips c hc)
  unfold k0_off5
  simp only [iv_zero, Scalar.indexCast]
  rw [shr_toNat ⟨k.val, by omega⟩]

theorem chk3_of (i : grid0.Coords) (d : ℕ) (hd : d < 4096) : k0_chk3 i (wd d) := by
  refine ⟨fun _ => ?_, fun _ a => ?_⟩
  · show 128 ∣ (Scalar.shli (Scalar.shrsi (wd d) 7#32) 7#32).toNat
    rw [shl_toNat ⟨d, by omega⟩]; exact Dvd.intro_left _ rfl
  · rw [off4_eq d hd]
    match a with
    | ⟨0, _⟩ => show 0 + 256 ≤ 256; omega
    | ⟨1, _⟩ => show d / 128 * 128 + 128 ≤ 4096; omega

theorem chk2_of (i : grid0.Coords) (c : ℕ) (hc : c ≤ 4096) : k0_chk2 i (wd c) := by
  have hk : ∀ k : Fin (k0_t2_loop (wd c)).trips, k.val < c := fun k => lt_of_lt_of_eq k.isLt (t2_trips c hc)
  refine ⟨fun _ => ?_, fun k _ a => ?_, fun k _ a => ?_, fun k _ hinb => ?_, fun _ => Scf.rem_ok _ _,
    fun k => (Scf.rem_no_trip _ _ k).elim, fun k => (Scf.rem_no_trip _ _ k).elim, fun k => (Scf.rem_no_trip _ _ k).elim⟩
  · show Scf.OK (0#32) (Scalar.addi 0#32 (Scalar.muli (Scalar.divsi (Scalar.subi (wd c) 0#32) 1#32) 1#32)) 1#32
    rw [t2_ub]; exact ok_wd 0 c (by omega) (by omega)
  · have := hk k
    rw [off3_eq c hc k]
    match a with
    | ⟨0, _⟩ => show k.val + 1 ≤ 4096; omega
  · have := hk k
    rw [off5_eq c hc k]
    match a with
    | ⟨0, _⟩ => show k.val / 128 + 1 ≤ 32; omega
    | ⟨1, _⟩ => show 0 + 256 ≤ 256; omega
    | ⟨2, _⟩ => show 0 + 128 ≤ 128; omega
  · have h5 := off5_eq c hc k
    rw [Rect.packedRows_iff_at]
    show Shape.PackedRowsAt S32x256x128 2 (k0_off5 (wd c) k) S1x256x128.size (fun _ => 1)
    rw [h5]
    have : ∀ q : Fin 33, Shape.PackedRowsAt S32x256x128 2 ![q.val, 0, 0] S1x256x128.size (fun _ => 1) := by decide +kernel
    exact this ⟨k.val / 128, by have := hk k; omega⟩

/-! ## The gather of the weights' columns: the first chunk -/

/-- The number of columns of a chunk, from the columns left. -/
theorem min_wd : ∀ d : Fin 4097, Scalar.minsi (wd d.val) 128#32 = wd (min d.val 128) := by decide +kernel

theorem t4_ub (c : ℕ) (hc : c ≤ 4096) :
    Scalar.addi 0#32 (Scalar.muli (Scalar.divsi (Scalar.subi (Scalar.minsi (Scalar.subi (wd c) 0#32) 128#32) 0#32) 1#32) 1#32)
      = wd (min c 128) := by
  rw [Scalar.muli_divsi_one, zero_addi, subi_zero, subi_zero]
  exact min_wd ⟨c, by omega⟩

theorem t4_trips (c : ℕ) (hc : c ≤ 4096) : (k0_t4_loop (wd c)).trips = min c 128 := by
  show Scf.trips (0#32) (Scalar.addi 0#32 (Scalar.muli (Scalar.divsi (Scalar.subi (Scalar.minsi (Scalar.subi (wd c) 0#32) 128#32) 0#32) 1#32) 1#32)) 1#32 = _
  rw [t4_ub c hc]
  exact trips_wd 0 _ (by omega) (by omega)

theorem off9_eq (c : ℕ) (hc : c ≤ 4096) (k : Fin (k0_t4_loop (wd c)).trips) : k0_off9 (wd c) k = ![k.val] := by
  have hk : k.val < min c 128 := lt_of_lt_of_eq k.isLt (t4_trips c hc)
  unfold k0_off9
  simp only [iv_zero, Scalar.indexCast, zero_addi]
  rw [show (wd k.val).toNat = k.val from WordArith.toNat_ofNat_of_lt _ (by omega)]

theorem off10_eq (d : ℕ) (hd : d < 4096) : k0_off10 (wd d) = ![0, d / 128 * 128] := by
  unfold k0_off10
  simp only [Scalar.indexCast]
  rw [shl_toNat ⟨d, by omega⟩]

theorem chk5_of (c : ℕ) (hc : c ≤ 4096) : k0_chk5 (wd c) := by
  refine ⟨?_, fun k a => ?_, Scf.rem_ok _ _, fun k => (Scf.rem_no_trip _ _ k).elim⟩
  · show Scf.OK (0#32) (Scalar.addi 0#32 (Scalar.muli (Scalar.divsi (Scalar.subi (Scalar.minsi (Scalar.subi (wd c) 0#32) 128#32) 0#32) 1#32) 1#32)) 1#32
    rw [t4_ub c hc]; exact ok_wd 0 _ (by omega) (by omega)
  · have hk : k.val < min c 128 := lt_of_lt_of_eq k.isLt (t4_trips c hc)
    rw [off9_eq c hc k]
    match a with
    | ⟨0, _⟩ => show k.val + 1 ≤ 4096; omega

theorem chk6_of (d : ℕ) (hd : d < 4096) : k0_chk6 (wd d) := by
  refine ⟨?_, fun a => ?_⟩
  · show 128 ∣ (Scalar.shli (Scalar.shrsi (wd d) 7#32) 7#32).toNat
    rw [shl_toNat ⟨d, by omega⟩]; exact Dvd.intro_left _ rfl
  · rw [off10_eq d hd]
    match a with
    | ⟨0, _⟩ => show 0 + 512 ≤ 512; omega
    | ⟨1, _⟩ => show d / 128 * 128 + 128 ≤ 4096; omega

/-! ## The further chunks -/

/-- The number of chunks. -/
abbrev nch (c : ℕ) : ℕ := (c + 127) / 128

theorem nch_wd : ∀ c : Fin 4097, Scalar.shrsi (Scalar.addi (wd c.val) 127#32) 7#32 = wd (nch c.val) := by decide +kernel

/-- More than one chunk. -/
theorem cond3_iff (c : ℕ) (hc : c ≤ 4096) : k0_cond3 (wd c) = 1#1 ↔ 1 < nch c := by
  have h : ∀ c : Fin 4097, k0_cond3 (wd c.val) = 1#1 ↔ 1 < nch c.val := by decide +kernel
  exact h ⟨c, by omega⟩

theorem t6_ub (c : ℕ) (hc : c ≤ 4096) :
    Scalar.addi 1#32 (Scalar.muli (Scalar.divsi (Scalar.subi (Scalar.shrsi (Scalar.addi (wd c) 127#32) 7#32) 1#32) 1#32) 1#32)
      = wd (nch c) := by
  rw [Scalar.muli_divsi_one, nch_wd ⟨c, by omega⟩]
  show 1#32 + (wd (nch c) - 1#32) = _
  rw [BitVec.add_comm, BitVec.sub_add_cancel]

theorem t6_trips (c : ℕ) (hc : c ≤ 4096) : (k0_t6_loop (wd c)).trips = nch c - 1 := by
  show Scf.trips (1#32) (Scalar.addi 1#32 (Scalar.muli (Scalar.divsi (Scalar.subi (Scalar.shrsi (Scalar.addi (wd c) 127#32) 7#32) 1#32) 1#32) 1#32)) 1#32 = _
  rw [t6_ub c hc]
  exact trips_wd 1 _ (by omega) (by unfold nch; omega)

/-- Before a further chunk some columns are left. -/
theorem t6_lt (c : ℕ) (hc : c ≤ 4096) (k : Fin (k0_t6_loop (wd c)).trips) : (k.val + 1) * 128 < c := by
  have hk := lt_of_lt_of_eq k.isLt (t6_trips c hc)
  unfold nch at hk
  omega

theorem t7_left (c : ℕ) (k : ℕ) (h : (k + 1) * 128 ≤ c) :
    Scalar.subi (wd c) (Scalar.muli (wd (k + 1)) 128#32) = wd (c - (k + 1) * 128) := by
  show wd c - wd (k + 1) * 128#32 = _
  rw [show wd (k + 1) * 128#32 = wd ((k + 1) * 128) from (BitVec.ofNat_mul _ _).symm]
  conv_lhs => rw [show c = (c - (k + 1) * 128) + (k + 1) * 128 by omega]
  rw [show wd ((c - (k + 1) * 128) + (k + 1) * 128) = wd (c - (k + 1) * 128) + wd ((k + 1) * 128) from BitVec.ofNat_add _ _]
  rw [BitVec.add_sub_cancel]

theorem t7_ub (c : ℕ) (hc : c ≤ 4096) (k : ℕ) (h : (k + 1) * 128 ≤ c) :
    Scalar.addi 0#32 (Scalar.muli (Scalar.divsi (Scalar.subi (Scalar.minsi (Scalar.subi (wd c) (Scalar.muli (Scf.iv 1#32 1#32 k) 128#32)) 128#32) 0#32) 1#32) 1#32)
      = wd (min (c - (k + 1) * 128) 128) := by
  rw [Scalar.muli_divsi_one, zero_addi, subi_zero, iv_one, t7_left c k h]
  exact min_wd ⟨c - (k + 1) * 128, by omega⟩

theorem t7_trips (c : ℕ) (hc : c ≤ 4096) (k : Fin (k0_t6_loop (wd c)).trips) :
    (k0_t7_loop (wd c) k (wd c)).trips = min (c - (k.val + 1) * 128) 128 := by
  show Scf.trips (0#32) (Scalar.addi 0#32 (Scalar.muli (Scalar.divsi (Scalar.subi (Scalar.minsi (Scalar.subi (wd c) (Scalar.muli (Scf.iv 1#32 1#32 k.val) 128#32)) 128#32) 0#32) 1#32) 1#32)) 1#32 = _
  rw [t7_ub c hc k.val (le_of_lt (t6_lt c hc k))]
  exact trips_wd 0 _ (by omega) (by omega)

theorem off13_eq (c : ℕ) (hc : c ≤ 4096) (k : Fin (k0_t6_loop (wd c)).trips) (l : Fin (k0_t7_loop (wd c) k (wd c)).trips) :
    k0_off13 (wd c) k (wd c) l = ![(k.val + 1) * 128 + l.val] := by
  have hk := t6_lt c hc k
  have hl : l.val < min (c - (k.val + 1) * 128) 128 := lt_of_lt_of_eq l.isLt (t7_trips c hc k)
  unfold k0_off13
  simp only [iv_zero, iv_one, Scalar.indexCast]
  rw [show Scalar.addi (Scalar.muli (wd (k.val + 1)) 128#32) (wd l.val) = wd ((k.val + 1) * 128 + l.val) from by
    show wd (k.val + 1) * 128#32 + wd l.val = _
    rw [show wd (k.val + 1) * 128#32 = wd ((k.val + 1) * 128) from (BitVec.ofNat_mul _ _).symm]
    exact (BitVec.ofNat_add _ _).symm]
  rw [show (wd ((k.val + 1) * 128 + l.val)).toNat = (k.val + 1) * 128 + l.val from WordArith.toNat_ofNat_of_lt _ (by omega)]

theorem off14_eq (d : ℕ) (hd : d < 4096) : k0_off14 (wd d) = ![0, d / 128 * 128] := by
  unfold k0_off14
  simp only [Scalar.indexCast]
  rw [shl_toNat ⟨d, by omega⟩]

theorem off17_eq (c : ℕ) (hc : c ≤ 4096) (k : Fin (k0_t6_loop (wd c)).trips) : k0_off17 (wd c) k = ![k.val + 1, 0, 0] := by
  have hk := t6_lt c hc k
  unfold k0_off17
  simp only [iv_one, Scalar.indexCast]
  rw [show (wd (k.val + 1)).toNat = k.val + 1 from WordArith.toNat_ofNat_of_lt _ (by omega)]

theorem chk8_of (c : ℕ) (hc : c ≤ 4096) : k0_chk8 (wd c) := by
  refine ⟨fun _ => ?_, fun k _ a => ?_, fun _ => Scf.rem_ok _ _, fun k => (Scf.rem_no_trip _ _ k).elim⟩
  · show Scf.OK (1#32) (Scalar.addi 1#32 (Scalar.muli (Scalar.divsi (Scalar.subi (Scalar.shrsi (Scalar.addi (wd c) 127#32) 7#32) 1#32) 1#32) 1#32)) 1#32
    rw [t6_ub c hc]; exact ok_wd 1 _ (by omega) (by unfold nch; omega)
  · have := t6_lt c hc k
    rw [off17_eq c hc k]
    match a with
    | ⟨0, _⟩ => show k.val + 1 + 1 ≤ 32; omega
    | ⟨1, _⟩ => show 0 + 256 ≤ 256; omega
    | ⟨2, _⟩ => show 0 + 128 ≤ 128; omega

theorem chk9_of (c : ℕ) (hc : c ≤ 4096) (k : Fin (k0_t6_loop (wd c)).trips) : k0_chk9 (wd c) k (wd c) := by
  have hk := t6_lt c hc k
  refine ⟨fun _ => ?_, fun l _ a => ?_, fun _ => Scf.rem_ok _ _, fun l => (Scf.rem_no_trip _ _ l).elim⟩
  · show Scf.OK (0#32) (Scalar.addi 0#32 (Scalar.muli (Scalar.divsi (Scalar.subi (Scalar.minsi (Scalar.subi (wd c) (Scalar.muli (Scf.iv 1#32 1#32 k.val) 128#32)) 128#32) 0#32) 1#32) 1#32)) 1#32
    rw [t7_ub c hc k.val (le_of_lt hk)]; exact ok_wd 0 _ (by omega) (by omega)
  · have hl : l.val < min (c - (k.val + 1) * 128) 128 := lt_of_lt_of_eq l.isLt (t7_trips c hc k)
    rw [off13_eq c hc k l]
    match a with
    | ⟨0, _⟩ => show (k.val + 1) * 128 + l.val + 1 ≤ 4096; omega

theorem chk10_of (v28 : BitVec 32) (d : ℕ) (hd : d < 4096) : k0_chk10 v28 (wd d) := by
  refine ⟨fun _ => ?_, fun _ a => ?_⟩
  · show 128 ∣ (Scalar.shli (Scalar.shrsi (wd d) 7#32) 7#32).toNat
    rw [shl_toNat ⟨d, by omega⟩]; exact Dvd.intro_left _ rfl
  · rw [off14_eq d hd]
    match a with
    | ⟨0, _⟩ => show 0 + 512 ≤ 512; omega
    | ⟨1, _⟩ => show d / 128 * 128 + 128 ≤ 4096; omega

end Cert.KernelIdeal.Words
-- ==== Proof.Spec.lean ====
/- What the kernel's loops compute, as recursions over the list of outlier columns: the list itself, the gathered
   columns of the activations and of the weights, chunk by chunk, and the side product they give. -/
module

public import proofs.«01_k».proof.Proof.OwnRules
public import proofs.«01_k».proof.Proof.Words

@[expose] public section

set_option maxRecDepth 16384

noncomputable section

namespace Cert.KernelIdeal.Spec

open Cert.KernelIdeal Cert.KernelIdeal.Gen Cert.KernelIdeal.Words
open Idealize.ShloMosaic Idealize.ShloMosaic.ValueIdx Idealize.SL.Sem

variable {F : FTy → Type} [FloatOps F]

/-- The index of the list of 4096 words that a number names (modulo 4096). -/
def at1 (j : ℕ) : S4096.Idx := ix1 ⟨j % 4096, Nat.mod_lt _ (by decide)⟩

/-- The columns below `k` that the mask marks, in increasing order. -/
def hits (T : S4096.Idx → BitVec 32) (k : ℕ) : List ℕ := (List.range k).filter (fun d => decide (T (at1 d) = 1#32))

theorem hits_zero (T : S4096.Idx → BitVec 32) : hits T 0 = [] := rfl

theorem hits_succ_of (T : S4096.Idx → BitVec 32) (k : ℕ) (h : T (at1 k) = 1#32) : hits T (k + 1) = hits T k ++ [k] := by
  unfold hits
  rw [List.range_succ, List.filter_append]
  simp [h]

theorem hits_succ_of_not (T : S4096.Idx → BitVec 32) (k : ℕ) (h : ¬ T (at1 k) = 1#32) : hits T (k + 1) = hits T k := by
  unfold hits
  rw [List.range_succ, List.filter_append]
  simp [h]

theorem hits_length_le (T : S4096.Idx → BitVec 32) (k : ℕ) : (hits T k).length ≤ k := by
  unfold hits
  exact (List.length_filter_le _ _).trans_eq List.length_range

/-- The `j`-th entry of the list. -/
abbrev nth (L : List ℕ) (j : ℕ) : ℕ := L.getD j 0

theorem hits_nth_lt (T : S4096.Idx → BitVec 32) (k j : ℕ) (h : j < (hits T k).length) : nth (hits T k) j < k := by
  unfold nth
  rw [show (hits T k).getD j 0 = (hits T k)[j] by simp [List.getD, h]]
  have := List.getElem_mem h
  exact List.mem_range.mp (List.mem_of_mem_filter this)

/-- The words `X` start with the entries of `L`. -/
def Listed (L : List ℕ) (X : S4096.Idx → BitVec 32) : Prop := ∀ j, j < L.length → X (at1 j) = wd (nth L j)

/-- The block of 128 columns of the activations that holds column `d`. -/
def xBlk {V : Type} (x : S256x4096.Idx → V) (d : ℕ) : S256x128.Idx → V :=
  fun y => x (ix2 (y 0) ⟨(d / 128 * 128 + (y 1).val) % 4096, Nat.mod_lt _ (by decide)⟩)

/-- The block of 128 columns of the weights that holds column `d`. -/
def wBlk {V : Type} (w : S512x4096.Idx → V) (d : ℕ) : S512x128.Idx → V :=
  fun y => w (ix2 (y 0) ⟨(d / 128 * 128 + (y 1).val) % 4096, Nat.mod_lt _ (by decide)⟩)

/-- Chunk `q` of the gathered columns. -/
def chunk {V : Type} (X : S32x256x128.Idx → V) (q : ℕ) : S1x256x128.Idx → V :=
  fun y => X (ix3 ⟨q % 32, Nat.mod_lt _ (by decide)⟩ (y 1) (y 2))

/-- The gathered columns with chunk `q` replaced. -/
def putChunk {V : Type} (X : S32x256x128.Idx → V) (q : ℕ) (v : S1x256x128.Idx → V) : S32x256x128.Idx → V :=
  fun y => if (y 0).val = q then v (ix3 0 (y 1) (y 2)) else X y

/-- The lane numbers of the gather of the activations. -/
abbrev lanesX : IVec S256x128 32 := iota .tc S256x128 32 [1] iota_S256x128_d1_w32

/-- A chunk after column `d` of the activations, from its block `xb`, is put at lane `k` modulo 128. -/
def gx (k d : ℕ) (xb : Vec F S256x128 .bf16) (cur : Vec F S1x256x128 .bf16) : FVec F S1x256x128 .bf16 :=
  shapeCast S1x256x128 (truncf .bf16 (select (cmpi .eq lanesX (broadcast S256x128 (Scalar.andi (wd k) 127#32)))
    (dynamicRotate 1 (Scalar.andi (Scalar.subi (wd k) (wd d)) 127#32) none
      (extf .f32 (shapeCast S256x128 xb shapeCasts_S256x128_S256x128) bitsLt_bf16_f32) rotates_S256x128_d1)
    (extf .f32 (shapeCast S256x128 cur shapeCasts_S1x256x128_S256x128) bitsLt_bf16_f32)) bitsLt_bf16_f32)
    shapeCasts_S256x128_S1x256x128

/-- The gathered weights after column `d`, from its block `wb`, is put at lane `k`. -/
def gw (k d : ℕ) (wb : Vec F S512x128 .i8) (cur : Vec F S128x128 .i32) : IVec S128x128 32 :=
  shapeCast S128x128 (select (cmpi .eq (iota .tc S128x128 32 [1] iota_S128x128_d1_w32) (broadcast S128x128 (wd k)))
    (dynamicRotate 1 (Scalar.andi (Scalar.subi (wd k) (wd d)) 127#32) none
      (bitcast S128x128 32 wb bitcasts_S512x128_w8_S128x128_w32) rotates_S128x128_d1) cur)
    shapeCasts_S128x128_S128x128

theorem pay83_eq (v351 : BitVec 32) (t : Fin (k0_t2_loop v351).trips) (d : ℕ) (xb : Vec F S256x128 .bf16)
    (cur : Vec F S1x256x128 .bf16) : k0_pay83 lanesX v351 t (wd d) xb cur = gx t.val d xb cur := by
  unfold k0_pay83 gx
  simp only [iv_zero]

theorem pay87_eq (v12 : BitVec 32) (t : Fin (k0_t4_loop v12).trips) (d : ℕ) (wb : Vec F S512x128 .i8)
    (cur : Vec F S128x128 .i32) : k0_pay87 (F := F) v12 t (wd d) wb cur = gw (F := F) t.val d wb cur := by
  unfold k0_pay87 gw
  simp only [iv_zero]

theorem pay3_eq (v28 : BitVec 32) (k : Fin (k0_t6_loop v28).trips) (v66 : BitVec 32) (t : Fin (k0_t7_loop v28 k v66).trips)
    (d : ℕ) (wb : Vec F S512x128 .i8) (cur : Vec F S128x128 .i32) :
    k0_pay3 (F := F) v28 k v66 t (wd d) wb cur = gw (F := F) t.val d wb cur := by
  unfold k0_pay3 gw
  simp only [iv_zero]

/-- The gathered columns of the activations after the first `k` entries of the list. -/
def xgK (x : Vec F S256x4096 .bf16) (L : List ℕ) : ℕ → Vec F S32x256x128 .bf16
  | 0 => k0_pay82
  | k + 1 => putChunk (xgK x L k) (k / 128) (gx k (nth L k) (xBlk x (nth L k)) (chunk (xgK x L k) (k / 128)))

/-- The gathered columns of the weights after `l` entries of the list from entry `base` on, from `g`. -/
def gK (w : Vec F S512x4096 .i8) (L : List ℕ) (base : ℕ) (g : Vec F S128x128 .i32) : ℕ → Vec F S128x128 .i32
  | 0 => g
  | l + 1 => gw (F := F) l (nth L (base + l)) (wBlk w (nth L (base + l))) (gK w L base g l)

/-- The gathered columns of the weights at chunk `q`: each chunk's are put over the chunk before's. -/
def gAt (w : Vec F S512x4096 .i8) (L : List ℕ) : ℕ → Vec F S128x128 .i32
  | 0 => gK w L 0 (k0_pay86) (min L.length 128)
  | q + 1 => gK w L ((q + 1) * 128) (gAt w L q) (min (L.length - (q + 1) * 128) 128)

/-- The side product through chunk `q`. -/
def side (w : Vec F S512x4096 .i8) (Xg : Vec F S32x256x128 .bf16) (L : List ℕ) : ℕ → FVec F S256x512 .f32
  | 0 => k0_pay89 (gAt w L 0) (chunk Xg 0)
  | q + 1 => k0_pay5 (side w Xg L q) (gAt w L (q + 1)) (chunk Xg (q + 1))

/-! ## The rectangles of the loops' loads and stores -/

theorem emb_at1 (o : Fin 1 → ℕ) (h : ∀ a, o a + S1.size a ≤ S4096.size a) (n : ℕ) (ho : o = ![n])
    (x : (Rect.unit (s := S4096) o S1.size h).shape.Idx) : (Rect.unit (s := S4096) o S1.size h).emb x = at1 n := by
  subst ho
  have hn : n + 1 ≤ 4096 := h 0
  have hx : (x 0).val < 1 := (x 0).isLt
  funext a
  match a with
  | ⟨0, _⟩ =>
    refine Fin.ext ?_
    show n + 1 * (x 0).val = n % 4096
    rw [Nat.mod_eq_of_lt (by omega)]; omega

theorem emb_xBlk {V : Type} (X : S256x4096.Idx → V) (o : Fin 2 → ℕ) (h : ∀ a, o a + S256x128.size a ≤ S256x4096.size a) (d : ℕ)
    (ho : o = ![0, d / 128 * 128]) :
    (fun x => X ((Rect.unit (s := S256x4096) o S256x128.size h).emb x)) = xBlk X d := by
  subst ho
  have hn : d / 128 * 128 + 128 ≤ 4096 := h 1
  funext x
  have hx : (x 1).val < 128 := (x 1).isLt
  unfold xBlk
  congr 1
  funext a
  match a with
  | ⟨0, _⟩ => refine Fin.ext ?_; show 0 + 1 * (x 0).val = (x 0).val; omega
  | ⟨1, _⟩ =>
    refine Fin.ext ?_
    show d / 128 * 128 + 1 * (x 1).val = (d / 128 * 128 + (x 1).val) % 4096
    rw [Nat.mod_eq_of_lt (by omega)]; omega

theorem emb_wBlk {V : Type} (X : S512x4096.Idx → V) (o : Fin 2 → ℕ) (h : ∀ a, o a + S512x128.size a ≤ S512x4096.size a) (d : ℕ)
    (ho : o = ![0, d / 128 * 128]) :
    (fun x => X ((Rect.unit (s := S512x4096) o S512x128.size h).emb x)) = wBlk X d := by
  subst ho
  have hn : d / 128 * 128 + 128 ≤ 4096 := h 1
  funext x
  have hx : (x 1).val < 128 := (x 1).isLt
  unfold wBlk
  congr 1
  funext a
  match a with
  | ⟨0, _⟩ => refine Fin.ext ?_; show 0 + 1 * (x 0).val = (x 0).val; omega
  | ⟨1, _⟩ =>
    refine Fin.ext ?_
    show d / 128 * 128 + 1 * (x 1).val = (d / 128 * 128 + (x 1).val) % 4096
    rw [Nat.mod_eq_of_lt (by omega)]; omega

theorem emb_ix3 (o : Fin 3 → ℕ) (h : ∀ a, o a + S1x256x128.size a ≤ S32x256x128.size a) (q : ℕ)
    (ho : o = ![q, 0, 0]) (x : (Rect.unit (s := S32x256x128) o S1x256x128.size h).shape.Idx) :
    (Rect.unit (s := S32x256x128) o S1x256x128.size h).emb x = ix3 ⟨q % 32, Nat.mod_lt _ (by decide)⟩ (x 1) (x 2) := by
  subst ho
  have hn : q + 1 ≤ 32 := h 0
  have hx : (x 0).val < 1 := (x 0).isLt
  funext a
  match a with
  | ⟨0, _⟩ =>
    refine Fin.ext ?_
    show q + 1 * (x 0).val = q % 32
    rw [Nat.mod_eq_of_lt (by omega)]; omega
  | ⟨1, _⟩ => refine Fin.ext ?_; show 0 + 1 * (x 1).val = (x 1).val; omega
  | ⟨2, _⟩ => refine Fin.ext ?_; show 0 + 1 * (x 2).val = (x 2).val; omega

theorem emb_chunk {V : Type} (X : S32x256x128.Idx → V) (o : Fin 3 → ℕ) (h : ∀ a, o a + S1x256x128.size a ≤ S32x256x128.size a) (q : ℕ)
    (ho : o = ![q, 0, 0]) :
    (fun x => X ((Rect.unit (s := S32x256x128) o S1x256x128.size h).emb x)) = chunk X q := by
  funext x
  rw [emb_ix3 o h q ho x]
  rfl

theorem over_chunk {V : Type} (X : S32x256x128.Idx → V) (o : Fin 3 → ℕ) (h : ∀ a, o a + S1x256x128.size a ≤ S32x256x128.size a) (q : ℕ)
    (ho : o = ![q, 0, 0]) (v : S1x256x128.Idx → V) :
    OwnRules.over (Rect.unit (s := S32x256x128) o S1x256x128.size h) v X = putChunk X q v := by
  have hn : q + 1 ≤ 32 := by have := h 0; rw [ho] at this; exact this
  funext y
  unfold putChunk
  by_cases hy : (y 0).val = q
  · rw [if_pos hy]
    have : y = (Rect.unit (s := S32x256x128) o S1x256x128.size h).emb (ix3 0 (y 1) (y 2) : S1x256x128.Idx) := by
      rw [emb_ix3 o h q ho]
      funext a
      match a with
      | ⟨0, _⟩ => refine Fin.ext ?_; show (y 0).val = q % 32; rw [Nat.mod_eq_of_lt (by omega)]; exact hy
      | ⟨1, _⟩ => rfl
      | ⟨2, _⟩ => rfl
    conv_lhs => rw [this]
    rw [OwnRules.over_emb]
  · rw [if_neg hy, OwnRules.over_of_not]
    intro x hx
    rw [emb_ix3 o h q ho] at hx
    apply hy
    rw [← hx]
    show q % 32 = q
    exact Nat.mod_eq_of_lt (by omega)

/-- A rectangle of the whole shape reads, and overwrites, everything. -/
theorem emb_full {V : Type} {s : Shape} (X : s.Idx → V) (o : Fin s.rank → ℕ) (h : ∀ a, o a + s.size a ≤ s.size a) :
    (fun x => X ((Rect.unit (s := s) o s.size h).emb x)) = X := by
  funext x
  congr 1
  funext a
  refine Fin.ext ?_
  have := h a
  show o a + 1 * (x a).val = (x a).val
  omega

theorem over_full {V : Type} {s : Shape} (X : s.Idx → V) (o : Fin s.rank → ℕ) (h : ∀ a, o a + s.size a ≤ s.size a) (v : s.Idx → V) :
    OwnRules.over (Rect.unit (s := s) o s.size h) v X = v := by
  have := emb_full (fun x => OwnRules.over (Rect.unit (s := s) o s.size h) v X x) o h
  exact this.symm.trans (funext fun x => OwnRules.over_emb _ _ _ x)

end Cert.KernelIdeal.Spec
-- ==== Proof.ColLoops.lean ====
/- The loop that lists the outlier columns. -/
module

public import proofs.«01_k».proof.Proof.Spec
public import proofs.«01_k».proof.Proof.Gen.KernelIdeal.Launch

@[expose] public section

set_option maxRecDepth 16384

noncomputable section

namespace Cert.KernelIdeal.ColLoops

open Cert.KernelIdeal Cert.KernelIdeal.Gen Cert.KernelIdeal.Words Cert.KernelIdeal.Spec Cert.OwnRules
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The weakest precondition of a piece of the kernel's body on core `c`. -/
abbrev WP (c : Dev nD) {α : Type} (p : Prog (TpuEff nD τ sig (Elt F) Λ₀ .tc) α) (Q : α → sProp (MT nD τ sig Unit (Elt F) ℕ (UR sig nD τ) ℕ)) :
    sProp (MT nD τ sig Unit (Elt F) ℕ (UR sig nD τ) ℕ) :=
  wp (M := MT nD τ sig Unit (Elt F) ℕ (UR sig nD τ) ℕ) frame (wpE defs₀ Variants.none (c : Thread nD τ) none) Set.univ p Q

variable (i : grid0.Coords)
  (arg1 : Memref sig .tc .smem S4096 .i32) (harg1 : arg1.IsWhole)
  (arg2 : Memref sig .tc .vmem S256x4096 .bf16) (harg2 : arg2.IsWhole)
  (arg3 : Memref sig .tc .vmem S1x4096 .i32) (harg3 : arg3.IsWhole)
  (arg4 : Memref sig .tc .vmem S512x4096 .i8) (harg4 : arg4.IsWhole)
  (arg5 : Memref sig .tc .vmem S1x512 .f32) (harg5 : arg5.IsWhole)
  (arg6 : Memref sig .tc .vmem S256x512 .bf16) (harg6 : arg6.IsWhole)
  (arg7 : Memref sig .tc .vmem S1x4096 .f32) (harg7 : arg7.IsWhole)
  (arg8 : Memref sig .tc .vmem S1x4096 .i32) (harg8 : arg8.IsWhole)
  (arg9 : Memref sig .tc .vmem S256x4096 .i8) (harg9 : arg9.IsWhole)
  (arg10 : Memref sig .tc .vmem S256x128 .f32) (harg10 : arg10.IsWhole)
  (arg11 : Memref sig .tc .vmem S256x4096 .bf16) (harg11 : arg11.IsWhole)
  (arg12 : Memref sig .tc .vmem S32x256x128 .bf16) (harg12 : arg12.IsWhole)
  (arg13 : Memref sig .tc .vmem S128x128 .i32) (harg13 : arg13.IsWhole)
  (arg14 : Memref sig .tc .smem S1 .i32) (harg14 : arg14.IsWhole)
  (arg15 : Memref sig .tc .smem S4096 .i32) (harg15 : arg15.IsWhole)

/-- The listing loop: from the mask table at `T` it leaves the list of the marked columns at the start of the index
    buffer and continues with their number. -/
theorem t1_loop (c : Dev nD) (k0_h1 : k0_cond1 i = 1#1) (v308 : FVec F S1x4096 .f32) (v312 : FVec F S32x4096 .f32) (v317 : IVec S32x1 1) (v319 : FVec F S32x1 .f32) (cst_144 : F .f32)
    (q : PosShare TreeShare) (T : S4096.Idx → BitVec 32) (X0 : S4096.Idx → BitVec 32) (hok : k0_t1_loop.OK)
    {β : Type} (kk : BitVec 32 → Prog (TpuEff nD τ sig (Elt F) Λ₀ .tc) β) (Q : β → sProp (MT nD τ sig Unit (Elt F) ℕ (UR sig nD τ) ℕ)) :
    iprop(owns (c : Thread nD τ) arg1 q T ∗ owns (c : Thread nD τ) arg15 fullShare X0)
      ⊢ iprop((∀ X, ⌜Listed (hits T 4096) X⌝ -∗ owns (c : Thread nD τ) arg1 q T -∗ owns (c : Thread nD τ) arg15 fullShare X
          -∗ WP (F := F) c (kk (wd (hits T 4096).length)) Q)
        -∗ WP (F := F) c (Scf.Loop.for k0_t1_loop hok 0#32
          (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h1 v308 v312 v317 v319 cst_144) >>= kk) Q) := by
  iintro ⟨HT, HX⟩ HK
  iapply (Scf.wp_for_bind (M := 𝕄) frame (wpE defs₀ Variants.none (c : Thread nD τ) none) Set.univ k0_t1_loop.lb k0_t1_loop.ub k0_t1_loop.st hok 0#32 _
    (fun k acc => iprop(⌜acc = wd (hits T k).length⌝ ∗ owns (c : Thread nD τ) arg1 q T
      ∗ ∃ X, ⌜Listed (hits T k) X⌝ ∗ owns (c : Thread nD τ) arg15 fullShare X)) ?_) $$ [HT HX]
  case _ =>
    intro k acc
    have hk := t1_lt k
    iintro ⟨%ha, HT, %X, %hX, HX⟩
    subst ha
    have hlen := hits_length_le T k.val
    unfold k0_t1_body
    iapply (wp_smem_owns Variants.none (c : Thread nD τ) none Set.univ (m := arg1)) $$ HT
    iintro HT
    iapply (wp_assume_lift Variants.none (c : Thread nD τ) none Set.univ (chk1_of i _ (by omega) _))
    rw [emb_at1 (k0_off1 k) _ k.val (off1_eq k)]
    by_cases h2 : T (at1 k.val) = 1#32
    · rw [dif_pos ((cond2_iff _).mpr h2)]
      iapply (wp_smem_owns Variants.none (c : Thread nD τ) none Set.univ (m := arg15)) $$ HX
      iintro HX
      iapply (wp_store_owns Variants.none (c : Thread nD τ) none Set.univ (m := arg15)) $$ HX
      iintro HX
      iapply (wp_pure Variants.none (c : Thread nD τ) none Set.univ)
      isplitr
      · ipureintro
        rw [h2, hits_succ_of T _ h2, List.length_append]
        show _ = BitVec.ofNat 32 ((hits T k.val).length + 1)
        rw [BitVec.ofNat_add]; rfl
      isplitl [HT]; · iexact HT
      iexists _
      isplitr [HX]
      rotate_left
      · iexact HX
      · ipureintro
        rw [hits_succ_of T _ h2]
        intro j hj
        rw [List.length_append] at hj
        simp only [List.length_cons, List.length_nil] at hj
        have hoff := off2_eq (hits T k.val).length (by omega)
        by_cases hjl : j = (hits T k.val).length
        · subst hjl
          have he := emb_at1 (k0_off2 (wd (hits T k.val).length)) (k0_off2_inb i _ _ (chk1_of i _ (by omega) _) k0_h1 ((cond2_iff _).mpr h2)) _ hoff
            (Shape.Idx.first (show 0 < S1.numel from by decide))
          rw [← he, over_emb, iv_zero]
          simp [nth]
        · rw [over_of_not]
          · rw [hX j (by omega)]
            simp only [nth]
            rw [List.getD_eq_getElem?_getD, List.getD_eq_getElem?_getD, List.getElem?_append_left (by omega)]
          · intro x hx
            rw [emb_at1 _ _ _ hoff] at hx
            have h0 : ((at1 (hits T k.val).length) 0).val = (at1 j 0).val := by rw [hx]
            have h1 : (hits T k.val).length % 4096 = j % 4096 := h0
            rw [Nat.mod_eq_of_lt (by omega), Nat.mod_eq_of_lt (by omega)] at h1
            exact hjl h1.symm
    · rw [dif_neg (fun h => h2 ((cond2_iff _).mp h))]
      iapply (wp_pure Variants.none (c : Thread nD τ) none Set.univ)
      isplitr
      · ipureintro
        rw [hits_succ_of_not T _ h2]
        show wd _ + BitVec.setWidth 32 (BitVec.ofBool (T (at1 k.val) == 1#32)) = _
        rw [beq_false_of_ne h2]
        exact BitVec.add_zero _
      isplitl [HT]; · iexact HT
      iexists X
      isplitr [HX]
      · ipureintro; rw [hits_succ_of_not T _ h2]; exact hX
      · iexact HX
  · isplitr
    · ipureintro; rfl
    isplitl [HT]; · iexact HT
    iexists X0
    isplitr [HX]
    · ipureintro; intro j hj; exact absurd hj (Nat.not_lt_zero _)
    · iexact HX
  · iintro %acc ⟨%ha, HT, %X, %hX, HX⟩
    have h4 : Scf.trips k0_t1_loop.lb k0_t1_loop.ub k0_t1_loop.st = 4096 := t1_trips
    rw [h4] at ha hX
    subst ha
    iapply HK $$ %X %hX HT HX

/-- The loop that gathers the outlier columns of the activations. -/
theorem t2_loop (c : Dev nD) (k0_h1 : k0_cond1 i = 1#1) (L : List ℕ) (hL : L.length ≤ 4096) (hb : ∀ j, j < L.length → nth L j < 4096)
    (q : PosShare TreeShare) (X : S4096.Idx → BitVec 32) (hX : Listed L X) (x : Vec F S256x4096 .bf16)
    (hw2 : k0_chk2 i (wd L.length)) (hok : (k0_t2_loop (wd L.length)).OK)
    {β : Type} (kk : BitVec 32 → Prog (TpuEff nD τ sig (Elt F) Λ₀ .tc) β) (Q : β → sProp (MT nD τ sig Unit (Elt F) ℕ (UR sig nD τ) ℕ)) :
    iprop(owns (c : Thread nD τ) arg15 fullShare X ∗ owns (c : Thread nD τ) arg2 q x ∗ owns (c : Thread nD τ) arg12 fullShare (k0_pay82 (F := F)))
      ⊢ iprop((∀ a, owns (c : Thread nD τ) arg15 fullShare X -∗ owns (c : Thread nD τ) arg2 q x
          -∗ owns (c : Thread nD τ) arg12 fullShare (xgK x L L.length) -∗ WP (F := F) c (kk a) Q)
        -∗ WP (F := F) c (Scf.Loop.for (k0_t2_loop (wd L.length)) hok 0#32
          (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h1 lanesX (wd L.length) hw2) >>= kk) Q) := by
  iintro ⟨HX, Hx, HG⟩ HK
  iapply (Scf.wp_for_bind (M := 𝕄) frame (wpE defs₀ Variants.none (c : Thread nD τ) none) Set.univ (k0_t2_loop (wd L.length)).lb (k0_t2_loop (wd L.length)).ub (k0_t2_loop (wd L.length)).st hok 0#32 _
    (fun k acc => iprop(owns (c : Thread nD τ) arg15 fullShare X ∗ owns (c : Thread nD τ) arg2 q x ∗ owns (c : Thread nD τ) arg12 fullShare (xgK x L k))) ?_) $$ [HX Hx HG]
  case _ =>
    intro k acc
    have hk : k.val < L.length := lt_of_lt_of_eq k.isLt (t2_trips L.length hL)
    iintro ⟨HX, Hx, HG⟩
    unfold k0_t2_body
    iapply (wp_smem_owns Variants.none (c : Thread nD τ) none Set.univ (m := arg15)) $$ HX
    iintro HX
    rw [emb_at1 _ _ k.val (off3_eq L.length hL k), hX k.val hk]
    iapply (wp_assume_lift Variants.none (c : Thread nD τ) none Set.univ (chk3_of i _ (hb _ hk)))
    iapply (wp_load_owns Variants.none (c : Thread nD τ) none Set.univ (m := arg2)) $$ Hx
    iintro Hx
    rw [emb_xBlk x _ _ (nth L k.val) (off4_eq _ (hb _ hk))]
    iapply (wp_load_owns Variants.none (c : Thread nD τ) none Set.univ (m := arg12)) $$ HG
    iintro HG
    rw [emb_chunk _ _ _ (k.val / 128) (off5_eq L.length hL k)]
    iapply (wp_load_owns Variants.none (c : Thread nD τ) none Set.univ (m := arg12)) $$ HG
    iintro HG
    iapply (wp_store_owns Variants.none (c : Thread nD τ) none Set.univ (m := arg12)) $$ HG
    iintro HG
    rw [over_chunk _ _ _ (k.val / 128) (off5_eq L.length hL k), pay83_eq]
    iapply (wp_pure Variants.none (c : Thread nD τ) none Set.univ)
    isplitl [HX]; · iexact HX
    isplitl [Hx]; · iexact Hx
    iexact HG
  · isplitl [HX]; · iexact HX
    isplitl [Hx]; · iexact Hx
    iexact HG
  · iintro %acc ⟨HX, Hx, HG⟩
    have h4 : Scf.trips (k0_t2_loop (wd L.length)).lb (k0_t2_loop (wd L.length)).ub (k0_t2_loop (wd L.length)).st = L.length := t2_trips L.length hL
    rw [h4]
    iapply HK $$ %acc HX Hx HG

/-- The loop that gathers the outlier columns of the weights, first chunk. -/
theorem t4_loop (c : Dev nD) (L : List ℕ) (hL : L.length ≤ 4096) (hb : ∀ j, j < L.length → nth L j < 4096)
    (q : PosShare TreeShare) (X : S4096.Idx → BitVec 32) (hX : Listed L X) (w : Vec F S512x4096 .i8) (g : Vec F S128x128 .i32)
    (hw5 : k0_chk5 (wd L.length)) (hok : (k0_t4_loop (wd L.length)).OK)
    {β : Type} (kk : BitVec 32 → Prog (TpuEff nD τ sig (Elt F) Λ₀ .tc) β) (Q : β → sProp (MT nD τ sig Unit (Elt F) ℕ (UR sig nD τ) ℕ)) :
    iprop(owns (c : Thread nD τ) arg15 fullShare X ∗ owns (c : Thread nD τ) arg4 q w ∗ owns (c : Thread nD τ) arg13 fullShare g)
      ⊢ iprop((∀ a, owns (c : Thread nD τ) arg15 fullShare X -∗ owns (c : Thread nD τ) arg4 q w
          -∗ owns (c : Thread nD τ) arg13 fullShare (gK (F := F) w L 0 g (min L.length 128)) -∗ WP (F := F) c (kk a) Q)
        -∗ WP (F := F) c (Scf.Loop.for (k0_t4_loop (wd L.length)) hok 0#32
          (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 (wd L.length) hw5) >>= kk) Q) := by
  iintro ⟨HX, Hx, HG⟩ HK
  iapply (Scf.wp_for_bind (M := 𝕄) frame (wpE defs₀ Variants.none (c : Thread nD τ) none) Set.univ (k0_t4_loop (wd L.length)).lb (k0_t4_loop (wd L.length)).ub (k0_t4_loop (wd L.length)).st hok 0#32 _
    (fun k acc => iprop(owns (c : Thread nD τ) arg15 fullShare X ∗ owns (c : Thread nD τ) arg4 q w ∗ owns (c : Thread nD τ) arg13 fullShare (gK (F := F) w L 0 g k))) ?_) $$ [HX Hx HG]
  case _ =>
    intro k acc
    have hk : k.val < min L.length 128 := lt_of_lt_of_eq k.isLt (t4_trips L.length hL)
    have hk' : 0 + k.val < L.length := by omega
    iintro ⟨HX, Hx, HG⟩
    unfold k0_t4_body
    iapply (wp_smem_owns Variants.none (c : Thread nD τ) none Set.univ (m := arg15)) $$ HX
    iintro HX
    rw [emb_at1 _ _ (0 + k.val) ((off9_eq L.length hL k).trans (by rw [Nat.zero_add])), hX (0 + k.val) hk']
    iapply (wp_assume_lift Variants.none (c : Thread nD τ) none Set.univ (chk6_of _ (hb _ hk')))
    iapply (wp_load_owns Variants.none (c : Thread nD τ) none Set.univ (m := arg4)) $$ Hx
    iintro Hx
    rw [emb_wBlk w _ _ (nth L (0 + k.val)) (off10_eq _ (hb _ hk'))]
    iapply (wp_load_owns Variants.none (c : Thread nD τ) none Set.univ (m := arg13)) $$ HG
    iintro HG
    rw [emb_full (s := S128x128)]
    iapply (wp_load_owns Variants.none (c : Thread nD τ) none Set.univ (m := arg13)) $$ HG
    iintro HG
    iapply (wp_store_owns Variants.none (c : Thread nD τ) none Set.univ (m := arg13)) $$ HG
    iintro HG
    rw [over_full (s := S128x128), pay87_eq]
    iapply (wp_pure Variants.none (c : Thread nD τ) none Set.univ)
    isplitl [HX]; · iexact HX
    isplitl [Hx]; · iexact Hx
    iexact HG
  · isplitl [HX]; · iexact HX
    isplitl [Hx]; · iexact Hx
    iexact HG
  · iintro %acc ⟨HX, Hx, HG⟩
    have h4 : Scf.trips (k0_t4_loop (wd L.length)).lb (k0_t4_loop (wd L.length)).ub (k0_t4_loop (wd L.length)).st = min L.length 128 := t4_trips L.length hL
    rw [h4]
    iapply HK $$ %acc HX Hx HG

/-- The loop that gathers the outlier columns of the weights, a further chunk. -/
theorem t7_loop (c : Dev nD) (L : List ℕ) (hL : L.length ≤ 4096) (hb : ∀ j, j < L.length → nth L j < 4096)
    (q : PosShare TreeShare) (X : S4096.Idx → BitVec 32) (hX : Listed L X) (w : Vec F S512x4096 .i8) (g : Vec F S128x128 .i32)
    (h3 : k0_cond3 (wd L.length) = 1#1) (n : Fin (k0_t6_loop (wd L.length)).trips)
    (hw9 : k0_chk9 (wd L.length) n (wd L.length)) (hok : (k0_t7_loop (wd L.length) n (wd L.length)).OK)
    {β : Type} (kk : BitVec 32 → Prog (TpuEff nD τ sig (Elt F) Λ₀ .tc) β) (Q : β → sProp (MT nD τ sig Unit (Elt F) ℕ (UR sig nD τ) ℕ)) :
    iprop(owns (c : Thread nD τ) arg15 fullShare X ∗ owns (c : Thread nD τ) arg4 q w ∗ owns (c : Thread nD τ) arg13 fullShare g)
      ⊢ iprop((∀ a, owns (c : Thread nD τ) arg15 fullShare X -∗ owns (c : Thread nD τ) arg4 q w
          -∗ owns (c : Thread nD τ) arg13 fullShare (gK (F := F) w L ((n.val + 1) * 128) g (min (L.length - (n.val + 1) * 128) 128)) -∗ WP (F := F) c (kk a) Q)
        -∗ WP (F := F) c (Scf.Loop.for (k0_t7_loop (wd L.length) n (wd L.length)) hok 0#32
          (k0_t7_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 (wd L.length) h3 n (wd L.length) hw9) >>= kk) Q) := by
  iintro ⟨HX, Hx, HG⟩ HK
  iapply (Scf.wp_for_bind (M := 𝕄) frame (wpE defs₀ Variants.none (c : Thread nD τ) none) Set.univ (k0_t7_loop (wd L.length) n (wd L.length)).lb (k0_t7_loop (wd L.length) n (wd L.length)).ub (k0_t7_loop (wd L.length) n (wd L.length)).st hok 0#32 _
    (fun k acc => iprop(owns (c : Thread nD τ) arg15 fullShare X ∗ owns (c : Thread nD τ) arg4 q w ∗ owns (c : Thread nD τ) arg13 fullShare (gK (F := F) w L ((n.val + 1) * 128) g k))) ?_) $$ [HX Hx HG]
  case _ =>
    intro k acc
    have hk : k.val < min (L.length - (n.val + 1) * 128) 128 := lt_of_lt_of_eq k.isLt (t7_trips L.length hL n)
    have hk' : (n.val + 1) * 128 + k.val < L.length := by omega
    iintro ⟨HX, Hx, HG⟩
    unfold k0_t7_body
    iapply (wp_smem_owns Variants.none (c : Thread nD τ) none Set.univ (m := arg15)) $$ HX
    iintro HX
    rw [emb_at1 _ _ ((n.val + 1) * 128 + k.val) (off13_eq L.length hL n k), hX ((n.val + 1) * 128 + k.val) hk']
    iapply (wp_assume_lift Variants.none (c : Thread nD τ) none Set.univ (chk10_of _ _ (hb _ hk')))
    iapply (wp_load_owns Variants.none (c : Thread nD τ) none Set.univ (m := arg4)) $$ Hx
    iintro Hx
    rw [emb_wBlk w _ _ (nth L ((n.val + 1) * 128 + k.val)) (off14_eq _ (hb _ hk'))]
    iapply (wp_load_owns Variants.none (c : Thread nD τ) none Set.univ (m := arg13)) $$ HG
    iintro HG
    rw [emb_full (s := S128x128)]
    iapply (wp_load_owns Variants.none (c : Thread nD τ) none Set.univ (m := arg13)) $$ HG
    iintro HG
    iapply (wp_store_owns Variants.none (c : Thread nD τ) none Set.univ (m := arg13)) $$ HG
    iintro HG
    rw [over_full (s := S128x128), pay3_eq]
    iapply (wp_pure Variants.none (c : Thread nD τ) none Set.univ)
    isplitl [HX]; · iexact HX
    isplitl [Hx]; · iexact Hx
    iexact HG
  · isplitl [HX]; · iexact HX
    isplitl [Hx]; · iexact Hx
    iexact HG
  · iintro %acc ⟨HX, Hx, HG⟩
    have h4 : Scf.trips (k0_t7_loop (wd L.length) n (wd L.length)).lb (k0_t7_loop (wd L.length) n (wd L.length)).ub (k0_t7_loop (wd L.length) n (wd L.length)).st = min (L.length - (n.val + 1) * 128) 128 := t7_trips L.length hL n
    rw [h4]
    iapply HK $$ %acc HX Hx HG

/-- A remainder loop makes no trip: the program goes on with the carried value. -/
theorem rem_loop (c : Dev nD) {σ : Type} (a x : BitVec 32) (hok : Scf.OK (Scalar.addi a (Scalar.muli (Scalar.divsi x 1#32) 1#32)) (Scalar.addi a x) 1#32) (init : σ)
    (body : Fin (Scf.trips (Scalar.addi a (Scalar.muli (Scalar.divsi x 1#32) 1#32)) (Scalar.addi a x) 1#32) → σ → Prog (TpuEff nD τ sig (Elt F) Λ₀ .tc) σ)
    {β : Type} (kk : σ → Prog (TpuEff nD τ sig (Elt F) Λ₀ .tc) β) (Q : β → sProp (MT nD τ sig Unit (Elt F) ℕ (UR sig nD τ) ℕ)) :
    WP (F := F) c (kk init) Q ⊢ WP (F := F) c (Scf.for (Scalar.addi a (Scalar.muli (Scalar.divsi x 1#32) 1#32)) (Scalar.addi a x) 1#32 hok init body >>= kk) Q := by
  rw [Scf.for_rem_eq a x hok init body]
  exact .rfl

/-- The loop over the further chunks: it adds each chunk's part of the side product. -/
theorem t6_loop (c : Dev nD) (L : List ℕ) (hL : L.length ≤ 4096) (hb : ∀ j, j < L.length → nth L j < 4096)
    (q : PosShare TreeShare) (X : S4096.Idx → BitVec 32) (hX : Listed L X) (w : Vec F S512x4096 .i8) (Xg : Vec F S32x256x128 .bf16)
    (h3 : k0_cond3 (wd L.length) = 1#1)
    (hw8 : k0_chk8 (wd L.length)) (hok : (k0_t6_loop (wd L.length)).OK)
    {β : Type} (kk : FVec F S256x512 .f32 → Prog (TpuEff nD τ sig (Elt F) Λ₀ .tc) β) (Q : β → sProp (MT nD τ sig Unit (Elt F) ℕ (UR sig nD τ) ℕ)) :
    iprop(owns (c : Thread nD τ) arg14 fullShare (fun _ => wd L.length) ∗ owns (c : Thread nD τ) arg15 fullShare X ∗ owns (c : Thread nD τ) arg4 q w
        ∗ owns (c : Thread nD τ) arg13 fullShare (gAt (F := F) w L 0) ∗ owns (c : Thread nD τ) arg12 fullShare Xg)
      ⊢ iprop((owns (c : Thread nD τ) arg14 fullShare (fun _ => wd L.length) -∗ owns (c : Thread nD τ) arg15 fullShare X -∗ owns (c : Thread nD τ) arg4 q w
          -∗ owns (c : Thread nD τ) arg13 fullShare (gAt (F := F) w L (nch L.length - 1)) -∗ owns (c : Thread nD τ) arg12 fullShare Xg
          -∗ WP (F := F) c (kk (side w Xg L (nch L.length - 1))) Q)
        -∗ WP (F := F) c (Scf.Loop.for (k0_t6_loop (wd L.length)) hok (side w Xg L 0)
          (k0_t6_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 (wd L.length) hw8 h3) >>= kk) Q) := by
  iintro ⟨HN, HX, Hx, HG, HA⟩ HK
  iapply (Scf.wp_for_bind (M := 𝕄) frame (wpE defs₀ Variants.none (c : Thread nD τ) none) Set.univ (k0_t6_loop (wd L.length)).lb (k0_t6_loop (wd L.length)).ub (k0_t6_loop (wd L.length)).st hok (side w Xg L 0) _
    (fun k acc => iprop(⌜acc = side w Xg L k⌝ ∗ owns (c : Thread nD τ) arg14 fullShare (fun _ => wd L.length) ∗ owns (c : Thread nD τ) arg15 fullShare X ∗ owns (c : Thread nD τ) arg4 q w
      ∗ owns (c : Thread nD τ) arg13 fullShare (gAt (F := F) w L k) ∗ owns (c : Thread nD τ) arg12 fullShare Xg)) ?_) $$ [HN HX Hx HG HA]
  case _ =>
    intro k acc
    iintro ⟨%ha, HN, HX, Hx, HG, HA⟩
    subst ha
    unfold k0_t6_body
    iapply (wp_smem_owns Variants.none (c : Thread nD τ) none Set.univ (m := arg14)) $$ HN
    iintro HN
    iapply (wp_assume_lift Variants.none (c : Thread nD τ) none Set.univ (chk9_of L.length hL k))
    iapply (t7_loop i arg1 harg1 arg2 harg2 arg3 harg3 arg4 harg4 arg5 harg5 arg6 harg6 arg7 harg7 arg8 harg8 arg9 harg9 arg10 harg10 arg11 harg11 arg12 harg12 arg13 harg13 arg14 harg14 arg15 harg15 c L hL hb q X hX w _ h3 k (chk9_of L.length hL k) _) $$ [HX Hx HG]
    · isplitl [HX]; · iexact HX
      isplitl [Hx]; · iexact Hx
      iexact HG
    iintro %a HX Hx HG
    iapply (rem_loop c)
    iapply (wp_load_owns Variants.none (c : Thread nD τ) none Set.univ (m := arg13)) $$ HG
    iintro HG
    rw [emb_full (s := S128x128)]
    iapply (wp_load_owns Variants.none (c : Thread nD τ) none Set.univ (m := arg12)) $$ HA
    iintro HA
    rw [emb_chunk _ _ _ (k.val + 1) (off17_eq L.length hL k)]
    iapply (wp_pure Variants.none (c : Thread nD τ) none Set.univ)
    isplitr
    · ipureintro; rfl
    isplitl [HN]; · iexact HN
    isplitl [HX]; · iexact HX
    isplitl [Hx]; · iexact Hx
    isplitl [HG]; · iexact HG
    iexact HA
  · isplitr
    · ipureintro; rfl
    isplitl [HN]; · iexact HN
    isplitl [HX]; · iexact HX
    isplitl [Hx]; · iexact Hx
    isplitl [HG]; · iexact HG
    iexact HA
  · iintro %acc ⟨%ha, HN, HX, Hx, HG, HA⟩
    have h4 : Scf.trips (k0_t6_loop (wd L.length)).lb (k0_t6_loop (wd L.length)).ub (k0_t6_loop (wd L.length)).st = nch L.length - 1 := t6_trips L.length hL
    rw [h4] at ha ⊢
    subst ha
    iapply HK $$ HN HX Hx HG HA

end Cert.KernelIdeal.ColLoops
-- ==== Proof.Quant.lean ====
/- The quantisation of the activations, row block by row block, and the pieces of the kernel that do it. -/
module

public import proofs.«01_k».proof.Proof.ColLoops

@[expose] public section

set_option maxRecDepth 16384

noncomputable section

namespace Cert.KernelIdeal.Quant

open Cert.KernelIdeal Cert.KernelIdeal.Gen Cert.KernelIdeal.Words Cert.KernelIdeal.Spec Cert.OwnRules Cert.KernelIdeal.ColLoops
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A program followed by another: the first, to the second's weakest precondition. -/
theorem bind_wp (c : Dev nD) {α β : Type} (p : Prog (TpuEff nD τ sig (Elt F) Λ₀ .tc) α) (kk : α → Prog (TpuEff nD τ sig (Elt F) Λ₀ .tc) β)
    (Q : β → sProp (MT nD τ sig Unit (Elt F) ℕ (UR sig nD τ) ℕ)) :
    WP (F := F) c p (fun a => WP (F := F) c (kk a) Q) ⊢ WP (F := F) c (p >>= kk) Q := by
  unfold WP
  rw [Idealize.SL.Sem.wp_bind]

/-- Rows `32 r … 32 r + 31` of the activations. -/
def rows {V : Type} (x : S256x4096.Idx → V) (r : ℕ) : S32x4096.Idx → V :=
  fun y => x (ix2 ⟨(32 * r + (y 0).val) % 256, Nat.mod_lt _ (by decide)⟩ (y 1))

/-- Row blocks `f 0, …, f (k-1)` of 32 rows put over `X`. -/
def glue {V : Type} (f : ℕ → S32x4096.Idx → V) (k : ℕ) (X : S256x4096.Idx → V) : S256x4096.Idx → V :=
  fun y => if (y 0).val < 32 * k then f ((y 0).val / 32) (ix2 ⟨(y 0).val % 32, Nat.mod_lt _ (by decide)⟩ (y 1)) else X y

/-- Row blocks `f 0, …, f (k-1)` of 32 rows put over `X`, 128 columns. -/
def glueS {V : Type} (f : ℕ → S32x128.Idx → V) (k : ℕ) (X : S256x128.Idx → V) : S256x128.Idx → V :=
  fun y => if (y 0).val < 32 * k then f ((y 0).val / 32) (ix2 ⟨(y 0).val % 32, Nat.mod_lt _ (by decide)⟩ (y 1)) else X y

theorem glue_zero {V : Type} (f : ℕ → S32x4096.Idx → V) (X : S256x4096.Idx → V) : glue f 0 X = X := by
  funext y; unfold glue; rw [if_neg (by omega)]
theorem glueS_zero {V : Type} (f : ℕ → S32x128.Idx → V) (X : S256x128.Idx → V) : glueS f 0 X = X := by
  funext y; unfold glueS; rw [if_neg (by omega)]

theorem emb_rows {V : Type} (x : S256x4096.Idx → V) (o : Fin 2 → ℕ) (h : ∀ a, o a + S32x4096.size a ≤ S256x4096.size a) (r : ℕ)
    (ho : o = ![32 * r, 0]) : (fun y => x ((Rect.unit (s := S256x4096) o S32x4096.size h).emb y)) = rows x r := by
  subst ho
  have hn : 32 * r + 32 ≤ 256 := h 0
  funext y
  have hy : (y 0).val < 32 := (y 0).isLt
  unfold rows
  congr 1
  funext a
  match a with
  | ⟨0, _⟩ =>
    refine Fin.ext ?_
    show 32 * r + 1 * (y 0).val = (32 * r + (y 0).val) % 256
    rw [Nat.mod_eq_of_lt (by omega)]; omega
  | ⟨1, _⟩ => refine Fin.ext ?_; show 0 + 1 * (y 1).val = (y 1).val; omega

theorem over_glue {V : Type} (f : ℕ → S32x4096.Idx → V) (k : ℕ) (X : S256x4096.Idx → V) (o : Fin 2 → ℕ)
    (h : ∀ a, o a + S32x4096.size a ≤ S256x4096.size a) (ho : o = ![32 * k, 0]) :
    over (Rect.unit (s := S256x4096) o S32x4096.size h) (f k) (glue f k X) = glue f (k + 1) X := by
  subst ho
  have hn : 32 * k + 32 ≤ 256 := h 0
  funext y
  by_cases hy : 32 * k ≤ (y 0).val ∧ (y 0).val < 32 * k + 32
  · have he : y = (Rect.unit (s := S256x4096) ![32 * k, 0] S32x4096.size h).emb
        (ix2 ⟨(y 0).val % 32, Nat.mod_lt _ (by decide)⟩ (y 1) : S32x4096.Idx) := by
      funext a
      match a with
      | ⟨0, _⟩ => refine Fin.ext ?_; show (y 0).val = 32 * k + 1 * ((y 0).val % 32); omega
      | ⟨1, _⟩ => refine Fin.ext ?_; show (y 1).val = 0 + 1 * (y 1).val; omega
    conv_lhs => rw [he]
    rw [over_emb]
    unfold glue
    rw [if_pos (by omega), show (y 0).val / 32 = k by omega]
  · rw [over_of_not]
    · unfold glue
      by_cases h1 : (y 0).val < 32 * k
      · rw [if_pos h1, if_pos (by omega)]
      · rw [if_neg h1, if_neg (by omega)]
    · intro z hz
      have hz0 : (z 0).val < 32 := (z 0).isLt
      have : 32 * k + 1 * (z 0).val = (y 0).val := by rw [← hz]; rfl
      omega

theorem over_glueS {V : Type} (f : ℕ → S32x128.Idx → V) (k : ℕ) (X : S256x128.Idx → V) (o : Fin 2 → ℕ)
    (h : ∀ a, o a + S32x128.size a ≤ S256x128.size a) (ho : o = ![32 * k, 0]) :
    over (Rect.unit (s := S256x128) o S32x128.size h) (f k) (glueS f k X) = glueS f (k + 1) X := by
  subst ho
  have hn : 32 * k + 32 ≤ 256 := h 0
  funext y
  by_cases hy : 32 * k ≤ (y 0).val ∧ (y 0).val < 32 * k + 32
  · have he : y = (Rect.unit (s := S256x128) ![32 * k, 0] S32x128.size h).emb
        (ix2 ⟨(y 0).val % 32, Nat.mod_lt _ (by decide)⟩ (y 1) : S32x128.Idx) := by
      funext a
      match a with
      | ⟨0, _⟩ => refine Fin.ext ?_; show (y 0).val = 32 * k + 1 * ((y 0).val % 32); omega
      | ⟨1, _⟩ => refine Fin.ext ?_; show (y 1).val = 0 + 1 * (y 1).val; omega
    conv_lhs => rw [he]
    rw [over_emb]
    unfold glueS
    rw [if_pos (by omega), show (y 0).val / 32 = k by omega]
  · rw [over_of_not]
    · unfold glueS
      by_cases h1 : (y 0).val < 32 * k
      · rw [if_pos h1, if_pos (by omega)]
      · rw [if_neg h1, if_neg (by omega)]
    · intro z hz
      have hz0 : (z 0).val < 32 := (z 0).isLt
      have : 32 * k + 1 * (z 0).val = (y 0).val := by rw [← hz]; rfl
      omega

/-- The codes of row block `r`. -/
def codesR (m : Vec F S1x4096 .i32) (x : Vec F S256x4096 .bf16) (r : ℕ) : IVec S32x4096 8 := k0_pay16 m (rows x r)
/-- The codes of row block `r`, as the product reads them. -/
def cbfR (m : Vec F S1x4096 .i32) (x : Vec F S256x4096 .bf16) (r : ℕ) : FVec F S32x4096 .bf16 := k0_pay17 m (rows x r)
/-- The scales of row block `r`. -/
def scalesR (m : Vec F S1x4096 .i32) (x : Vec F S256x4096 .bf16) (r : ℕ) : FVec F S32x128 .f32 := k0_pay18 m (rows x r)
/-- The running maximum of each column through row block `r`. -/
def cm (x : Vec F S256x4096 .bf16) : ℕ → FVec F S1x4096 .f32
  | 0 => k0_pay12 (rows x 0)
  | r + 1 => k0_pay20 (cm x r) (rows x (r + 1))

section Payloads
variable (m : Vec F S1x4096 .i32) (x : Vec F S256x4096 .bf16)
theorem codesR_0 : k0_pay16 m (rows x 0) = codesR m x 0 := rfl
theorem cbfR_0 : k0_pay17 m (rows x 0) = cbfR m x 0 := rfl
theorem scalesR_0 : k0_pay18 m (rows x 0) = scalesR m x 0 := rfl
theorem cm_0 : k0_pay12 (rows x 0) = cm x 0 := rfl
theorem codesR_1 : k0_pay24 (k0_pay10 m) (rows x 1) = codesR m x 1 := rfl
theorem cbfR_1 : k0_pay25 (k0_pay10 m) (rows x 1) = cbfR m x 1 := rfl
theorem scalesR_1 : k0_pay26 (k0_pay10 m) (rows x 1) = scalesR m x 1 := rfl
theorem cm_1 : k0_pay20 (cm x 0) (rows x 1) = cm x 1 := rfl
theorem codesR_2 : k0_pay32 (k0_pay10 m) (rows x 2) = codesR m x 2 := rfl
theorem cbfR_2 : k0_pay33 (k0_pay10 m) (rows x 2) = cbfR m x 2 := rfl
theorem scalesR_2 : k0_pay34 (k0_pay10 m) (rows x 2) = scalesR m x 2 := rfl
theorem cm_2 : k0_pay28 (cm x 1) (rows x 2) = cm x 2 := rfl
theorem codesR_3 : k0_pay40 (k0_pay10 m) (k0_pay35 (rows x 3)) = codesR m x 3 := rfl
theorem cbfR_3 : k0_pay41 (k0_pay10 m) (k0_pay35 (rows x 3)) = cbfR m x 3 := rfl
theorem scalesR_3 : k0_pay42 (k0_pay10 m) (k0_pay35 (rows x 3)) = scalesR m x 3 := rfl
theorem codesR_4 : k0_pay48 (k0_pay10 m) (k0_pay43 (rows x 4)) (Scalar.ofBits .f32 0x00000000#32) = codesR m x 4 := rfl
theorem cbfR_4 : k0_pay49 (k0_pay10 m) (k0_pay43 (rows x 4)) (Scalar.ofBits .f32 0x00000000#32) = cbfR m x 4 := rfl
theorem scalesR_4 : k0_pay50 (k0_pay10 m) (k0_pay43 (rows x 4)) (Scalar.ofBits .f32 0x00000000#32) = scalesR m x 4 := rfl
theorem cm_4 : k0_pay44 (cm x 2) (k0_pay36 (rows x 3)) (rows x 4) = cm x 4 := rfl
theorem codesR_5 : k0_pay57 (k0_pay53 (k0_pay10 m) (rows x 5)) (k0_pay54 (k0_pay10 m) (rows x 5)) = codesR m x 5 := rfl
theorem cbfR_5 : k0_pay58 (k0_pay53 (k0_pay10 m) (rows x 5)) (k0_pay54 (k0_pay10 m) (rows x 5)) = cbfR m x 5 := rfl
theorem scalesR_5 : k0_pay59 (k0_pay54 (k0_pay10 m) (rows x 5)) = scalesR m x 5 := rfl
theorem cm_5 : k0_pay52 (cm x 4) (rows x 5) = cm x 5 := rfl
theorem codesR_6 : k0_pay67 (k0_pay62 (k0_pay10 m) (rows x 6)) (k0_pay63 (k0_pay10 m) (rows x 6)) k0_pay64 = codesR m x 6 := rfl
theorem cbfR_6 : k0_pay68 (k0_pay62 (k0_pay10 m) (rows x 6)) (k0_pay63 (k0_pay10 m) (rows x 6)) k0_pay64 = cbfR m x 6 := rfl
theorem scalesR_6 : k0_pay69 (k0_pay63 (k0_pay10 m) (rows x 6)) k0_pay64 = scalesR m x 6 := rfl
theorem cm_6 : k0_pay61 (cm x 5) (rows x 6) = cm x 6 := rfl
theorem codesR_7 : k0_pay78 (k0_pay72 (k0_pay10 m) (rows x 7)) (k0_pay74 (k0_pay10 m) (rows x 7)) (k0_pay75 (k0_pay10 m) (rows x 7)) (Scalar.ofBits .f32 0x3F800000#32) = codesR m x 7 := rfl
theorem cbfR_7 : k0_pay79 (k0_pay72 (k0_pay10 m) (rows x 7)) (k0_pay74 (k0_pay10 m) (rows x 7)) (k0_pay75 (k0_pay10 m) (rows x 7)) (Scalar.ofBits .f32 0x3F800000#32) = cbfR m x 7 := rfl
theorem scalesR_7 : k0_pay80 (k0_pay74 (k0_pay10 m) (rows x 7)) (k0_pay75 (k0_pay10 m) (rows x 7)) (Scalar.ofBits .f32 0x3F800000#32) = scalesR m x 7 := rfl
theorem cm_7 : k0_pay71 (cm x 6) (rows x 7) = cm x 7 := rfl

end Payloads

variable (i : grid0.Coords)
  (arg1 : Memref sig .tc .smem S4096 .i32) (harg1 : arg1.IsWhole)
  (arg2 : Memref sig .tc .vmem S256x4096 .bf16) (harg2 : arg2.IsWhole)
  (arg3 : Memref sig .tc .vmem S1x4096 .i32) (harg3 : arg3.IsWhole)
  (arg4 : Memref sig .tc .vmem S512x4096 .i8) (harg4 : arg4.IsWhole)
  (arg5 : Memref sig .tc .vmem S1x512 .f32) (harg5 : arg5.IsWhole)
  (arg6 : Memref sig .tc .vmem S256x512 .bf16) (harg6 : arg6.IsWhole)
  (arg7 : Memref sig .tc .vmem S1x4096 .f32) (harg7 : arg7.IsWhole)
  (arg8 : Memref sig .tc .vmem S1x4096 .i32) (harg8 : arg8.IsWhole)
  (arg9 : Memref sig .tc .vmem S256x4096 .i8) (harg9 : arg9.IsWhole)
  (arg10 : Memref sig .tc .vmem S256x128 .f32) (harg10 : arg10.IsWhole)
  (arg11 : Memref sig .tc .vmem S256x4096 .bf16) (harg11 : arg11.IsWhole)
  (arg12 : Memref sig .tc .vmem S32x256x128 .bf16) (harg12 : arg12.IsWhole)
  (arg13 : Memref sig .tc .vmem S128x128 .i32) (harg13 : arg13.IsWhole)
  (arg14 : Memref sig .tc .smem S1 .i32) (harg14 : arg14.IsWhole)
  (arg15 : Memref sig .tc .smem S4096 .i32) (harg15 : arg15.IsWhole)

/-- Piece 1 of the quantisation of the row blocks. -/
theorem part1_wp (c : Dev nD) (q3 q : PosShare TreeShare) (m : Vec F S1x4096 .i32) (x : Vec F S256x4096 .bf16)
    (X9 : Vec F S256x4096 .i8) (X11 : Vec F S256x4096 .bf16) (X10 : Vec F S256x128 .f32)
    {β : Type} (kk : (Σ' (v48 : IVec S1x4096 1) (v56 : FVec F S1x4096 .f32), FVec F S32x128 .f32) → Prog (TpuEff nD τ sig (Elt F) Λ₀ .tc) β) (Q : β → sProp (MT nD τ sig Unit (Elt F) ℕ (UR sig nD τ) ℕ)) :
    iprop(owns (c : Thread nD τ) arg3 q3 m ∗ owns (c : Thread nD τ) arg2 q x ∗ owns (c : Thread nD τ) arg9 fullShare (glue (codesR m x) 0 X9) ∗ owns (c : Thread nD τ) arg11 fullShare (glue (cbfR m x) 0 X11) ∗ owns (c : Thread nD τ) arg10 fullShare (glueS (scalesR m x) 0 X10))
      ⊢ iprop((owns (c : Thread nD τ) arg3 q3 m -∗ owns (c : Thread nD τ) arg2 q x -∗ owns (c : Thread nD τ) arg9 fullShare (glue (codesR m x) 1 X9) -∗ owns (c : Thread nD τ) arg11 fullShare (glue (cbfR m x) 1 X11) -∗ owns (c : Thread nD τ) arg10 fullShare (glueS (scalesR m x) 0 X10) -∗ WP (F := F) c (kk ⟨k0_pay10 m, cm x 0, k0_pay18 m (rows x 0)⟩) Q)
        -∗ WP (F := F) c (k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15  >>= kk) Q) := by
  iintro ⟨H3, H2, H9, H11, H10⟩ HK
  rw [k0_part1_eq_skeleton]
  unfold k0_part1_skel
  iapply (bind_wp c)
  iapply (wp_load_owns Variants.none (c : Thread nD τ) none Set.univ (m := arg3)) $$ H3
  iintro H3
  rw [emb_full (s := S1x4096)]
  iapply (wp_load_owns Variants.none (c : Thread nD τ) none Set.univ (m := arg2)) $$ H2
  iintro H2
  rw [emb_rows x _ _ 0 rfl]
  iapply (wp_load_owns Variants.none (c : Thread nD τ) none Set.univ (m := arg9)) $$ H9
  iintro H9
  iapply (wp_store_owns Variants.none (c : Thread nD τ) none Set.univ (m := arg9)) $$ H9
  iintro H9
  rw [codesR_0, over_glue (codesR m x) 0 _ _ _ rfl]
  iapply (wp_load_owns Variants.none (c : Thread nD τ) none Set.univ (m := arg11)) $$ H11
  iintro H11
  iapply (wp_store_owns Variants.none (c : Thread nD τ) none Set.univ (m := arg11)) $$ H11
  iintro H11
  rw [cbfR_0, over_glue (cbfR m x) 0 _ _ _ rfl]
  iapply (wp_pure Variants.none (c : Thread nD τ) none Set.univ)
  rw [cm_0]
  iapply HK $$ H3 H2 H9 H11 H10

/-- Piece 2 of the quantisation of the row blocks. -/
theorem part2_wp (c : Dev nD) (q3 q : PosShare TreeShare) (m : Vec F S1x4096 .i32) (x : Vec F S256x4096 .bf16)
    (X9 : Vec F S256x4096 .i8) (X11 : Vec F S256x4096 .bf16) (X10 : Vec F S256x128 .f32)
    {β : Type} (kk : (FVec F S1x4096 .f32) → Prog (TpuEff nD τ sig (Elt F) Λ₀ .tc) β) (Q : β → sProp (MT nD τ sig Unit (Elt F) ℕ (UR sig nD τ) ℕ)) :
    iprop(owns (c : Thread nD τ) arg2 q x ∗ owns (c : Thread nD τ) arg9 fullShare (glue (codesR m x) 1 X9) ∗ owns (c : Thread nD τ) arg11 fullShare (glue (cbfR m x) 1 X11) ∗ owns (c : Thread nD τ) arg10 fullShare (glueS (scalesR m x) 0 X10))
      ⊢ iprop((owns (c : Thread nD τ) arg2 q x -∗ owns (c : Thread nD τ) arg9 fullShare (glue (codesR m x) 2 X9) -∗ owns (c : Thread nD τ) arg11 fullShare (glue (cbfR m x) 2 X11) -∗ owns (c : Thread nD τ) arg10 fullShare (glueS (scalesR m x) 2 X10) -∗ WP (F := F) c (kk (cm x 1)) Q)
        -∗ WP (F := F) c (k0_part2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 (k0_pay10 m) (cm x 0) (k0_pay18 m (rows x 0)) >>= kk) Q) := by
  iintro ⟨H2, H9, H11, H10⟩ HK
  rw [k0_part2_eq_skeleton]
  unfold k0_part2_skel
  iapply (bind_wp c)
  iapply (wp_load_owns Variants.none (c : Thread nD τ) none Set.univ (m := arg10)) $$ H10
  iintro H10
  iapply (wp_store_owns Variants.none (c : Thread nD τ) none Set.univ (m := arg10)) $$ H10
  iintro H10
  rw [scalesR_0, over_glueS (scalesR m x) 0 _ _ _ rfl]
  iapply (wp_load_owns Variants.none (c : Thread nD τ) none Set.univ (m := arg2)) $$ H2
  iintro H2
  rw [emb_rows x _ _ 1 rfl]
  iapply (wp_load_owns Variants.none (c : Thread nD τ) none Set.univ (m := arg9)) $$ H9
  iintro H9
  iapply (wp_store_owns Variants.none (c : Thread nD τ) none Set.univ (m := arg9)) $$ H9
  iintro H9
  rw [codesR_1, over_glue (codesR m x) 1 _ _ _ rfl]
  iapply (wp_load_owns Variants.none (c : Thread nD τ) none Set.univ (m := arg11)) $$ H11
  iintro H11
  iapply (wp_store_owns Variants.none (c : Thread nD τ) none Set.univ (m := arg11)) $$ H11
  iintro H11
  rw [cbfR_1, over_glue (cbfR m x) 1 _ _ _ rfl]
  iapply (wp_load_owns Variants.none (c : Thread nD τ) none Set.univ (m := arg10)) $$ H10
  iintro H10
  iapply (wp_store_owns Variants.none (c : Thread nD τ) none Set.univ (m := arg10)) $$ H10
  iintro H10
  rw [scalesR_1, over_glueS (scalesR m x) 1 _ _ _ rfl]
  iapply (wp_pure Variants.none (c : Thread nD τ) none Set.univ)
  rw [cm_1]
  iapply HK $$ H2 H9 H11 H10

/-- Piece 3 of the quantisation of the row blocks. -/
theorem part3_wp (c : Dev nD) (q3 q : PosShare TreeShare) (m : Vec F S1x4096 .i32) (x : Vec F S256x4096 .bf16)
    (X9 : Vec F S256x4096 .i8) (X11 : Vec F S256x4096 .bf16) (X10 : Vec F S256x128 .f32)
    {β : Type} (kk : (Σ' (v128 : FVec F S1x4096 .f32) (v160 : FVec F S32x4096 .f32), FVec F S32x4096 .f32) → Prog (TpuEff nD τ sig (Elt F) Λ₀ .tc) β) (Q : β → sProp (MT nD τ sig Unit (Elt F) ℕ (UR sig nD τ) ℕ)) :
    iprop(owns (c : Thread nD τ) arg2 q x ∗ owns (c : Thread nD τ) arg9 fullShare (glue (codesR m x) 2 X9) ∗ owns (c : Thread nD τ) arg11 fullShare (glue (cbfR m x) 2 X11) ∗ owns (c : Thread nD τ) arg10 fullShare (glueS (scalesR m x) 2 X10))
      ⊢ iprop((owns (c : Thread nD τ) arg2 q x -∗ owns (c : Thread nD τ) arg9 fullShare (glue (codesR m x) 3 X9) -∗ owns (c : Thread nD τ) arg11 fullShare (glue (cbfR m x) 3 X11) -∗ owns (c : Thread nD τ) arg10 fullShare (glueS (scalesR m x) 3 X10) -∗ WP (F := F) c (kk ⟨cm x 2, k0_pay35 (rows x 3), k0_pay36 (rows x 3)⟩) Q)
        -∗ WP (F := F) c (k0_part3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 (k0_pay10 m) (cm x 1) >>= kk) Q) := by
  iintro ⟨H2, H9, H11, H10⟩ HK
  rw [k0_part3_eq_skeleton]
  unfold k0_part3_skel
  iapply (bind_wp c)
  iapply (wp_load_owns Variants.none (c : Thread nD τ) none Set.univ (m := arg2)) $$ H2
  iintro H2
  rw [emb_rows x _ _ 2 rfl]
  iapply (wp_load_owns Variants.none (c : Thread nD τ) none Set.univ (m := arg9)) $$ H9
  iintro H9
  iapply (wp_store_owns Variants.none (c : Thread nD τ) none Set.univ (m := arg9)) $$ H9
  iintro H9
  rw [codesR_2, over_glue (codesR m x) 2 _ _ _ rfl]
  iapply (wp_load_owns Variants.none (c : Thread nD τ) none Set.univ (m := arg11)) $$ H11
  iintro H11
  iapply (wp_store_owns Variants.none (c : Thread nD τ) none Set.univ (m := arg11)) $$ H11
  iintro H11
  rw [cbfR_2, over_glue (cbfR m x) 2 _ _ _ rfl]
  iapply (wp_load_owns Variants.none (c : Thread nD τ) none Set.univ (m := arg10)) $$ H10
  iintro H10
  iapply (wp_store_owns Variants.none (c : Thread nD τ) none Set.univ (m := arg10)) $$ H10
  iintro H10
  rw [scalesR_2, over_glueS (scalesR m x) 2 _ _ _ rfl]
  iapply (wp_load_owns Variants.none (c : Thread nD τ) none Set.univ (m := arg2)) $$ H2
  iintro H2
  rw [emb_rows x _ _ 3 rfl]
  iapply (wp_pure Variants.none (c : Thread nD τ) none Set.univ)
  rw [cm_2]
  iapply HK $$ H2 H9 H11 H10

/-- Piece 4 of the quantisation of the row blocks. -/
theorem part4_wp (c : Dev nD) (q3 q : PosShare TreeShare) (m : Vec F S1x4096 .i32) (x : Vec F S256x4096 .bf16)
    (X9 : Vec F S256x4096 .i8) (X11 : Vec F S256x4096 .bf16) (X10 : Vec F S256x128 .f32)
    {β : Type} (kk : (Σ' (v196 : FVec F S32x4096 .f32) (v200 : FVec F S1x4096 .f32), F .f32) → Prog (TpuEff nD τ sig (Elt F) Λ₀ .tc) β) (Q : β → sProp (MT nD τ sig Unit (Elt F) ℕ (UR sig nD τ) ℕ)) :
    iprop(owns (c : Thread nD τ) arg2 q x ∗ owns (c : Thread nD τ) arg9 fullShare (glue (codesR m x) 3 X9) ∗ owns (c : Thread nD τ) arg11 fullShare (glue (cbfR m x) 3 X11) ∗ owns (c : Thread nD τ) arg10 fullShare (glueS (scalesR m x) 3 X10))
      ⊢ iprop((owns (c : Thread nD τ) arg2 q x -∗ owns (c : Thread nD τ) arg9 fullShare (glue (codesR m x) 4 X9) -∗ owns (c : Thread nD τ) arg11 fullShare (glue (cbfR m x) 4 X11) -∗ owns (c : Thread nD τ) arg10 fullShare (glueS (scalesR m x) 4 X10) -∗ WP (F := F) c (kk ⟨k0_pay43 (rows x 4), cm x 4, Scalar.ofBits .f32 0x00000000#32⟩) Q)
        -∗ WP (F := F) c (k0_part4 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 (k0_pay10 m) (cm x 2) (k0_pay35 (rows x 3)) (k0_pay36 (rows x 3)) >>= kk) Q) := by
  iintro ⟨H2, H9, H11, H10⟩ HK
  rw [k0_part4_eq_skeleton]
  unfold k0_part4_skel
  iapply (bind_wp c)
  iapply (wp_load_owns Variants.none (c : Thread nD τ) none Set.univ (m := arg9)) $$ H9
  iintro H9
  iapply (wp_store_owns Variants.none (c : Thread nD τ) none Set.univ (m := arg9)) $$ H9
  iintro H9
  rw [codesR_3, over_glue (codesR m x) 3 _ _ _ rfl]
  iapply (wp_load_owns Variants.none (c : Thread nD τ) none Set.univ (m := arg11)) $$ H11
  iintro H11
  iapply (wp_store_owns Variants.none (c : Thread nD τ) none Set.univ (m := arg11)) $$ H11
  iintro H11
  rw [cbfR_3, over_glue (cbfR m x) 3 _ _ _ rfl]
  iapply (wp_load_owns Variants.none (c : Thread nD τ) none Set.univ (m := arg10)) $$ H10
  iintro H10
  iapply (wp_store_owns Variants.none (c : Thread nD τ) none Set.univ (m := arg10)) $$ H10
  iintro H10
  rw [scalesR_3, over_glueS (scalesR m x) 3 _ _ _ rfl]
  iapply (wp_load_owns Variants.none (c : Thread nD τ) none Set.univ (m := arg2)) $$ H2
  iintro H2
  rw [emb_rows x _ _ 4 rfl]
  iapply (wp_pure Variants.none (c : Thread nD τ) none Set.univ)
  rw [cm_4]
  iapply HK $$ H2 H9 H11 H10

/-- Piece 5 of the quantisation of the row blocks. -/
theorem part5_wp (c : Dev nD) (q3 q : PosShare TreeShare) (m : Vec F S1x4096 .i32) (x : Vec F S256x4096 .bf16)
    (X9 : Vec F S256x4096 .i8) (X11 : Vec F S256x4096 .bf16) (X10 : Vec F S256x128 .f32)
    {β : Type} (kk : (Σ' (v236 : FVec F S1x4096 .f32) (v240 : FVec F S32x4096 .f32), FVec F S32x4096 .f32) → Prog (TpuEff nD τ sig (Elt F) Λ₀ .tc) β) (Q : β → sProp (MT nD τ sig Unit (Elt F) ℕ (UR sig nD τ) ℕ)) :
    iprop(owns (c : Thread nD τ) arg2 q x ∗ owns (c : Thread nD τ) arg9 fullShare (glue (codesR m x) 4 X9) ∗ owns (c : Thread nD τ) arg11 fullShare (glue (cbfR m x) 4 X11) ∗ owns (c : Thread nD τ) arg10 fullShare (glueS (scalesR m x) 4 X10))
      ⊢ iprop((owns (c : Thread nD τ) arg2 q x -∗ owns (c : Thread nD τ) arg9 fullShare (glue (codesR m x) 5 X9) -∗ owns (c : Thread nD τ) arg11 fullShare (glue (cbfR m x) 5 X11) -∗ owns (c : Thread nD τ) arg10 fullShare (glueS (scalesR m x) 5 X10) -∗ WP (F := F) c (kk ⟨cm x 5, k0_pay53 (k0_pay10 m) (rows x 5), k0_pay54 (k0_pay10 m) (rows x 5)⟩) Q)
        -∗ WP (F := F) c (k0_part5 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 (k0_pay10 m) (k0_pay43 (rows x 4)) (cm x 4) (Scalar.ofBits .f32 0x00000000#32) >>= kk) Q) := by
  iintro ⟨H2, H9, H11, H10⟩ HK
  rw [k0_part5_eq_skeleton]
  unfold k0_part5_skel
  iapply (bind_wp c)
  iapply (wp_load_owns Variants.none (c : Thread nD τ) none Set.univ (m := arg9)) $$ H9
  iintro H9
  iapply (wp_store_owns Variants.none (c : Thread nD τ) none Set.univ (m := arg9)) $$ H9
  iintro H9
  rw [codesR_4, over_glue (codesR m x) 4 _ _ _ rfl]
  iapply (wp_load_owns Variants.none (c : Thread nD τ) none Set.univ (m := arg11)) $$ H11
  iintro H11
  iapply (wp_store_owns Variants.none (c : Thread nD τ) none Set.univ (m := arg11)) $$ H11
  iintro H11
  rw [cbfR_4, over_glue (cbfR m x) 4 _ _ _ rfl]
  iapply (wp_load_owns Variants.none (c : Thread nD τ) none Set.univ (m := arg10)) $$ H10
  iintro H10
  iapply (wp_store_owns Variants.none (c : Thread nD τ) none Set.univ (m := arg10)) $$ H10
  iintro H10
  rw [scalesR_4, over_glueS (scalesR m x) 4 _ _ _ rfl]
  iapply (wp_load_owns Variants.none (c : Thread nD τ) none Set.univ (m := arg2)) $$ H2
  iintro H2
  rw [emb_rows x _ _ 5 rfl]
  iapply (wp_pure Variants.none (c : Thread nD τ) none Set.univ)
  rw [cm_5]
  iapply HK $$ H2 H9 H11 H10

/-- Piece 6 of the quantisation of the row blocks. -/
theorem part6_wp (c : Dev nD) (q3 q : PosShare TreeShare) (m : Vec F S1x4096 .i32) (x : Vec F S256x4096 .bf16)
    (X9 : Vec F S256x4096 .i8) (X11 : Vec F S256x4096 .bf16) (X10 : Vec F S256x128 .f32)
    {β : Type} (kk : (Σ' (v272 : FVec F S1x4096 .f32) (v276 : FVec F S32x4096 .f32) (v279 : FVec F S32x1 .f32), FVec F S32x1 .f32) → Prog (TpuEff nD τ sig (Elt F) Λ₀ .tc) β) (Q : β → sProp (MT nD τ sig Unit (Elt F) ℕ (UR sig nD τ) ℕ)) :
    iprop(owns (c : Thread nD τ) arg2 q x ∗ owns (c : Thread nD τ) arg9 fullShare (glue (codesR m x) 5 X9) ∗ owns (c : Thread nD τ) arg11 fullShare (glue (cbfR m x) 5 X11) ∗ owns (c : Thread nD τ) arg10 fullShare (glueS (scalesR m x) 5 X10))
      ⊢ iprop((owns (c : Thread nD τ) arg2 q x -∗ owns (c : Thread nD τ) arg9 fullShare (glue (codesR m x) 6 X9) -∗ owns (c : Thread nD τ) arg11 fullShare (glue (cbfR m x) 6 X11) -∗ owns (c : Thread nD τ) arg10 fullShare (glueS (scalesR m x) 6 X10) -∗ WP (F := F) c (kk ⟨cm x 6, k0_pay62 (k0_pay10 m) (rows x 6), k0_pay63 (k0_pay10 m) (rows x 6), k0_pay64 (F := F)⟩) Q)
        -∗ WP (F := F) c (k0_part6 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 (k0_pay10 m) (cm x 5) (k0_pay53 (k0_pay10 m) (rows x 5)) (k0_pay54 (k0_pay10 m) (rows x 5)) >>= kk) Q) := by
  iintro ⟨H2, H9, H11, H10⟩ HK
  rw [k0_part6_eq_skeleton]
  unfold k0_part6_skel
  iapply (bind_wp c)
  iapply (wp_load_owns Variants.none (c : Thread nD τ) none Set.univ (m := arg9)) $$ H9
  iintro H9
  iapply (wp_store_owns Variants.none (c : Thread nD τ) none Set.univ (m := arg9)) $$ H9
  iintro H9
  rw [codesR_5, over_glue (codesR m x) 5 _ _ _ rfl]
  iapply (wp_load_owns Variants.none (c : Thread nD τ) none Set.univ (m := arg11)) $$ H11
  iintro H11
  iapply (wp_store_owns Variants.none (c : Thread nD τ) none Set.univ (m := arg11)) $$ H11
  iintro H11
  rw [cbfR_5, over_glue (cbfR m x) 5 _ _ _ rfl]
  iapply (wp_load_owns Variants.none (c : Thread nD τ) none Set.univ (m := arg10)) $$ H10
  iintro H10
  iapply (wp_store_owns Variants.none (c : Thread nD τ) none Set.univ (m := arg10)) $$ H10
  iintro H10
  rw [scalesR_5, over_glueS (scalesR m x) 5 _ _ _ rfl]
  iapply (wp_load_owns Variants.none (c : Thread nD τ) none Set.univ (m := arg2)) $$ H2
  iintro H2
  rw [emb_rows x _ _ 6 rfl]
  iapply (wp_pure Variants.none (c : Thread nD τ) none Set.univ)
  rw [cm_6]
  iapply HK $$ H2 H9 H11 H10

/-- Piece 7 of the quantisation of the row blocks. -/
theorem part7_wp (c : Dev nD) (q3 q : PosShare TreeShare) (m : Vec F S1x4096 .i32) (x : Vec F S256x4096 .bf16)
    (X9 : Vec F S256x4096 .i8) (X11 : Vec F S256x4096 .bf16) (X10 : Vec F S256x128 .f32)
    {β : Type} (kk : (Σ' (v308 : FVec F S1x4096 .f32) (v312 : FVec F S32x4096 .f32) (v317 : IVec S32x1 1) (v319 : FVec F S32x1 .f32), F .f32) → Prog (TpuEff nD τ sig (Elt F) Λ₀ .tc) β) (Q : β → sProp (MT nD τ sig Unit (Elt F) ℕ (UR sig nD τ) ℕ)) :
    iprop(owns (c : Thread nD τ) arg2 q x ∗ owns (c : Thread nD τ) arg9 fullShare (glue (codesR m x) 6 X9) ∗ owns (c : Thread nD τ) arg11 fullShare (glue (cbfR m x) 6 X11) ∗ owns (c : Thread nD τ) arg10 fullShare (glueS (scalesR m x) 6 X10))
      ⊢ iprop((owns (c : Thread nD τ) arg2 q x -∗ owns (c : Thread nD τ) arg9 fullShare (glue (codesR m x) 7 X9) -∗ owns (c : Thread nD τ) arg11 fullShare (glue (cbfR m x) 7 X11) -∗ owns (c : Thread nD τ) arg10 fullShare (glueS (scalesR m x) 7 X10) -∗ WP (F := F) c (kk ⟨cm x 7, k0_pay72 (k0_pay10 m) (rows x 7), k0_pay74 (k0_pay10 m) (rows x 7), k0_pay75 (k0_pay10 m) (rows x 7), Scalar.ofBits .f32 0x3F800000#32⟩) Q)
        -∗ WP (F := F) c (k0_part7 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 (k0_pay10 m) (cm x 6) (k0_pay62 (k0_pay10 m) (rows x 6)) (k0_pay63 (k0_pay10 m) (rows x 6)) (k0_pay64 (F := F)) >>= kk) Q) := by
  iintro ⟨H2, H9, H11, H10⟩ HK
  rw [k0_part7_eq_skeleton]
  unfold k0_part7_skel
  iapply (bind_wp c)
  iapply (wp_load_owns Variants.none (c : Thread nD τ) none Set.univ (m := arg9)) $$ H9
  iintro H9
  iapply (wp_store_owns Variants.none (c : Thread nD τ) none Set.univ (m := arg9)) $$ H9
  iintro H9
  rw [codesR_6, over_glue (codesR m x) 6 _ _ _ rfl]
  iapply (wp_load_owns Variants.none (c : Thread nD τ) none Set.univ (m := arg11)) $$ H11
  iintro H11
  iapply (wp_store_owns Variants.none (c : Thread nD τ) none Set.univ (m := arg11)) $$ H11
  iintro H11
  rw [cbfR_6, over_glue (cbfR m x) 6 _ _ _ rfl]
  iapply (wp_load_owns Variants.none (c : Thread nD τ) none Set.univ (m := arg10)) $$ H10
  iintro H10
  iapply (wp_store_owns Variants.none (c : Thread nD τ) none Set.univ (m := arg10)) $$ H10
  iintro H10
  rw [scalesR_6, over_glueS (scalesR m x) 6 _ _ _ rfl]
  iapply (wp_load_owns Variants.none (c : Thread nD τ) none Set.univ (m := arg2)) $$ H2
  iintro H2
  rw [emb_rows x _ _ 7 rfl]
  iapply (wp_pure Variants.none (c : Thread nD τ) none Set.univ)
  rw [cm_7]
  iapply HK $$ H2 H9 H11 H10

end Cert.KernelIdeal.Quant
-- ==== Proof.Body.lean ====
/- The kernel's body at a grid point: what it holds before, what it leaves. -/
module

public import proofs.«01_k».proof.Proof.Quant

@[expose] public section

set_option maxRecDepth 16384

noncomputable section

namespace Cert.KernelIdeal.Body

open Cert.KernelIdeal Cert.KernelIdeal.Gen Cert.KernelIdeal.Words Cert.KernelIdeal.Spec Cert.OwnRules Cert.KernelIdeal.ColLoops Cert.KernelIdeal.Quant
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The codes of the activations. -/
def codes (m : Vec F S1x4096 .i32) (x : Vec F S256x4096 .bf16) : Vec F S256x4096 .i8 :=
  fun y => codesR m x ((y 0).val / 32) (ix2 ⟨(y 0).val % 32, Nat.mod_lt _ (by decide)⟩ (y 1))
/-- The codes of the activations, as the product reads them. -/
def cbf (m : Vec F S1x4096 .i32) (x : Vec F S256x4096 .bf16) : Vec F S256x4096 .bf16 :=
  fun y => cbfR m x ((y 0).val / 32) (ix2 ⟨(y 0).val % 32, Nat.mod_lt _ (by decide)⟩ (y 1))
/-- The scales of the rows, along 128 lanes. -/
def scales (m : Vec F S1x4096 .i32) (x : Vec F S256x4096 .bf16) : Vec F S256x128 .f32 :=
  fun y => scalesR m x ((y 0).val / 32) (ix2 ⟨(y 0).val % 32, Nat.mod_lt _ (by decide)⟩ (y 1))
/-- The gathered outlier columns of the activations. -/
def xg (x : Vec F S256x4096 .bf16) (L : List ℕ) : Vec F S32x256x128 .bf16 := xgK x L L.length
/-- The first lane of the scales. -/
def lane0 {V : Type} (s : S256x128.Idx → V) : S256x1.Idx → V := fun y => s (ix2 (y 0) ⟨(y 1).val, lt_of_lt_of_le (y 1).isLt (show 1 ≤ 128 by decide)⟩)
/-- One block of the result: the product of the codes, times the rows' scales, plus the side product of the outlier
    columns, times the columns' scales. -/
def yBlk (B : Vec F S256x4096 .bf16) (S : Vec F S256x128 .f32) (A : Vec F S32x256x128 .bf16) (L : List ℕ) (w : Vec F S512x4096 .i8) (ws : Vec F S1x512 .f32) : Vec F S256x512 .bf16 :=
  k0_pay2 (k0_pay85 B w) (side w A L (nch L.length - 1)) (lane0 S) ws

theorem glue_eight {V : Type} (f : ℕ → S32x4096.Idx → V) (X : S256x4096.Idx → V) :
    glue f 8 X = fun y => f ((y 0).val / 32) (ix2 ⟨(y 0).val % 32, Nat.mod_lt _ (by decide)⟩ (y 1)) := by
  funext y; unfold glue; rw [if_pos (show (y 0).val < 32 * 8 from (y 0).isLt)]
theorem glueS_eight {V : Type} (f : ℕ → S32x128.Idx → V) (X : S256x128.Idx → V) :
    glueS f 8 X = fun y => f ((y 0).val / 32) (ix2 ⟨(y 0).val % 32, Nat.mod_lt _ (by decide)⟩ (y 1)) := by
  funext y; unfold glueS; rw [if_pos (show (y 0).val < 32 * 8 from (y 0).isLt)]

theorem glue_codes (m : Vec F S1x4096 .i32) (x : Vec F S256x4096 .bf16) (X : Vec F S256x4096 .i8) : glue (codesR m x) (7 + 1) X = codes m x := glue_eight _ _
theorem glue_cbf (m : Vec F S1x4096 .i32) (x : Vec F S256x4096 .bf16) (X : Vec F S256x4096 .bf16) : glue (cbfR m x) (7 + 1) X = cbf m x := glue_eight _ _
theorem glue_scales (m : Vec F S1x4096 .i32) (x : Vec F S256x4096 .bf16) (X : Vec F S256x128 .f32) : glueS (scalesR m x) (7 + 1) X = scales m x := glueS_eight _ _
theorem gAt_start (w : Vec F S512x4096 .i8) (L : List ℕ) : gK (F := F) w L 0 k0_pay86 (min L.length 128) = gAt (F := F) w L 0 := rfl
theorem xg_def (x : Vec F S256x4096 .bf16) (L : List ℕ) : xgK x L L.length = xg x L := rfl

theorem yBlk_def (B : Vec F S256x4096 .bf16) (S : Vec F S256x128 .f32) (A : Vec F S32x256x128 .bf16) (L : List ℕ) (w : Vec F S512x4096 .i8) (ws : Vec F S1x512 .f32) :
    k0_pay2 (k0_pay85 B w) (side w A L (nch L.length - 1)) (lane0 S) ws = yBlk B S A L w ws := rfl
theorem over_cnt (X : S1.Idx → BitVec 32) (h : ∀ a, ![0] a + S1.size a ≤ S1.size a) (v : BitVec 32) :
    over (V := BitVec 32) (Rect.unit (s := S1) ![0] S1.size h) (fun _ => v) X = fun _ : S1.Idx => v := over_full (s := S1) _ _ _ _

theorem emb_lane0 {V : Type} (s : S256x128.Idx → V) (h : ∀ a, ![0, 0] a + S256x1.size a ≤ S256x128.size a) :
    (fun y => s ((Rect.unit (s := S256x128) ![0, 0] S256x1.size h).emb y)) = lane0 s := by
  funext y
  unfold lane0
  congr 1
  funext a
  match a with
  | ⟨0, _⟩ => refine Fin.ext ?_; show 0 + 1 * (y 0).val = (y 0).val; omega
  | ⟨1, _⟩ => refine Fin.ext ?_; show 0 + 1 * (y 1).val = (y 1).val; omega

theorem pay9_eq (s : Vec F S256x1 .f32) (S : FVec F S256x512 .f32) (B : Vec F S256x4096 .bf16) (w : Vec F S512x4096 .i8) (ws : Vec F S1x512 .f32) :
    k0_pay9 s S B w ws = k0_pay2 (k0_pay85 B w) S s ws := rfl

theorem cond3_nch (c : ℕ) (hc : c ≤ 4096) (h : ¬ k0_cond3 (wd c) = 1#1) : nch c - 1 = 0 := by
  have := (cond3_iff c hc).not.mp h
  omega

variable (i : grid0.Coords)
  (arg1 : Memref sig .tc .smem S4096 .i32) (harg1 : arg1.IsWhole)
  (arg2 : Memref sig .tc .vmem S256x4096 .bf16) (harg2 : arg2.IsWhole)
  (arg3 : Memref sig .tc .vmem S1x4096 .i32) (harg3 : arg3.IsWhole)
  (arg4 : Memref sig .tc .vmem S512x4096 .i8) (harg4 : arg4.IsWhole)
  (arg5 : Memref sig .tc .vmem S1x512 .f32) (harg5 : arg5.IsWhole)
  (arg6 : Memref sig .tc .vmem S256x512 .bf16) (harg6 : arg6.IsWhole)
  (arg7 : Memref sig .tc .vmem S1x4096 .f32) (harg7 : arg7.IsWhole)
  (arg8 : Memref sig .tc .vmem S1x4096 .i32) (harg8 : arg8.IsWhole)
  (arg9 : Memref sig .tc .vmem S256x4096 .i8) (harg9 : arg9.IsWhole)
  (arg10 : Memref sig .tc .vmem S256x128 .f32) (harg10 : arg10.IsWhole)
  (arg11 : Memref sig .tc .vmem S256x4096 .bf16) (harg11 : arg11.IsWhole)
  (arg12 : Memref sig .tc .vmem S32x256x128 .bf16) (harg12 : arg12.IsWhole)
  (arg13 : Memref sig .tc .vmem S128x128 .i32) (harg13 : arg13.IsWhole)
  (arg14 : Memref sig .tc .smem S1 .i32) (harg14 : arg14.IsWhole)
  (arg15 : Memref sig .tc .smem S4096 .i32) (harg15 : arg15.IsWhole)

/-- The last piece of the quantisation: the last row block, the column maximum and the new mask, and the list of the
    outlier columns. -/
theorem part8_wp (c : Dev nD) (k0_h1 : k0_cond1 i = 1#1) (q1 : PosShare TreeShare) (m : Vec F S1x4096 .i32) (x : Vec F S256x4096 .bf16) (T : S4096.Idx → BitVec 32)
    (X9 : Vec F S256x4096 .i8) (X11 : Vec F S256x4096 .bf16) (X10 : Vec F S256x128 .f32) (X7 : Vec F S1x4096 .f32) (X8 : Vec F S1x4096 .i32)
    (X15 : S4096.Idx → BitVec 32) (X14 : S1.Idx → BitVec 32) (X12 : Vec F S32x256x128 .bf16)
    {β : Type} (kk : (Σ' (v346 : IVec S256x128 32), FVec F S32x256x128 .bf16) → Prog (TpuEff nD τ sig (Elt F) Λ₀ .tc) β) (Q : β → sProp (MT nD τ sig Unit (Elt F) ℕ (UR sig nD τ) ℕ)) :
    iprop(owns (c : Thread nD τ) arg9 fullShare (glue (codesR m x) 7 X9) ∗ owns (c : Thread nD τ) arg11 fullShare (glue (cbfR m x) 7 X11) ∗ owns (c : Thread nD τ) arg10 fullShare (glueS (scalesR m x) 7 X10) ∗ owns (c : Thread nD τ) arg7 fullShare X7 ∗ owns (c : Thread nD τ) arg8 fullShare X8 ∗ owns (c : Thread nD τ) arg1 q1 T ∗ owns (c : Thread nD τ) arg15 fullShare X15 ∗ owns (c : Thread nD τ) arg14 fullShare X14 ∗ owns (c : Thread nD τ) arg12 fullShare X12)
      ⊢ iprop((∀ X, ⌜Listed (hits T 4096) X⌝ -∗ owns (c : Thread nD τ) arg9 fullShare (codes m x) -∗ owns (c : Thread nD τ) arg11 fullShare (cbf m x) -∗ owns (c : Thread nD τ) arg10 fullShare (scales m x) -∗ owns (c : Thread nD τ) arg7 fullShare (cm x 7) -∗ owns (c : Thread nD τ) arg8 fullShare (k0_pay81 (cm x 7)) -∗ owns (c : Thread nD τ) arg1 q1 T -∗ owns (c : Thread nD τ) arg15 fullShare X -∗ owns (c : Thread nD τ) arg14 fullShare (fun _ => wd (hits T 4096).length) -∗ owns (c : Thread nD τ) arg12 fullShare X12 -∗ WP (F := F) c (kk ⟨lanesX, k0_pay82 (F := F)⟩) Q)
        -∗ WP (F := F) c (k0_part8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h1 (cm x 7) (k0_pay72 (k0_pay10 m) (rows x 7)) (k0_pay74 (k0_pay10 m) (rows x 7)) (k0_pay75 (k0_pay10 m) (rows x 7)) (Scalar.ofBits .f32 0x3F800000#32) >>= kk) Q) := by
  iintro ⟨H9, H11, H10, H7, H8, H1, H15, H14, H12⟩ HK
  rw [k0_part8_eq_skeleton]
  unfold k0_part8_skel
  iapply (bind_wp c)
  iapply (wp_load_owns Variants.none (c : Thread nD τ) none Set.univ (m := arg9)) $$ H9
  iintro H9
  iapply (wp_store_owns Variants.none (c : Thread nD τ) none Set.univ (m := arg9)) $$ H9
  iintro H9
  rw [codesR_7, over_glue (codesR m x) 7 _ _ _ rfl, glue_codes]
  iapply (wp_load_owns Variants.none (c : Thread nD τ) none Set.univ (m := arg11)) $$ H11
  iintro H11
  iapply (wp_store_owns Variants.none (c : Thread nD τ) none Set.univ (m := arg11)) $$ H11
  iintro H11
  rw [cbfR_7, over_glue (cbfR m x) 7 _ _ _ rfl, glue_cbf]
  iapply (wp_load_owns Variants.none (c : Thread nD τ) none Set.univ (m := arg10)) $$ H10
  iintro H10
  iapply (wp_store_owns Variants.none (c : Thread nD τ) none Set.univ (m := arg10)) $$ H10
  iintro H10
  rw [scalesR_7, over_glueS (scalesR m x) 7 _ _ _ rfl, glue_scales]
  iapply (wp_load_owns Variants.none (c : Thread nD τ) none Set.univ (m := arg7)) $$ H7
  iintro H7
  iapply (wp_store_owns Variants.none (c : Thread nD τ) none Set.univ (m := arg7)) $$ H7
  iintro H7
  rw [over_full (s := S1x4096)]
  iapply (wp_load_owns Variants.none (c : Thread nD τ) none Set.univ (m := arg8)) $$ H8
  iintro H8
  iapply (wp_store_owns Variants.none (c : Thread nD τ) none Set.univ (m := arg8)) $$ H8
  iintro H8
  rw [over_full (s := S1x4096)]
  iapply (t1_loop i arg1 harg1 arg2 harg2 arg3 harg3 arg4 harg4 arg5 harg5 arg6 harg6 arg7 harg7 arg8 harg8 arg9 harg9 arg10 harg10 arg11 harg11 arg12 harg12 arg13 harg13 arg14 harg14 arg15 harg15 c k0_h1 _ _ _ _ _ q1 T X15 _) $$ [H1 H15]
  · isplitl [H1]; · iexact H1
    iexact H15
  iintro %X %hX H1 H15
  iapply (wp_smem_owns Variants.none (c : Thread nD τ) none Set.univ (m := arg14)) $$ H14
  iintro H14
  iapply (wp_store_owns Variants.none (c : Thread nD τ) none Set.univ (m := arg14)) $$ H14
  iintro H14
  rw [over_cnt]
  iapply (wp_load_owns Variants.none (c : Thread nD τ) none Set.univ (m := arg12)) $$ H12
  iintro H12
  iapply (wp_pure Variants.none (c : Thread nD τ) none Set.univ)
  iapply HK $$ %X %hX H9 H11 H10 H7 H8 H1 H15 H14 H12

/-- The main product and the first chunk of the side product, at a grid point after the first. -/
theorem part9_later_wp (c : Dev nD) (h1 : ¬ k0_cond1 i = 1#1) (L : List ℕ) (hL : L.length ≤ 4096) (hb : ∀ j, j < L.length → nth L j < 4096) (X : S4096.Idx → BitVec 32) (hX : Listed L X) (q4 : PosShare TreeShare) (w : Vec F S512x4096 .i8) (B : Vec F S256x4096 .bf16) (A : Vec F S32x256x128 .bf16) (X13 : Vec F S128x128 .i32)
    {β : Type} (kk : (Σ' (v6 : FVec F S256x512 .f32) (v27 : FVec F S256x512 .f32) (v28 : Elt F .i32) (k0_hw8 : k0_chk8 v28), BitVec 32) → Prog (TpuEff nD τ sig (Elt F) Λ₀ .tc) β) (Q : β → sProp (MT nD τ sig Unit (Elt F) ℕ (UR sig nD τ) ℕ)) :
    iprop(owns (c : Thread nD τ) arg11 fullShare B ∗ owns (c : Thread nD τ) arg4 q4 w ∗ owns (c : Thread nD τ) arg13 fullShare X13 ∗ owns (c : Thread nD τ) arg14 fullShare (fun _ => wd L.length) ∗ owns (c : Thread nD τ) arg15 fullShare X ∗ owns (c : Thread nD τ) arg12 fullShare A)
      ⊢ iprop((owns (c : Thread nD τ) arg11 fullShare B -∗ owns (c : Thread nD τ) arg4 q4 w -∗ owns (c : Thread nD τ) arg13 fullShare (gAt (F := F) w L 0) -∗ owns (c : Thread nD τ) arg14 fullShare (fun _ => wd L.length) -∗ owns (c : Thread nD τ) arg15 fullShare X -∗ owns (c : Thread nD τ) arg12 fullShare A -∗ WP (F := F) c (kk ⟨k0_pay85 B w, side w A L 0, wd L.length, chk8_of L.length hL, 127#32⟩) Q)
        -∗ WP (F := F) c (k0_part9 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 >>= kk) Q) := by
  iintro ⟨H11, H4, H13, H14, H15, H12⟩ HK
  rw [k0_part9_eq_skeleton]
  unfold k0_part9_skel
  iapply (bind_wp c)
  rw [dif_neg h1]
  iapply (wp_load_owns Variants.none (c : Thread nD τ) none Set.univ (m := arg11)) $$ H11
  iintro H11
  rw [emb_full (s := S256x4096)]
  iapply (wp_load_owns Variants.none (c : Thread nD τ) none Set.univ (m := arg4)) $$ H4
  iintro H4
  rw [emb_full (s := S512x4096)]
  iapply (wp_load_owns Variants.none (c : Thread nD τ) none Set.univ (m := arg13)) $$ H13
  iintro H13
  iapply (wp_store_owns Variants.none (c : Thread nD τ) none Set.univ (m := arg13)) $$ H13
  iintro H13
  rw [over_full (s := S128x128)]
  iapply (wp_smem_owns Variants.none (c : Thread nD τ) none Set.univ (m := arg14)) $$ H14
  iintro H14
  iapply (wp_assume_lift Variants.none (c : Thread nD τ) none Set.univ (chk5_of L.length hL))
  iapply (t4_loop i arg1 harg1 arg2 harg2 arg3 harg3 arg4 harg4 arg5 harg5 arg6 harg6 arg7 harg7 arg8 harg8 arg9 harg9 arg10 harg10 arg11 harg11 arg12 harg12 arg13 harg13 arg14 harg14 arg15 harg15 c L hL hb q4 X hX w _ (chk5_of L.length hL) _) $$ [H15 H4 H13]
  · isplitl [H15]; · iexact H15
    isplitl [H4]; · iexact H4
    iexact H13
  iintro %a H15 H4 H13
  rw [gAt_start]
  iapply (rem_loop c)
  iapply (wp_load_owns Variants.none (c : Thread nD τ) none Set.univ (m := arg13)) $$ H13
  iintro H13
  rw [emb_full (s := S128x128)]
  iapply (wp_load_owns Variants.none (c : Thread nD τ) none Set.univ (m := arg12)) $$ H12
  iintro H12
  rw [emb_chunk _ _ _ 0 rfl]
  iapply (wp_smem_owns Variants.none (c : Thread nD τ) none Set.univ (m := arg14)) $$ H14
  iintro H14
  iapply (wp_assume_lift Variants.none (c : Thread nD τ) none Set.univ (chk8_of L.length hL))
  iapply (wp_pure Variants.none (c : Thread nD τ) none Set.univ)
  iapply HK $$ H11 H4 H13 H14 H15 H12

set_option maxHeartbeats 1600000 in
/-- The first grid point: the quantisation, the list of the outlier columns and their gather, the main product and the
    first chunk of the side product. -/
theorem part9_first_wp (c : Dev nD) (h1 : k0_cond1 i = 1#1) (q1 q2 q3 q4 : PosShare TreeShare) (T : S4096.Idx → BitVec 32) (x : Vec F S256x4096 .bf16) (m : Vec F S1x4096 .i32) (w : Vec F S512x4096 .i8)
    (X7 : Vec F S1x4096 .f32) (X8 : Vec F S1x4096 .i32) (X9 : Vec F S256x4096 .i8) (X10 : Vec F S256x128 .f32) (X11 : Vec F S256x4096 .bf16) (X12 : Vec F S32x256x128 .bf16) (X13 : Vec F S128x128 .i32) (X14 : S1.Idx → BitVec 32) (X15 : S4096.Idx → BitVec 32)
    {β : Type} (kk : (Σ' (v6 : FVec F S256x512 .f32) (v27 : FVec F S256x512 .f32) (v28 : Elt F .i32) (k0_hw8 : k0_chk8 v28), BitVec 32) → Prog (TpuEff nD τ sig (Elt F) Λ₀ .tc) β) (Q : β → sProp (MT nD τ sig Unit (Elt F) ℕ (UR sig nD τ) ℕ)) :
    iprop(owns (c : Thread nD τ) arg1 q1 T ∗ owns (c : Thread nD τ) arg2 q2 x ∗ owns (c : Thread nD τ) arg3 q3 m ∗ owns (c : Thread nD τ) arg4 q4 w ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15)
      ⊢ iprop((∀ X, ⌜Listed (hits T 4096) X⌝ -∗ owns (c : Thread nD τ) arg1 q1 T -∗ owns (c : Thread nD τ) arg2 q2 x -∗ owns (c : Thread nD τ) arg3 q3 m -∗ owns (c : Thread nD τ) arg4 q4 w -∗ owns (c : Thread nD τ) arg7 fullShare (cm x 7) -∗ owns (c : Thread nD τ) arg8 fullShare (k0_pay81 (cm x 7)) -∗ owns (c : Thread nD τ) arg9 fullShare (codes m x) -∗ owns (c : Thread nD τ) arg10 fullShare (scales m x) -∗ owns (c : Thread nD τ) arg11 fullShare (cbf m x) -∗ owns (c : Thread nD τ) arg12 fullShare (xg x (hits T 4096)) -∗ owns (c : Thread nD τ) arg13 fullShare (gAt (F := F) w (hits T 4096) 0) -∗ owns (c : Thread nD τ) arg14 fullShare (fun _ => wd (hits T 4096).length) -∗ owns (c : Thread nD τ) arg15 fullShare X -∗ WP (F := F) c (kk ⟨k0_pay85 (cbf m x) w, side w (xg x (hits T 4096)) (hits T 4096) 0, wd (hits T 4096).length, chk8_of (hits T 4096).length (hits_length_le T 4096), 127#32⟩) Q)
        -∗ WP (F := F) c (k0_part9 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 >>= kk) Q) := by
  iintro ⟨H1, H2, H3, H4, H7, H8, H9, H10, H11, H12, H13, H14, H15⟩ HK
  rw [k0_part9_eq_skeleton]
  unfold k0_part9_skel
  iapply (bind_wp c)
  rw [dif_pos h1]
  rw [← glue_zero (codesR m x) X9, ← glue_zero (cbfR m x) X11, ← glueS_zero (scalesR m x) X10]
  iapply (part1_wp i arg1 harg1 arg2 harg2 arg3 harg3 arg4 harg4 arg5 harg5 arg6 harg6 arg7 harg7 arg8 harg8 arg9 harg9 arg10 harg10 arg11 harg11 arg12 harg12 arg13 harg13 arg14 harg14 arg15 harg15 c q3 q2 m x X9 X11 X10) $$ [H3 H2 H9 H11 H10]
  · isplitl [H3]; · iexact H3
    isplitl [H2]; · iexact H2
    isplitl [H9]; · iexact H9
    isplitl [H11]; · iexact H11
    iexact H10
  iintro H3 H2 H9 H11 H10
  iapply (part2_wp i arg1 harg1 arg2 harg2 arg3 harg3 arg4 harg4 arg5 harg5 arg6 harg6 arg7 harg7 arg8 harg8 arg9 harg9 arg10 harg10 arg11 harg11 arg12 harg12 arg13 harg13 arg14 harg14 arg15 harg15 c q3 q2 m x X9 X11 X10) $$ [H2 H9 H11 H10]
  · isplitl [H2]; · iexact H2
    isplitl [H9]; · iexact H9
    isplitl [H11]; · iexact H11
    iexact H10
  iintro H2 H9 H11 H10
  iapply (part3_wp i arg1 harg1 arg2 harg2 arg3 harg3 arg4 harg4 arg5 harg5 arg6 harg6 arg7 harg7 arg8 harg8 arg9 harg9 arg10 harg10 arg11 harg11 arg12 harg12 arg13 harg13 arg14 harg14 arg15 harg15 c q3 q2 m x X9 X11 X10) $$ [H2 H9 H11 H10]
  · isplitl [H2]; · iexact H2
    isplitl [H9]; · iexact H9
    isplitl [H11]; · iexact H11
    iexact H10
  iintro H2 H9 H11 H10
  iapply (part4_wp i arg1 harg1 arg2 harg2 arg3 harg3 arg4 harg4 arg5 harg5 arg6 harg6 arg7 harg7 arg8 harg8 arg9 harg9 arg10 harg10 arg11 harg11 arg12 harg12 arg13 harg13 arg14 harg14 arg15 harg15 c q3 q2 m x X9 X11 X10) $$ [H2 H9 H11 H10]
  · isplitl [H2]; · iexact H2
    isplitl [H9]; · iexact H9
    isplitl [H11]; · iexact H11
    iexact H10
  iintro H2 H9 H11 H10
  iapply (part5_wp i arg1 harg1 arg2 harg2 arg3 harg3 arg4 harg4 arg5 harg5 arg6 harg6 arg7 harg7 arg8 harg8 arg9 harg9 arg10 harg10 arg11 harg11 arg12 harg12 arg13 harg13 arg14 harg14 arg15 harg15 c q3 q2 m x X9 X11 X10) $$ [H2 H9 H11 H10]
  · isplitl [H2]; · iexact H2
    isplitl [H9]; · iexact H9
    isplitl [H11]; · iexact H11
    iexact H10
  iintro H2 H9 H11 H10
  iapply (part6_wp i arg1 harg1 arg2 harg2 arg3 harg3 arg4 harg4 arg5 harg5 arg6 harg6 arg7 harg7 arg8 harg8 arg9 harg9 arg10 harg10 arg11 harg11 arg12 harg12 arg13 harg13 arg14 harg14 arg15 harg15 c q3 q2 m x X9 X11 X10) $$ [H2 H9 H11 H10]
  · isplitl [H2]; · iexact H2
    isplitl [H9]; · iexact H9
    isplitl [H11]; · iexact H11
    iexact H10
  iintro H2 H9 H11 H10
  iapply (part7_wp i arg1 harg1 arg2 harg2 arg3 harg3 arg4 harg4 arg5 harg5 arg6 harg6 arg7 harg7 arg8 harg8 arg9 harg9 arg10 harg10 arg11 harg11 arg12 harg12 arg13 harg13 arg14 harg14 arg15 harg15 c q3 q2 m x X9 X11 X10) $$ [H2 H9 H11 H10]
  · isplitl [H2]; · iexact H2
    isplitl [H9]; · iexact H9
    isplitl [H11]; · iexact H11
    iexact H10
  iintro H2 H9 H11 H10
  iapply (part8_wp i arg1 harg1 arg2 harg2 arg3 harg3 arg4 harg4 arg5 harg5 arg6 harg6 arg7 harg7 arg8 harg8 arg9 harg9 arg10 harg10 arg11 harg11 arg12 harg12 arg13 harg13 arg14 harg14 arg15 harg15 c h1 q1 m x T X9 X11 X10 X7 X8 X15 X14 X12) $$ [H9 H11 H10 H7 H8 H1 H15 H14 H12]
  · isplitl [H9]; · iexact H9
    isplitl [H11]; · iexact H11
    isplitl [H10]; · iexact H10
    isplitl [H7]; · iexact H7
    isplitl [H8]; · iexact H8
    isplitl [H1]; · iexact H1
    isplitl [H15]; · iexact H15
    isplitl [H14]; · iexact H14
    iexact H12
  iintro %X %hX H9 H11 H10 H7 H8 H1 H15 H14 H12
  iapply (wp_store_owns Variants.none (c : Thread nD τ) none Set.univ (m := arg12)) $$ H12
  iintro H12
  rw [over_full (s := S32x256x128)]
  iapply (wp_smem_owns Variants.none (c : Thread nD τ) none Set.univ (m := arg14)) $$ H14
  iintro H14
  iapply (wp_assume_lift Variants.none (c : Thread nD τ) none Set.univ (chk2_of i _ (hits_length_le T 4096)))
  iapply (t2_loop i arg1 harg1 arg2 harg2 arg3 harg3 arg4 harg4 arg5 harg5 arg6 harg6 arg7 harg7 arg8 harg8 arg9 harg9 arg10 harg10 arg11 harg11 arg12 harg12 arg13 harg13 arg14 harg14 arg15 harg15 c h1 (hits T 4096) (hits_length_le T 4096) (fun j h => hits_nth_lt T 4096 j h) q2 X hX x (chk2_of i _ (hits_length_le T 4096)) _) $$ [H15 H2 H12]
  · isplitl [H15]; · iexact H15
    isplitl [H2]; · iexact H2
    iexact H12
  iintro %a0 H15 H2 H12
  rw [xg_def]
  iapply (rem_loop c)
  iapply (wp_load_owns Variants.none (c : Thread nD τ) none Set.univ (m := arg11)) $$ H11
  iintro H11
  rw [emb_full (s := S256x4096)]
  iapply (wp_load_owns Variants.none (c : Thread nD τ) none Set.univ (m := arg4)) $$ H4
  iintro H4
  rw [emb_full (s := S512x4096)]
  iapply (wp_load_owns Variants.none (c : Thread nD τ) none Set.univ (m := arg13)) $$ H13
  iintro H13
  iapply (wp_store_owns Variants.none (c : Thread nD τ) none Set.univ (m := arg13)) $$ H13
  iintro H13
  rw [over_full (s := S128x128)]
  iapply (wp_smem_owns Variants.none (c : Thread nD τ) none Set.univ (m := arg14)) $$ H14
  iintro H14
  iapply (wp_assume_lift Variants.none (c : Thread nD τ) none Set.univ (chk5_of (hits T 4096).length (hits_length_le T 4096)))
  iapply (t4_loop i arg1 harg1 arg2 harg2 arg3 harg3 arg4 harg4 arg5 harg5 arg6 harg6 arg7 harg7 arg8 harg8 arg9 harg9 arg10 harg10 arg11 harg11 arg12 harg12 arg13 harg13 arg14 harg14 arg15 harg15 c (hits T 4096) (hits_length_le T 4096) (fun j h => hits_nth_lt T 4096 j h) q4 X hX w _ (chk5_of (hits T 4096).length (hits_length_le T 4096)) _) $$ [H15 H4 H13]
  · isplitl [H15]; · iexact H15
    isplitl [H4]; · iexact H4
    iexact H13
  iintro %a H15 H4 H13
  rw [gAt_start]
  iapply (rem_loop c)
  iapply (wp_load_owns Variants.none (c : Thread nD τ) none Set.univ (m := arg13)) $$ H13
  iintro H13
  rw [emb_full (s := S128x128)]
  iapply (wp_load_owns Variants.none (c : Thread nD τ) none Set.univ (m := arg12)) $$ H12
  iintro H12
  rw [emb_chunk _ _ _ 0 rfl]
  iapply (wp_smem_owns Variants.none (c : Thread nD τ) none Set.univ (m := arg14)) $$ H14
  iintro H14
  iapply (wp_assume_lift Variants.none (c : Thread nD τ) none Set.univ (chk8_of (hits T 4096).length (hits_length_le T 4096)))
  iapply (wp_pure Variants.none (c : Thread nD τ) none Set.univ)
  iapply HK $$ %X %hX H1 H2 H3 H4 H7 H8 H9 H10 H11 H12 H13 H14 H15

set_option maxHeartbeats 1600000 in
/-- The body at a grid point after the first. -/
theorem later_wp (c : Dev nD) (h1 : ¬ k0_cond1 i = 1#1) (L : List ℕ) (hL : L.length ≤ 4096) (hb : ∀ j, j < L.length → nth L j < 4096) (X : S4096.Idx → BitVec 32) (hX : Listed L X) (q4 : PosShare TreeShare) (w : Vec F S512x4096 .i8) (B : Vec F S256x4096 .bf16) (A : Vec F S32x256x128 .bf16) (X13 : Vec F S128x128 .i32)
    (q5 : PosShare TreeShare) (ws : Vec F S1x512 .f32) (S : Vec F S256x128 .f32) (X6 : Vec F S256x512 .bf16)
    (Q : PUnit → sProp (MT nD τ sig Unit (Elt F) ℕ (UR sig nD τ) ℕ)) :
    iprop(owns (c : Thread nD τ) arg4 q4 w ∗ owns (c : Thread nD τ) arg5 q5 ws ∗ owns (c : Thread nD τ) arg6 fullShare X6 ∗ owns (c : Thread nD τ) arg10 fullShare S ∗ owns (c : Thread nD τ) arg11 fullShare B ∗ owns (c : Thread nD τ) arg12 fullShare A ∗ owns (c : Thread nD τ) arg13 fullShare X13 ∗ owns (c : Thread nD τ) arg14 fullShare (fun _ => wd L.length) ∗ owns (c : Thread nD τ) arg15 fullShare X)
      ⊢ iprop((∀ G, owns (c : Thread nD τ) arg4 q4 w -∗ owns (c : Thread nD τ) arg5 q5 ws -∗ owns (c : Thread nD τ) arg6 fullShare (yBlk B S A L w ws) -∗ owns (c : Thread nD τ) arg10 fullShare S -∗ owns (c : Thread nD τ) arg11 fullShare B -∗ owns (c : Thread nD τ) arg12 fullShare A -∗ owns (c : Thread nD τ) arg13 fullShare G -∗ owns (c : Thread nD τ) arg14 fullShare (fun _ => wd L.length) -∗ owns (c : Thread nD τ) arg15 fullShare X -∗ Q ⟨⟩)
        -∗ WP (F := F) c (cc0_llm_int8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15) Q) := by
  iintro ⟨H4, H5, H6, H10, H11, H12, H13, H14, H15⟩ HK
  rw [cc0_llm_int8_eq_skeleton]
  unfold cc0_llm_int8_skel
  iapply (part9_later_wp i arg1 harg1 arg2 harg2 arg3 harg3 arg4 harg4 arg5 harg5 arg6 harg6 arg7 harg7 arg8 harg8 arg9 harg9 arg10 harg10 arg11 harg11 arg12 harg12 arg13 harg13 arg14 harg14 arg15 harg15 c h1 L hL hb X hX q4 w B A X13) $$ [H11 H4 H13 H14 H15 H12]
  · isplitl [H11]; · iexact H11
    isplitl [H4]; · iexact H4
    isplitl [H13]; · iexact H13
    isplitl [H14]; · iexact H14
    isplitl [H15]; · iexact H15
    iexact H12
  iintro H11 H4 H13 H14 H15 H12
  iapply (wp_load_owns Variants.none (c : Thread nD τ) none Set.univ (m := arg10)) $$ H10
  iintro H10
  rw [emb_lane0]
  iapply (wp_load_owns Variants.none (c : Thread nD τ) none Set.univ (m := arg5)) $$ H5
  iintro H5
  rw [emb_full (s := S1x512)]
  iapply (wp_load_owns Variants.none (c : Thread nD τ) none Set.univ (m := arg6)) $$ H6
  iintro H6
  iapply (wp_store_owns Variants.none (c : Thread nD τ) none Set.univ (m := arg6)) $$ H6
  iintro H6
  rw [over_full (s := S256x512)]
  by_cases h3 : k0_cond3 (wd L.length) = 1#1
  · rw [dif_pos h3]
    iapply (t6_loop i arg1 harg1 arg2 harg2 arg3 harg3 arg4 harg4 arg5 harg5 arg6 harg6 arg7 harg7 arg8 harg8 arg9 harg9 arg10 harg10 arg11 harg11 arg12 harg12 arg13 harg13 arg14 harg14 arg15 harg15 c L hL hb q4 X hX w A h3 (chk8_of L.length hL) _) $$ [H14 H15 H4 H13 H12]
    · isplitl [H14]; · iexact H14
      isplitl [H15]; · iexact H15
      isplitl [H4]; · iexact H4
      isplitl [H13]; · iexact H13
      iexact H12
    iintro H14 H15 H4 H13 H12
    iapply (rem_loop c)
    iapply (wp_load_owns Variants.none (c : Thread nD τ) none Set.univ (m := arg11)) $$ H11
    iintro H11
    rw [emb_full (s := S256x4096)]
    iapply (wp_load_owns Variants.none (c : Thread nD τ) none Set.univ (m := arg4)) $$ H4
    iintro H4
    rw [emb_full (s := S512x4096)]
    iapply (wp_load_owns Variants.none (c : Thread nD τ) none Set.univ (m := arg5)) $$ H5
    iintro H5
    rw [emb_full (s := S1x512)]
    iapply (wp_load_owns Variants.none (c : Thread nD τ) none Set.univ (m := arg6)) $$ H6
    iintro H6
    iapply (wp_store_owns Variants.none (c : Thread nD τ) none Set.univ (m := arg6)) $$ H6
    iintro H6
    rw [over_full (s := S256x512), pay9_eq, yBlk_def]
    iapply (wp_pure Variants.none (c : Thread nD τ) none Set.univ)
    iapply HK $$ %(gAt (F := F) w L (nch L.length - 1)) H4 H5 H6 H10 H11 H12 H13 H14 H15
  · rw [dif_neg h3]
    iapply (wp_pure Variants.none (c : Thread nD τ) none Set.univ)
    rw [show side w A L 0 = side w A L (nch L.length - 1) from by rw [cond3_nch _ hL h3], yBlk_def]
    iapply HK $$ %(gAt (F := F) w L 0) H4 H5 H6 H10 H11 H12 H13 H14 H15

set_option maxHeartbeats 1600000 in
/-- The body at the first grid point. -/
theorem first_wp (c : Dev nD) (h1 : k0_cond1 i = 1#1) (q1 q2 q3 q4 q5 : PosShare TreeShare) (T : S4096.Idx → BitVec 32) (x : Vec F S256x4096 .bf16) (m : Vec F S1x4096 .i32) (w : Vec F S512x4096 .i8) (ws : Vec F S1x512 .f32) (X6 : Vec F S256x512 .bf16)
    (X7 : Vec F S1x4096 .f32) (X8 : Vec F S1x4096 .i32) (X9 : Vec F S256x4096 .i8) (X10 : Vec F S256x128 .f32) (X11 : Vec F S256x4096 .bf16) (X12 : Vec F S32x256x128 .bf16) (X13 : Vec F S128x128 .i32) (X14 : S1.Idx → BitVec 32) (X15 : S4096.Idx → BitVec 32)
    (Q : PUnit → sProp (MT nD τ sig Unit (Elt F) ℕ (UR sig nD τ) ℕ)) :
    iprop(owns (c : Thread nD τ) arg1 q1 T ∗ owns (c : Thread nD τ) arg2 q2 x ∗ owns (c : Thread nD τ) arg3 q3 m ∗ owns (c : Thread nD τ) arg4 q4 w ∗ owns (c : Thread nD τ) arg5 q5 ws ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15)
      ⊢ iprop((∀ X G, ⌜Listed (hits T 4096) X⌝ -∗ owns (c : Thread nD τ) arg1 q1 T -∗ owns (c : Thread nD τ) arg2 q2 x -∗ owns (c : Thread nD τ) arg3 q3 m -∗ owns (c : Thread nD τ) arg4 q4 w -∗ owns (c : Thread nD τ) arg5 q5 ws -∗ owns (c : Thread nD τ) arg6 fullShare (yBlk (cbf m x) (scales m x) (xg x (hits T 4096)) (hits T 4096) w ws) -∗ owns (c : Thread nD τ) arg7 fullShare (cm x 7) -∗ owns (c : Thread nD τ) arg8 fullShare (k0_pay81 (cm x 7)) -∗ owns (c : Thread nD τ) arg9 fullShare (codes m x) -∗ owns (c : Thread nD τ) arg10 fullShare (scales m x) -∗ owns (c : Thread nD τ) arg11 fullShare (cbf m x) -∗ owns (c : Thread nD τ) arg12 fullShare (xg x (hits T 4096)) -∗ owns (c : Thread nD τ) arg13 fullShare G -∗ owns (c : Thread nD τ) arg14 fullShare (fun _ => wd (hits T 4096).length) -∗ owns (c : Thread nD τ) arg15 fullShare X -∗ Q ⟨⟩)
        -∗ WP (F := F) c (cc0_llm_int8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15) Q) := by
  iintro ⟨H1, H2, H3, H4, H5, H6, H7, H8, H9, H10, H11, H12, H13, H14, H15⟩ HK
  rw [cc0_llm_int8_eq_skeleton]
  unfold cc0_llm_int8_skel
  iapply (part9_first_wp i arg1 harg1 arg2 harg2 arg3 harg3 arg4 harg4 arg5 harg5 arg6 harg6 arg7 harg7 arg8 harg8 arg9 harg9 arg10 harg10 arg11 harg11 arg12 harg12 arg13 harg13 arg14 harg14 arg15 harg15 c h1 q1 q2 q3 q4 T x m w X7 X8 X9 X10 X11 X12 X13 X14 X15) $$ [H1 H2 H3 H4 H7 H8 H9 H10 H11 H12 H13 H14 H15]
  · isplitl [H1]; · iexact H1
    isplitl [H2]; · iexact H2
    isplitl [H3]; · iexact H3
    isplitl [H4]; · iexact H4
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  iintro %X %hX H1 H2 H3 H4 H7 H8 H9 H10 H11 H12 H13 H14 H15
  iapply (wp_load_owns Variants.none (c : Thread nD τ) none Set.univ (m := arg10)) $$ H10
  iintro H10
  rw [emb_lane0]
  iapply (wp_load_owns Variants.none (c : Thread nD τ) none Set.univ (m := arg5)) $$ H5
  iintro H5
  rw [emb_full (s := S1x512)]
  iapply (wp_load_owns Variants.none (c : Thread nD τ) none Set.univ (m := arg6)) $$ H6
  iintro H6
  iapply (wp_store_owns Variants.none (c : Thread nD τ) none Set.univ (m := arg6)) $$ H6
  iintro H6
  rw [over_full (s := S256x512)]
  by_cases h3 : k0_cond3 (wd (hits T 4096).length) = 1#1
  · rw [dif_pos h3]
    iapply (t6_loop i arg1 harg1 arg2 harg2 arg3 harg3 arg4 harg4 arg5 harg5 arg6 harg6 arg7 harg7 arg8 harg8 arg9 harg9 arg10 harg10 arg11 harg11 arg12 harg12 arg13 harg13 arg14 harg14 arg15 harg15 c (hits T 4096) (hits_length_le T 4096) (fun j h => hits_nth_lt T 4096 j h) q4 X hX w (xg x (hits T 4096)) h3 (chk8_of (hits T 4096).length (hits_length_le T 4096)) _) $$ [H14 H15 H4 H13 H12]
    · isplitl [H14]; · iexact H14
      isplitl [H15]; · iexact H15
      isplitl [H4]; · iexact H4
      isplitl [H13]; · iexact H13
      iexact H12
    iintro H14 H15 H4 H13 H12
    iapply (rem_loop c)
    iapply (wp_load_owns Variants.none (c : Thread nD τ) none Set.univ (m := arg11)) $$ H11
    iintro H11
    rw [emb_full (s := S256x4096)]
    iapply (wp_load_owns Variants.none (c : Thread nD τ) none Set.univ (m := arg4)) $$ H4
    iintro H4
    rw [emb_full (s := S512x4096)]
    iapply (wp_load_owns Variants.none (c : Thread nD τ) none Set.univ (m := arg5)) $$ H5
    iintro H5
    rw [emb_full (s := S1x512)]
    iapply (wp_load_owns Variants.none (c : Thread nD τ) none Set.univ (m := arg6)) $$ H6
    iintro H6
    iapply (wp_store_owns Variants.none (c : Thread nD τ) none Set.univ (m := arg6)) $$ H6
    iintro H6
    rw [over_full (s := S256x512), pay9_eq, yBlk_def]
    iapply (wp_pure Variants.none (c : Thread nD τ) none Set.univ)
    iapply HK $$ %X %(gAt (F := F) w (hits T 4096) (nch (hits T 4096).length - 1)) %hX H1 H2 H3 H4 H5 H6 H7 H8 H9 H10 H11 H12 H13 H14 H15
  · rw [dif_neg h3]
    iapply (wp_pure Variants.none (c : Thread nD τ) none Set.univ)
    rw [show side w (xg x (hits T 4096)) (hits T 4096) 0 = side w (xg x (hits T 4096)) (hits T 4096) (nch (hits T 4096).length - 1) from by rw [cond3_nch _ (hits_length_le T 4096) h3], yBlk_def]
    iapply HK $$ %X %(gAt (F := F) w (hits T 4096) 0) %hX H1 H2 H3 H4 H5 H6 H7 H8 H9 H10 H11 H12 H13 H14 H15

end Cert.KernelIdeal.Body
-- ==== Proof.Region.lean ====
/- The program around the kernel's one grid: what each grid point finds and leaves, and the run of the whole program. -/
module

public import proofs.«01_k».proof.Proof.Body
public import proofs.«01_k».proof.Proof.Gen.KernelIdeal.Launch
public import Idealize.ShloMosaic.Lib.Pipeline.FrameBody
public import Idealize.ShloMosaic.Lib.Pipeline.FrameSuffix
public import Idealize.ShloMosaic.Lib.Claim
public import Idealize.ShloMosaic.Lib.Pipeline.Value
public import Idealize.ShloMosaic.Lib.Pipeline.ValueKit.Geometry

@[expose] public section

set_option maxRecDepth 16384

noncomputable section

namespace Cert.KernelIdeal.Region

open Cert.KernelIdeal Cert.KernelIdeal.Gen Cert.KernelIdeal.Words Cert.KernelIdeal.Spec Cert.OwnRules Cert.KernelIdeal.Quant Cert.KernelIdeal.Body
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program's own lines around the grid -/

/-- A core's buffers when the grid is entered: after the reshapes before it. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- The program is its lines before the grid, the grid, and its lines after it. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- A line that reads one buffer and writes another touches only buffers the lines after the grid may touch, if both are such. -/
theorem pair_sub (x y : Ref sig .tc) (hx : x ∈ Finset.univ.image (Pipeline.arrRef spec0) ∪ Pipeline.restRefsP sig pre0 spec0)
    (hy : y ∈ Finset.univ.image (Pipeline.arrRef spec0) ∪ Pipeline.restRefsP sig pre0 spec0) :
    ({Proc.devRef (τ := τ) .tc x, Proc.devRef (τ := τ) .tc y} : Finset (DevRef τ sig)) ⊆ Pipeline.tailRefs sig pre0 spec0 := by
  intro b hb
  rcases Finset.mem_insert.mp hb with rfl | hb
  · exact Finset.mem_map_of_mem _ hx
  · rw [Finset.mem_singleton.mp hb]; exact Finset.mem_map_of_mem _ hy

/-- The lines after the grid touch the grid's arrays and the buffers it leaves alone. -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl
  · exact pair_sub main_v3_0 main_v4 (by decide) (by decide)
  · exact pair_sub main_v3_1 main_v5 (by decide) (by decide)
  · exact pair_sub main_v3_2 main_v6 (by decide) (by decide)
  · exact pair_sub main_v3_3 main_v7 (by decide) (by decide)
  · exact pair_sub main_v3_4 main_v8 (by decide) (by decide)
  · exact pair_sub main_v8 main_v9 (by decide) (by decide)
  · exact pair_sub main_v9 main_v10 (by decide) (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- They write no array of the grid. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No line before the grid writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No line before the grid writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No line before the grid writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No line before the grid writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No line after the grid writes `main_arg0`. -/
theorem W_main_arg0 (a : (p : Fin 1) → (pcfgs (F := F) p).Adm) (dats : (p : Fin _) → (c : Dev nD) → Dat τ (Elt F) Unit ℕ (UR sig nD τ) ℕ (Pipeline.pin pcfgs a p) c) (c : Dev nD) :
    Pipeline.afterTail pcfgs a dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No line after the grid writes `main_arg1`. -/
theorem W_main_arg1 (a : (p : Fin 1) → (pcfgs (F := F) p).Adm) (dats : (p : Fin _) → (c : Dev nD) → Dat τ (Elt F) Unit ℕ (UR sig nD τ) ℕ (Pipeline.pin pcfgs a p) c) (c : Dev nD) :
    Pipeline.afterTail pcfgs a dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No line after the grid writes `main_arg3`. -/
theorem W_main_arg3 (a : (p : Fin 1) → (pcfgs (F := F) p).Adm) (dats : (p : Fin _) → (c : Dev nD) → Dat τ (Elt F) Unit ℕ (UR sig nD τ) ℕ (Pipeline.pin pcfgs a p) c) (c : Dev nD) :
    Pipeline.afterTail pcfgs a dats 0 (V0 m) [hostOps1] c main_arg3 = m ((c : Thread nD τ).loc main_arg3) := by
  unfold Pipeline.afterTail
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## What the windows hold -/

/-- The table read ahead of the grid, as the grid finds it. -/
def tab : (p : Fin 1) → (pcfgs (F := F) p).Adm := fun _ => ⟨fun k => V m (0 : Dev nD) (pre0.ref k), trivial⟩

/-- The grid at that table. -/
abbrev cfgA : Cfg sig Λ₀ := cfg0 (tab m 0)

/-- The activations, the mask row and the mask table, as the grid finds them. -/
def xA (c : Dev nD) : Vec F S256x4096 .bf16 := V m c main_v0
def mA (c : Dev nD) : Vec F S1x4096 .i32 := V m c main_v1
def tA (c : Dev nD) : S4096.Idx → BitVec 32 := V m c main_arg1
/-- The columns the mask table marks. -/
def lA (c : Dev nD) : List ℕ := hits (tA m c) 4096

/-- Window `w`'s block at point `t`, read off its array as the grid finds it. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

theorem iblk_0 (c : Dev nD) (t : Fin (cfgA m).N) : iblk m c 0 t = xA m c := by
  funext y
  show V m c main_v0 ((((cfgA m).win 0).rect t).emb y) = V m c main_v0 y
  congr 1; funext a; apply Fin.ext
  exact Pipeline.Window.rect_emb_val_of_index_zero ((cfgA m).win 0) t a (by fin_cases a <;> rfl) y
theorem iblk_1 (c : Dev nD) (t : Fin (cfgA m).N) : iblk m c 1 t = mA m c := by
  funext y
  show V m c main_v1 ((((cfgA m).win 1).rect t).emb y) = V m c main_v1 y
  congr 1; funext a; apply Fin.ext
  exact Pipeline.Window.rect_emb_val_of_index_zero ((cfgA m).win 1) t a (by fin_cases a <;> rfl) y

/-- The outlier columns of the activations, gathered. -/
def xgA (c : Dev nD) : Vec F S32x256x128 .bf16 := xg (xA m c) (lA m c)

/-- What the body leaves in the outlier scratch buffers at point 0, and every later point finds. -/
def kept (c : Dev nD) : sProp (MT nD τ sig Unit (Elt F) ℕ (UR sig nD τ) ℕ) :=
  iprop((∃ r, prngReg c r)
    ∗ owns (c : Thread nD τ) (Memref.whole cc0_scratch0) fullShare (cbf (mA m c) (xA m c))
    ∗ owns (c : Thread nD τ) (Memref.whole cc0_scratch1) fullShare (xgA m c)
    ∗ (∃ G, owns (c : Thread nD τ) (Memref.whole cc0_scratch2) fullShare G)
    ∗ owns (c : Thread nD τ) (Memref.whole cc0_scratch3) fullShare (fun _ => wd (lA m c).length)
    ∗ (∃ X, ⌜Listed (lA m c) X⌝ ∗ owns (c : Thread nD τ) (Memref.whole cc0_scratch4) fullShare X))

/-- What the grid's points find and leave: the inputs' blocks, each output's block after the point, and the scratch
    buffers: at anything before point 0, filled after it. -/
def dats (p : Fin 1) (c : Dev nD) : Dat τ (Elt F) Unit ℕ (UR sig nD τ) ℕ (Pipeline.pin pcfgs (tab m) p) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yBlk (cbf (mA m c) (xA m c)) (scales (mA m c) (xA m c)) (xgA m c) (lA m c) (iblk m c 2 t) (iblk m c 3 t)
    | ⟨5, _⟩ => cm (xA m c) 7
    | ⟨6, _⟩ => k0_pay81 (cm (xA m c) 7)
    | ⟨7, _⟩ => codes (mA m c) (xA m c)
    | ⟨8, _⟩ => scales (mA m c) (xA m c)
  Φ t := if t.val = 0 then iprop(Pipeline.ΦA spec0 c ∗ Pipeline.ΦT pre0 (tab m 0).1 c) else kept m c
  q _ := fullShare
  owed _ := 0

theorem A_eq (c : Dev nD) (w : Fin (cfgA m).W) : (dats m 0 c).A w = V m c (Pipeline.arrRef spec0 w) := by
  dsimp only [dats]
theorem after_0 (c : Dev nD) (t : Fin (cfgA m).N) : (dats m 0 c).after 0 t = iblk m c 0 t := by dsimp only [dats]; rfl
theorem after_1 (c : Dev nD) (t : Fin (cfgA m).N) : (dats m 0 c).after 1 t = iblk m c 1 t := by dsimp only [dats]; rfl
theorem after_2 (c : Dev nD) (t : Fin (cfgA m).N) : (dats m 0 c).after 2 t = iblk m c 2 t := by dsimp only [dats]; rfl
theorem after_3 (c : Dev nD) (t : Fin (cfgA m).N) : (dats m 0 c).after 3 t = iblk m c 3 t := by dsimp only [dats]; rfl
theorem after_4 (c : Dev nD) (t : Fin (cfgA m).N) : (dats m 0 c).after 4 t = yBlk (cbf (mA m c) (xA m c)) (scales (mA m c) (xA m c)) (xgA m c) (lA m c) (iblk m c 2 t) (iblk m c 3 t) := by dsimp only [dats]; rfl
theorem after_5 (c : Dev nD) (t : Fin (cfgA m).N) : (dats m 0 c).after 5 t = cm (xA m c) 7 := by dsimp only [dats]; rfl
theorem after_6 (c : Dev nD) (t : Fin (cfgA m).N) : (dats m 0 c).after 6 t = k0_pay81 (cm (xA m c) 7) := by dsimp only [dats]; rfl
theorem after_7 (c : Dev nD) (t : Fin (cfgA m).N) : (dats m 0 c).after 7 t = codes (mA m c) (xA m c) := by dsimp only [dats]; rfl
theorem after_8 (c : Dev nD) (t : Fin (cfgA m).N) : (dats m 0 c).after 8 t = scales (mA m c) (xA m c) := by dsimp only [dats]; rfl

/-- Input window 0's buffer holds its block at every point. -/
theorem before_0 (c : Dev nD) (t : Fin (cfgA m).N) (d) : (dats m 0 c).before 0 t d = xA m c :=
  (((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl : _ = iblk m c 0 t)).trans (iblk_0 m c t)
/-- Input window 1's buffer holds its block at every point. -/
theorem before_1 (c : Dev nD) (t : Fin (cfgA m).N) (d) : (dats m 0 c).before 1 t d = mA m c :=
  (((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl : _ = iblk m c 1 t)).trans (iblk_1 m c t)
/-- Input window 2's buffer holds its block at every point. -/
theorem before_2 (c : Dev nD) (t : Fin (cfgA m).N) (d) : (dats m 0 c).before 2 t d = iblk m c 2 t :=
  (((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl : _ = iblk m c 2 t))
/-- Input window 3's buffer holds its block at every point. -/
theorem before_3 (c : Dev nD) (t : Fin (cfgA m).N) (d) : (dats m 0 c).before 3 t d = iblk m c 3 t :=
  (((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl : _ = iblk m c 3 t))

/-- The first-point condition of the body, point by point. -/
theorem cond1_iff : ∀ t : Fin grid0.N, k0_cond1 (grid0.coords t) = 1#1 ↔ t.val = 0 := by decide +kernel

/-- The four outputs written at point 0 only are idle at the later points. -/
theorem idle_5 : ∀ t : Fin grid0.N, idle0 5 (grid0.coords t) = decide (t.val ≠ 0) := by decide +kernel
theorem idle_6 : ∀ t : Fin grid0.N, idle0 6 (grid0.coords t) = decide (t.val ≠ 0) := by decide +kernel
theorem idle_7 : ∀ t : Fin grid0.N, idle0 7 (grid0.coords t) = decide (t.val ≠ 0) := by decide +kernel
theorem idle_8 : ∀ t : Fin grid0.N, idle0 8 (grid0.coords t) = decide (t.val ≠ 0) := by decide +kernel

/-- They are written back at the last point. -/
theorem flush_5 : ∀ t : Fin grid0.N, Window.flushOf grid0 true cc0_transform_5 t = decide (t.val = 27) := by decide +kernel
theorem flush_6 : ∀ t : Fin grid0.N, Window.flushOf grid0 true cc0_transform_6 t = decide (t.val = 27) := by decide +kernel
theorem flush_7 : ∀ t : Fin grid0.N, Window.flushOf grid0 true cc0_transform_7 t = decide (t.val = 27) := by decide +kernel
theorem flush_8 : ∀ t : Fin grid0.N, Window.flushOf grid0 true cc0_transform_8 t = decide (t.val = 27) := by decide +kernel

/-- An output written at point 0 only still holds at every later point what point 0 left. -/
theorem before_kept {cfg : Cfg sig Λ₀} {c : Dev nD} (dat : Dat τ (Elt F) Unit ℕ (UR sig nD τ) ℕ cfg c) (w : Fin cfg.W)
    (hw : (cfg.win w).isOut = true) (hclip : ∀ (i : cfg.grid.Coords) a, (cfg.win w).clip i a = none)
    (hfl : ∀ t : Fin cfg.N, t.val + 1 < cfg.N → (cfg.win w).flush t = false)
    (hidle : ∀ t : Fin cfg.N, cfg.idle w (cfg.grid.coords t) = decide (t.val ≠ 0))
    (hconst : ∀ t t' : Fin cfg.N, dat.after w t = dat.after w t') :
    ∀ (n : ℕ) (h : n < cfg.N) (hn : n ≠ 0) (d), dat.before w ⟨n, h⟩ d = dat.after w ⟨n, h⟩
  | 0, _, hn, _ => absurd rfl hn
  | k + 1, h, hn, d => by
    have hk : k < cfg.N := by omega
    by_cases h0 : k = 0
    · subst h0
      have hl : cfg.idle w (cfg.grid.coords ⟨0, hk⟩) = false := by rw [hidle]; simp
      rw [dat.before_of_pos w ⟨0 + 1, h⟩ (by simp) ((cfg.win w).fetch_out hw _) d]
      show (if (cfg.win w).flush ⟨0, hk⟩ = true then d else dat.left w ⟨0, hk⟩ d) = _
      rw [hfl ⟨0, hk⟩ h, if_neg Bool.false_ne_true]
      unfold Dat.left; rw [hl]
      show dat.kept w ⟨0, hk⟩ d = _
      unfold Dat.kept
      rw [Pipeline.fill_of_clip_none w _ (hclip _) d (dat.after w _), Window.fill_cut]
      exact hconst _ _
    · have ih := before_kept dat w hw hclip hfl hidle hconst k hk h0 d
      have hl : cfg.idle w (cfg.grid.coords ⟨k, hk⟩) = true := by rw [hidle]; simp [h0]
      rw [dat.before_of_pos w ⟨k + 1, h⟩ (by simp) ((cfg.win w).fetch_out hw _) d]
      show (if (cfg.win w).flush ⟨k, hk⟩ = true then d else dat.left w ⟨k, hk⟩ d) = _
      rw [hfl ⟨k, hk⟩ h, if_neg Bool.false_ne_true]
      unfold Dat.left; rw [hl]
      show dat.before w ⟨k, hk⟩ d = _
      rw [ih]
      exact hconst _ _

/-- So what the body leaves there is what the grid wants left: at a later point the buffer as found. -/
theorem leaves_kept {cfg : Cfg sig Λ₀} {c : Dev nD} (dat : Dat τ (Elt F) Unit ℕ (UR sig nD τ) ℕ cfg c) (w : Fin cfg.W)
    (hidle : ∀ t : Fin cfg.N, cfg.idle w (cfg.grid.coords t) = decide (t.val ≠ 0))
    (hbef : ∀ t : Fin cfg.N, t.val ≠ 0 → ∀ d, dat.before w t d = dat.after w t)
    (hd : Nonempty ((cfg.win w).block.Idx → Elt F (cfg.win w).elt)) (t : Fin cfg.N) :
    owns (c : Thread nD τ) ((cfg.win w).stage (cfg.slots t w)) fullShare (dat.after w t) ⊢ dat.leavesExact w t := by
  unfold Dat.leavesExact
  by_cases h0 : t.val = 0
  · have hl : cfg.idle w (cfg.grid.coords t) = false := by rw [hidle]; simp [h0]
    rw [hl]
  · have hl : cfg.idle w (cfg.grid.coords t) = true := by rw [hidle]; simp [h0]
    rw [hl]
    cases hf : (cfg.win w).flush t
    · obtain ⟨d⟩ := hd
      iintro H
      iexists d
      rw [hbef t h0 d]
      iexact H
    · exact .rfl

theorem before_5 (c : Dev nD) (t : Fin (cfgA m).N) (h0 : t.val ≠ 0) (d) : (dats m 0 c).before 5 t d = (dats m 0 c).after 5 t :=
  before_kept (dats m 0 c) 5 rfl (fun _ _ => rfl)
    (fun t ht => ((Window.flush_eq_flushOf _ t).trans (flush_5 t)).trans (decide_eq_false (by have h2 : t.val + 1 < 28 := ht; omega)))
    (fun t => idle_5 t) (fun t t' => by rw [after_5, after_5]) t.val t.isLt h0 d
theorem leaves_5 (c : Dev nD) (t : Fin (cfgA m).N) :
    owns (c : Thread nD τ) (((cfgA m).win 5).stage ((cfgA m).slots t 5)) fullShare ((dats m 0 c).after 5 t) ⊢ (dats m 0 c).leavesExact 5 t :=
  leaves_kept (dats m 0 c) 5 (fun t => idle_5 t) (fun t h d => before_5 m c t h d) ⟨(dats m 0 c).after 5 t⟩ t
theorem before_6 (c : Dev nD) (t : Fin (cfgA m).N) (h0 : t.val ≠ 0) (d) : (dats m 0 c).before 6 t d = (dats m 0 c).after 6 t :=
  before_kept (dats m 0 c) 6 rfl (fun _ _ => rfl)
    (fun t ht => ((Window.flush_eq_flushOf _ t).trans (flush_6 t)).trans (decide_eq_false (by have h2 : t.val + 1 < 28 := ht; omega)))
    (fun t => idle_6 t) (fun t t' => by rw [after_6, after_6]) t.val t.isLt h0 d
theorem leaves_6 (c : Dev nD) (t : Fin (cfgA m).N) :
    owns (c : Thread nD τ) (((cfgA m).win 6).stage ((cfgA m).slots t 6)) fullShare ((dats m 0 c).after 6 t) ⊢ (dats m 0 c).leavesExact 6 t :=
  leaves_kept (dats m 0 c) 6 (fun t => idle_6 t) (fun t h d => before_6 m c t h d) ⟨(dats m 0 c).after 6 t⟩ t
theorem before_7 (c : Dev nD) (t : Fin (cfgA m).N) (h0 : t.val ≠ 0) (d) : (dats m 0 c).before 7 t d = (dats m 0 c).after 7 t :=
  before_kept (dats m 0 c) 7 rfl (fun _ _ => rfl)
    (fun t ht => ((Window.flush_eq_flushOf _ t).trans (flush_7 t)).trans (decide_eq_false (by have h2 : t.val + 1 < 28 := ht; omega)))
    (fun t => idle_7 t) (fun t t' => by rw [after_7, after_7]) t.val t.isLt h0 d
theorem leaves_7 (c : Dev nD) (t : Fin (cfgA m).N) :
    owns (c : Thread nD τ) (((cfgA m).win 7).stage ((cfgA m).slots t 7)) fullShare ((dats m 0 c).after 7 t) ⊢ (dats m 0 c).leavesExact 7 t :=
  leaves_kept (dats m 0 c) 7 (fun t => idle_7 t) (fun t h d => before_7 m c t h d) ⟨(dats m 0 c).after 7 t⟩ t
theorem before_8 (c : Dev nD) (t : Fin (cfgA m).N) (h0 : t.val ≠ 0) (d) : (dats m 0 c).before 8 t d = (dats m 0 c).after 8 t :=
  before_kept (dats m 0 c) 8 rfl (fun _ _ => rfl)
    (fun t ht => ((Window.flush_eq_flushOf _ t).trans (flush_8 t)).trans (decide_eq_false (by have h2 : t.val + 1 < 28 := ht; omega)))
    (fun t => idle_8 t) (fun t t' => by rw [after_8, after_8]) t.val t.isLt h0 d
theorem leaves_8 (c : Dev nD) (t : Fin (cfgA m).N) :
    owns (c : Thread nD τ) (((cfgA m).win 8).stage ((cfgA m).slots t 8)) fullShare ((dats m 0 c).after 8 t) ⊢ (dats m 0 c).leavesExact 8 t :=
  leaves_kept (dats m 0 c) 8 (fun t => idle_8 t) (fun t h d => before_8 m c t h d) ⟨(dats m 0 c).after 8 t⟩ t

/-! ## The body at a point -/

/-- The body as point `t` calls it. -/
abbrev bodyAt (t : Fin (cfgA m).N) : Prog (TpuEff nD τ sig (Elt F) Λ₀ .tc) PUnit :=
  cc0_llm_int8 (grid0.coords t) (Memref.whole main_arg1) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (spec0_5.stage ((cfgA m).slots t 5)) (hstage0_5 (((cfgA m).slots t 5).cast nbuf0_5)) (spec0_6.stage ((cfgA m).slots t 6)) (hstage0_6 (((cfgA m).slots t 6).cast nbuf0_6)) (spec0_7.stage ((cfgA m).slots t 7)) (hstage0_7 (((cfgA m).slots t 7).cast nbuf0_7)) (spec0_8.stage ((cfgA m).slots t 8)) (hstage0_8 (((cfgA m).slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

theorem defs₀_row (t : Fin (cfgA m).N) :
    defs₀ (F := F) .tc (cfgA m).body ((cfgA m).bodyArgs t ((cfgA m).slots t)) = bodyAt m t := by
  unfold defs₀; rw [Defs.onTc_tc]

/-- The table the body reads, at half its share. -/
theorem table_eq (c : Dev nD) : (Pipeline.ΦT pre0 (tab m 0).1 c : sProp (MT nD τ sig Unit (Elt F) ℕ (UR sig nD τ) ℕ))
    = owns (c : Thread nD τ) (Memref.whole main_arg1) fullShare.right (tA m c) := by
  obtain rfl : c = (0 : Dev nD) := Subsingleton.elim _ _
  rw [owns_whole]
  unfold Pipeline.ΦT Pipeline.prefHeld
  rw [bigSep_univ_eq_bigSepL [(0 : Fin 1)] (by decide) (by decide)]
  rfl

theorem Φ_eq (c : Dev nD) (t : Fin ((cfgA m).N + 1)) : (dats m 0 c).Φ t
    = if t.val = 0 then iprop(Pipeline.ΦA spec0 c ∗ Pipeline.ΦT pre0 (tab m 0).1 c) else kept m c := rfl
theorem Φ_first (c : Dev nD) (t : Fin (cfgA m).N) (h : t.val = 0) : (dats m 0 c).Φ t.castSucc
    = iprop(Pipeline.ΦA spec0 c ∗ Pipeline.ΦT pre0 (tab m 0).1 c) := by
  show (if t.castSucc.val = 0 then _ else _) = _
  rw [if_pos (by simpa using h)]
theorem Φ_later (c : Dev nD) (t : Fin (cfgA m).N) (h : t.val ≠ 0) : (dats m 0 c).Φ t.castSucc = kept m c := by
  show (if t.castSucc.val = 0 then _ else _) = _
  rw [if_neg (by simpa using h)]
theorem Φ_succ (c : Dev nD) (t : Fin (cfgA m).N) : (dats m 0 c).Φ t.succ = kept m c := by
  exact (Φ_eq m c _).trans (if_neg (by simp))

/-- What the body is called with at point `t`. -/
def bodyPre (c : Dev nD) (t : Fin (cfgA m).N) : sProp (MT nD τ sig Unit (Elt F) ℕ (UR sig nD τ) ℕ) :=
  iprop((dats m 0 c).Φ t.castSucc ∗ (dats m 0 c).owesAt () t.castSucc
    ∗ (∃ d, owns (c : Thread nD τ) (((cfgA m).win 0).stage ((cfgA m).slots t 0)) fullShare ((dats m 0 c).before 0 t d))
    ∗ (∃ d, owns (c : Thread nD τ) (((cfgA m).win 1).stage ((cfgA m).slots t 1)) fullShare ((dats m 0 c).before 1 t d))
    ∗ (∃ d, owns (c : Thread nD τ) (((cfgA m).win 2).stage ((cfgA m).slots t 2)) fullShare ((dats m 0 c).before 2 t d))
    ∗ (∃ d, owns (c : Thread nD τ) (((cfgA m).win 3).stage ((cfgA m).slots t 3)) fullShare ((dats m 0 c).before 3 t d))
    ∗ (∃ d, owns (c : Thread nD τ) (((cfgA m).win 4).stage ((cfgA m).slots t 4)) fullShare ((dats m 0 c).before 4 t d))
    ∗ (∃ d, owns (c : Thread nD τ) (((cfgA m).win 5).stage ((cfgA m).slots t 5)) fullShare ((dats m 0 c).before 5 t d))
    ∗ (∃ d, owns (c : Thread nD τ) (((cfgA m).win 6).stage ((cfgA m).slots t 6)) fullShare ((dats m 0 c).before 6 t d))
    ∗ (∃ d, owns (c : Thread nD τ) (((cfgA m).win 7).stage ((cfgA m).slots t 7)) fullShare ((dats m 0 c).before 7 t d))
    ∗ (∃ d, owns (c : Thread nD τ) (((cfgA m).win 8).stage ((cfgA m).slots t 8)) fullShare ((dats m 0 c).before 8 t d)))

/-- And what it returns. -/
def bodyPost (c : Dev nD) (t : Fin (cfgA m).N) : sProp (MT nD τ sig Unit (Elt F) ℕ (UR sig nD τ) ℕ) :=
  iprop((dats m 0 c).Φ t.succ ∗ (dats m 0 c).owesAt () t.succ
    ∗ owns (c : Thread nD τ) (((cfgA m).win 0).stage ((cfgA m).slots t 0)) fullShare ((dats m 0 c).after 0 t)
    ∗ owns (c : Thread nD τ) (((cfgA m).win 1).stage ((cfgA m).slots t 1)) fullShare ((dats m 0 c).after 1 t)
    ∗ owns (c : Thread nD τ) (((cfgA m).win 2).stage ((cfgA m).slots t 2)) fullShare ((dats m 0 c).after 2 t)
    ∗ owns (c : Thread nD τ) (((cfgA m).win 3).stage ((cfgA m).slots t 3)) fullShare ((dats m 0 c).after 3 t)
    ∗ owns (c : Thread nD τ) (((cfgA m).win 4).stage ((cfgA m).slots t 4)) fullShare ((dats m 0 c).after 4 t)
    ∗ owns (c : Thread nD τ) (((cfgA m).win 5).stage ((cfgA m).slots t 5)) fullShare ((dats m 0 c).after 5 t)
    ∗ owns (c : Thread nD τ) (((cfgA m).win 6).stage ((cfgA m).slots t 6)) fullShare ((dats m 0 c).after 6 t)
    ∗ owns (c : Thread nD τ) (((cfgA m).win 7).stage ((cfgA m).slots t 7)) fullShare ((dats m 0 c).after 7 t)
    ∗ owns (c : Thread nD τ) (((cfgA m).win 8).stage ((cfgA m).slots t 8)) fullShare ((dats m 0 c).after 8 t))

theorem lA_length (c : Dev nD) : (lA m c).length ≤ 4096 := hits_length_le _ _

set_option maxHeartbeats 1600000 in
/-- The body at point 0. -/
theorem sound_first (c : Dev nD) (t : Fin (cfgA m).N) (h0 : t.val = 0) :
    bodyPre m c t ⊢ wp frame (wpE (defs₀ (F := F)) Variants.none c none) Set.univ (bodyAt m t) (fun _ => bodyPost m c t) := by
  unfold bodyPre bodyPost bodyAt
  simp only [before_0, before_1, before_2, before_3]
  rw [Φ_first m c t h0, Φ_succ, show (dats m 0 c).owesAt () t.succ = (dats m 0 c).owesAt () t.castSucc from rfl,
    after_0, after_1, after_2, after_3, after_4, after_5, after_6, after_7, after_8, table_eq, iblk_0, iblk_1]
  unfold Pipeline.ΦA kept
  rw [scopedRest0_eq]
  iintro ⟨⟨⟨⟨⟨%s0, S0⟩, ⟨%s1, S1⟩, ⟨%s2, S2⟩, ⟨%s3, S3⟩, ⟨%s4, S4⟩⟩, Hp⟩, Ht⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (first_wp (grid0.coords t) _ _ _ _ _ _ _ _ _ _ _ _ _ _ _ _ _ _ _ _ _ _ _ _ _ _ _ _ _ _ c ((cond1_iff t).mpr h0) fullShare.right fullShare fullShare fullShare fullShare (tA m c) (xA m c) (mA m c) (iblk m c 2 t) (iblk m c 3 t) _ _ _ _ _ s0 s1 s2 s3 s4 _) $$ [Ht H0 H1 H2 H3 H4 H5 H6 H7 H8 S0 S1 S2 S3 S4]
  · isplitl [Ht]; · iexact Ht
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    rw [owns_whole, owns_whole, owns_whole, owns_whole, owns_whole]
    isplitl [S0]; · iexact S0
    isplitl [S1]; · iexact S1
    isplitl [S2]; · iexact S2
    isplitl [S3]; · iexact S3
    iexact S4
  iintro %X %G %hX Ht H0 H1 H2 H3 H4 H5 H6 H7 H8 S0 S1 S2 S3 S4
  isplitl [Hp S0 S1 S2 S3 S4]
  · isplitl [Hp]; · iexact Hp
    isplitl [S0]; · iexact S0
    isplitl [S1]; · iexact S1
    isplitl [S2]; · iexists G; iexact S2
    isplitl [S3]; · iexact S3
    iexists X
    isplitr; · ipureintro; exact hX
    iexact S4
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 1600000 in
/-- The body at a later point. -/
theorem sound_later (c : Dev nD) (t : Fin (cfgA m).N) (h0 : t.val ≠ 0) :
    bodyPre m c t ⊢ wp frame (wpE (defs₀ (F := F)) Variants.none c none) Set.univ (bodyAt m t) (fun _ => bodyPost m c t) := by
  unfold bodyPre bodyPost bodyAt
  simp only [before_0, before_1, before_2, before_3, before_5 m c t h0, before_6 m c t h0, before_7 m c t h0, before_8 m c t h0]
  rw [Φ_later m c t h0, Φ_succ, show (dats m 0 c).owesAt () t.succ = (dats m 0 c).owesAt () t.castSucc from rfl,
    after_0, after_1, after_2, after_3, after_4, after_5, after_6, after_7, after_8, iblk_0, iblk_1]
  unfold kept
  iintro ⟨⟨Hp, S0, S1, ⟨%G, S2⟩, S3, ⟨%X, %hX, S4⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (later_wp (grid0.coords t) _ _ _ _ _ _ _ _ _ _ _ _ _ _ _ _ _ _ _ _ _ _ _ _ _ _ _ _ _ _ c (fun h => h0 ((cond1_iff t).mp h)) (lA m c) (lA_length m c) (fun j hj => hits_nth_lt _ _ j hj) X hX fullShare (iblk m c 2 t) (cbf (mA m c) (xA m c)) (xgA m c) G fullShare (iblk m c 3 t) (scales (mA m c) (xA m c)) _ _) $$ [H2 H3 H4 H8 S0 S1 S2 S3 S4]
  · isplitl [H2]; · iexact H2
    isplitl [H3]; · iexact H3
    isplitl [H4]; · iexact H4
    isplitl [H8]; · iexact H8
    isplitl [S0]; · iexact S0
    isplitl [S1]; · iexact S1
    isplitl [S2]; · iexact S2
    isplitl [S3]; · iexact S3
    iexact S4
  iintro %G' H2 H3 H4 H8 S0 S1 S2 S3 S4
  isplitl [Hp S0 S1 S2 S3 S4]
  · isplitl [Hp]; · iexact Hp
    isplitl [S0]; · iexact S0
    isplitl [S1]; · iexact S1
    isplitl [S2]; · iexists G'; iexact S2
    isplitl [S3]; · iexact S3
    iexists X
    isplitr; · ipureintro; exact hX
    iexact S4
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem sound_body (c : Dev nD) (t : Fin (cfgA m).N) :
    bodyPre m c t ⊢ wp frame (wpE (defs₀ (F := F)) Variants.none c none) Set.univ (bodyAt m t) (fun _ => bodyPost m c t) := by
  by_cases h0 : t.val = 0
  · exact sound_first m c t h0
  · exact sound_later m c t h0

/-- The body does at every point what the grid asks of it. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  exact Idealize.SL.BI.sep_mono (Idealize.SL.BI.Entails.refl _) (Idealize.SL.BI.sep_mono (Idealize.SL.BI.Entails.refl _) (Idealize.SL.BI.sep_mono (Idealize.SL.BI.Entails.refl _) (Idealize.SL.BI.sep_mono (Idealize.SL.BI.Entails.refl _) (Idealize.SL.BI.sep_mono (Idealize.SL.BI.Entails.refl _) (Idealize.SL.BI.sep_mono (Idealize.SL.BI.Entails.refl _) (Idealize.SL.BI.sep_mono (Idealize.SL.BI.Entails.refl _)
    (Idealize.SL.BI.sep_mono (leaves_5 m c t) (Idealize.SL.BI.sep_mono (leaves_6 m c t) (Idealize.SL.BI.sep_mono (leaves_7 m c t) (leaves_8 m c t))))))))))

/-! ## The run and the frame -/

theorem hin (c : Dev nD) : iprop(Pipeline.ΦA spec0 c ∗ Pipeline.ΦT pre0 (tab m 0).1 c) ⊢ (dats m 0 c).Φ 0 := by
  rw [show (dats m 0 c).Φ 0 = iprop(Pipeline.ΦA spec0 c ∗ Pipeline.ΦT pre0 (tab m 0).1 c) from (Φ_eq m c 0).trans (if_pos rfl)]

theorem hout (c : Dev nD) : (dats m 0 c).Φ (Fin.last (cfgA m).N) ⊢ Pipeline.ΦA spec0 c := by
  rw [show (dats m 0 c).Φ (Fin.last (cfgA m).N) = kept m c from (Φ_eq m c _).trans (if_neg (by show ¬ (cfgA m).N = 0; rw [show (cfgA m).N = 28 from N_0]; decide))]
  unfold kept Pipeline.ΦA
  rw [scopedRest0_eq]
  rw [owns_whole, owns_whole, owns_whole]
  iintro ⟨Hp, S0, S1, ⟨%G, S2⟩, S3, ⟨%X, -, S4⟩⟩
  isplitr [Hp]
  · isplitl [S0]; · iexists _; iexact S0
    isplitl [S1]; · iexists _; iexact S1
    isplitl [S2]; · iexists _; rw [← owns_whole]; iexact S2
    isplitl [S3]; · iexists _; iexact S3
    iexists _; rw [← owns_whole]; iexact S4
  · iexact Hp

theorem hpf (c : Dev nD) (k : Fin pre0.K) : V0 m c (Proc.devRef .tc (pre0.ref k)) = (tab m 0).1 k := by
  obtain rfl : c = (0 : Dev nD) := Subsingleton.elim _ _
  rfl

set_option backward.isDefEq.respectTransparency.types false in
set_option maxHeartbeats 800000 in
/-- Every run of the program ends, with the grid's arrays and every other buffer as computed, and every counter at zero. -/
theorem run_main_quiescent : θ_run defs (onTc (τ := τ) (main (F := F))) (s₀ m ρ) (fun r => (Pipeline.FramePost (Pipeline.pin pcfgs (tab m)) (dats m) 0 (Pipeline.afterTail pcfgs (tab m) (dats m) 0 (V0 m) [hostOps1])) r ∧ r.2.sem = fun _ => 0) :=
  Pipeline.θ_run_frameP_around_track (Q' := _) pcfgs (tab m) (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := hpf m) (hin := hin m) (hout := hout m)

/-- The four arguments end as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by exact (by decide : ∀ w, Pipeline.arrRef spec0 w ≠ main_arg0)))).trans (W_main_arg0 m (tab m) (dats m) c),
      ((h.1 c).2 main_arg1 (Pipeline.mem_restRefs_of main_arg1 (by decide) (by exact (by decide : ∀ w, Pipeline.arrRef spec0 w ≠ main_arg1)))).trans (W_main_arg1 m (tab m) (dats m) c),
      ((h.1 c).1 2).trans (((dats m 0 c).arrAt_in 2 rfl _).trans ((A_eq m c 2).trans (V_main_arg2 m c))),
      ((h.1 c).2 main_arg3 (Pipeline.mem_restRefs_of main_arg3 (by decide) (by exact (by decide : ∀ w, Pipeline.arrRef spec0 w ≠ main_arg3)))).trans (W_main_arg3 m (tab m) (dats m) c)⟩, h.2⟩) (run_main_quiescent m ρ)

end Cert.KernelIdeal.Region

end
-- ==== Proof.Plain.lean ====
/- The quantiser over the extended reals, one row at a time, in plain functions of numbers; and how a maximum along an axis,
   a row broadcast and a column broadcast read at an index. -/
module

public import Idealize.ShloMosaic.PureOps.Ideal.Laws
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.IdealHost
public import Idealize.ShloMosaic.Lib.Pipeline.Value

@[expose] public section

noncomputable section

namespace Cert.Plain

open Idealize.ShloMosaic Idealize.ShloMosaic.ValueIdx
open scoped BigOperators

/-- An activation, zero where its column is marked. -/
def reg (b : BitVec 32) (v : Ideal .f32) : Ideal .f32 := Scalar.select (IntOp.cmpi .eq b 1#32) (Scalar.ofBits .f32 0x00000000#32) v
/-- The greatest absolute value of `f`. -/
def top (n : ℕ) (f : Fin n → Ideal .f32) : Ideal .f32 :=
  (Finset.univ : Finset (Fin n)).fold max (FloatOps.ofBits .f32 0xFF800000#32) (fun k => FloatOps.absf (f k))
/-- The scale of a row whose greatest absolute value is `a`. -/
def scale (a : Ideal .f32) : Ideal .f32 :=
  Scalar.select (FloatOps.cmpf .ogt a (Scalar.ofBits .f32 0x00000000#32)) (FloatOps.divf a (Scalar.ofBits .f32 0x42FE0000#32)) (Scalar.ofBits .f32 0x3F800000#32)
/-- The code of `v` at scale `s`, before it is stored as an integer: the quotient rounded and clipped. -/
def code (v s : Ideal .f32) : Ideal .f32 :=
  FloatOps.minimumf (Scalar.ofBits .f32 0x42FE0000#32) (FloatOps.maximumf (Scalar.ofBits .f32 0xC2FE0000#32) (FloatOps.roundeven (FloatOps.divf v s)))
/-- The scale of a row `f` of activations under the mask `m`. -/
def rowScale (m : Fin 4096 → BitVec 32) (f : Fin 4096 → Ideal .f32) : Ideal .f32 := scale (top 4096 fun k => reg (m k) (f k))
/-- The code of entry `d` of a row `f` of activations under the mask `m`. -/
def rowCode (m : Fin 4096 → BitVec 32) (f : Fin 4096 → Ideal .f32) (d : Fin 4096) : Ideal .f32 := code (reg (m d) (f d)) (rowScale m f)
/-- One result of the layer: the product of the codes with the weights' codes, times the row's scale, plus the product of the
    marked activations with the same codes, times the column's scale. -/
def out (m : Fin 4096 → BitVec 32) (f : Fin 4096 → Ideal .f32) (w : Fin 4096 → BitVec 8) (ws : Ideal .f32) : Ideal .f32 :=
  ((∑ d : Fin 4096, rowCode m f d * ((w d).toInt : ℝ)) * rowScale m f
    + ∑ d : Fin 4096, if m d = 1#32 then f d * (((w d).toInt : ℝ) : EReal) else 0) * ws

/-- A maximum along the columns of a row. -/
theorem rowMax {R C : ℕ} (src : FVec Ideal ⟨2, ![R, C]⟩ .f32) (h : Shape.Reduces ⟨2, ![R, C]⟩ [1] ⟨1, ![R]⟩)
    (hφ : FKind.Formats .f32) (hacc : (0xFF800000#32 : BitVec (FTy.f32).bits) = FKind.maximumf.neutral .f32 hφ) (r : Fin R) :
    multiReduction .maximumf [1] ⟨1, ![R]⟩ src 0xFF800000#32 h hφ hacc (ix1 r)
      = (Finset.univ : Finset (Fin C)).fold max (FloatOps.ofBits .f32 0xFF800000#32) (fun k => src (ix2 r k)) := by
  refine (Ideal.multiReduction_maximumf_single (a := (1 : Fin 2)) src _ h hφ hacc (ix1 r)).trans ?_
  show (Finset.univ : Finset (Fin C)).fold max _ _ = _
  refine congrArg (fun g => (Finset.univ : Finset (Fin C)).fold max (FloatOps.ofBits .f32 0xFF800000#32) g) (funext fun k => ?_)
  refine congrArg src (funext fun a => Fin.ext ?_)
  match a with
  | ⟨0, _⟩ => rfl
  | ⟨1, _⟩ => rfl

/-- A maximum along the rows of a column. -/
theorem colMax {R C : ℕ} (src : FVec Ideal ⟨2, ![R, C]⟩ .f32) (h : Shape.Reduces ⟨2, ![R, C]⟩ [0] ⟨1, ![C]⟩)
    (hφ : FKind.Formats .f32) (hacc : (0xFF800000#32 : BitVec (FTy.f32).bits) = FKind.maximumf.neutral .f32 hφ) (c : Fin C) :
    multiReduction .maximumf [0] ⟨1, ![C]⟩ src 0xFF800000#32 h hφ hacc (ix1 c)
      = (Finset.univ : Finset (Fin R)).fold max (FloatOps.ofBits .f32 0xFF800000#32) (fun k => src (ix2 k c)) := by
  refine (Ideal.multiReduction_maximumf_single (a := (0 : Fin 2)) src _ h hφ hacc (ix1 c)).trans ?_
  show (Finset.univ : Finset (Fin R)).fold max _ _ = _
  refine congrArg (fun g => (Finset.univ : Finset (Fin R)).fold max (FloatOps.ofBits .f32 0xFF800000#32) g) (funext fun k => ?_)
  refine congrArg src (funext fun a => Fin.ext ?_)
  match a with
  | ⟨0, _⟩ => rfl
  | ⟨1, _⟩ => rfl

/-- One column broadcast over many reads, at `(p, c)`, the column at `p`. -/
theorem bcastCol {a b : ℕ} {α : Type} (hb : a ≠ 1) (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p 0) := by
  refine broadcastTo_apply v h (ix2 p c) (ix2 p (0 : Fin 1)) fun ax => ?_
  match ax with
  | ⟨0, _⟩ => exact (if_neg hb).symm
  | ⟨1, _⟩ => rfl

/-! ## The quantiser's operations on vectors, read at an index -/

theorem scaleV {s : Shape} (A : FVec Ideal s .f32) (j : s.Idx) :
    select (cmpf .ogt A (broadcast s (Scalar.ofBits .f32 0x00000000#32))) (divf A (broadcast s (Scalar.ofBits .f32 0x42FE0000#32)))
      (broadcast s (Scalar.ofBits .f32 0x3F800000#32)) j = scale (A j) := rfl
theorem codeV {s : Shape} (V S : FVec Ideal s .f32) (j : s.Idx) :
    minimumf (broadcast s (Scalar.ofBits .f32 0x42FE0000#32)) (maximumf (broadcast s (Scalar.ofBits .f32 0xC2FE0000#32)) (roundeven (divf V S))) j
      = code (V j) (S j) := rfl
theorem fptosiV {s : Shape} (V : FVec Ideal s .f32) (j : s.Idx) : fptosi 8 V j = FloatOps.fptosi 8 (V j) := rfl
theorem absV {s : Shape} (V : FVec Ideal s .f32) (j : s.Idx) : absf V j = FloatOps.absf (V j) := rfl
theorem maskV {s : Shape} (A : FVec Ideal s .f32) (c : Ideal .f32) (h : 1 < 32) (j : s.Idx) :
    extui 32 (cmpf .ogt A (broadcast s c)) h j = BitVec.setWidth 32 (FloatOps.cmpf .ogt (A j) c) := rfl
theorem selV {s : Shape} {α : Type} (c : IVec s 1) (A B : s.Idx → α) (j : s.Idx) : select c A B j = Scalar.select (c j) (A j) (B j) := rfl
theorem outV {s : Shape} (A S B W : FVec Ideal s .f32) (h : (FTy.bf16).bits < (FTy.f32).bits) (j : s.Idx) :
    truncf .bf16 (mulf (addf (mulf A S) B) W) h j = ((A j * S j + B j) * W j : EReal) := rfl
theorem addV {s : Shape} (A B : FVec Ideal s .f32) (j : s.Idx) : addf A B j = (A j + B j : EReal) := rfl
theorem maxV {s : Shape} (A B : FVec Ideal s .f32) (j : s.Idx) : maximumf A B j = max (A j : EReal) (B j) := rfl
theorem truncV {s : Shape} (A : FVec Ideal s .f32) (h : (FTy.bf16).bits < (FTy.f32).bits) (j : s.Idx) : truncf .bf16 A h j = A j := rfl
theorem sitofpV {s : Shape} (q : IVec s 8) (j : s.Idx) : sitofp (F := Ideal) .bf16 q j = (((q j).toInt : ℝ) : EReal) := rfl

/-! ## The bounds as numbers -/

theorem neg_inf : (FloatOps.ofBits .f32 0xFF800000#32 : Ideal .f32) = (⊥ : EReal) := by
  show Ideal.ofBits .f32 0xFF800000#32 = ⊥
  simp [Ideal.ofBits, Ideal.ieee]
theorem zero_f32 : (Scalar.ofBits .f32 0x00000000#32 : Ideal .f32) = (0 : EReal) := Ideal.ofBits_zero_f32
theorem zero_bf16 : (Scalar.ofBits .bf16 0x0000#16 : Ideal .bf16) = (0 : EReal) := by
  show Ideal.ofBits .bf16 0x0000#16 = 0
  simp [Ideal.ofBits, Ideal.ieee]
theorem constant_zero (s : Shape) (j : s.Idx) : constant (F := Ideal) s .f32 0x00000000#32 j = (0 : EReal) := Ideal.ofBits_zero_f32
theorem c127 : (Scalar.ofBits .f32 0x42FE0000#32 : Ideal .f32) = (((127 : ℤ) : ℝ) : EReal) := by
  show Ideal.ofBits .f32 0x42FE0000#32 = _
  simp [Ideal.ofBits, Ideal.ieee]
  rw [← EReal.coe_mul]
  norm_num
theorem cm127 : (Scalar.ofBits .f32 0xC2FE0000#32 : Ideal .f32) = (((-127 : ℤ) : ℝ) : EReal) := by
  show Ideal.ofBits .f32 0xC2FE0000#32 = _
  simp [Ideal.ofBits, Ideal.ieee]
  rw [← EReal.coe_mul]
  norm_num

/-- A code is an integer from -127 to 127. -/
theorem code_int (v s : Ideal .f32) : ∃ n : ℤ, -127 ≤ n ∧ n ≤ 127 ∧ code v s = ((n : ℝ) : EReal) := by
  unfold code
  rw [c127, cm127]
  show ∃ n : ℤ, -127 ≤ n ∧ n ≤ 127 ∧ min (((127 : ℤ) : ℝ) : EReal) (max (((-127 : ℤ) : ℝ) : EReal) (Ideal.liftRound Ideal.roundHalfEven (FloatOps.divf v s))) = ((n : ℝ) : EReal)
  generalize (FloatOps.divf v s : EReal) = z
  induction z using EReal.rec with
  | bot => exact ⟨-127, by decide, by decide, by
      rw [Ideal.liftRound_bot, max_eq_left bot_le, min_eq_right (by exact_mod_cast (by norm_num : (-127 : ℝ) ≤ 127))]⟩
  | top => exact ⟨127, by decide, by decide, by
      rw [Ideal.liftRound_top, max_eq_right le_top, min_eq_left le_top]⟩
  | coe r =>
    rw [Ideal.liftRound_coe]
    refine ⟨min 127 (max (-127) (Ideal.roundHalfEven r)), by omega, by omega, ?_⟩
    rw [Int.cast_min, Int.cast_max, EReal.coe_strictMono.monotone.map_min, EReal.coe_strictMono.monotone.map_max]

/-- A code stored as an 8-bit integer and read again is the same number. -/
theorem code_round (v s : Ideal .f32) : (((FloatOps.fptosi 8 (code v s)).toInt : ℝ) : EReal) = code v s := by
  obtain ⟨n, h1, h2, h⟩ := code_int v s
  rw [h]
  show ((((Ideal.fptosi 8 ((n : ℝ) : EReal)).toInt : ℤ) : ℝ) : EReal) = _
  congr 2
  unfold Ideal.fptosi
  rw [Ideal.toIntClamped_coe]
  have e : (if (0 : ℝ) ≤ (n : ℝ) then ⌊(n : ℝ)⌋ else ⌈(n : ℝ)⌉) = n := by split <;> simp
  rw [e]
  have e2 : max (-((2 ^ (8 - 1) : ℕ) : ℤ)) (min (((2 ^ (8 - 1) : ℕ) : ℤ) - 1) n) = n := by norm_num; omega
  rw [e2, BitVec.toInt_ofInt]
  norm_num [Int.bmod]
  omega

end Cert.Plain
end
-- ==== Proof.GatherMath.lean ====
/- What the gathers hold, element by element: each lane of a chunk is one of the listed columns, of the activations over the
   extended reals and of the weights' codes. -/
module

public import proofs.«01_k».proof.Proof.Spec
public import proofs.«01_k».proof.Proof.Plain
public import Idealize.ShloMosaic.Lib.KernelVsHost
public import Idealize.ShloMosaic.Lib.BitcastFour

@[expose] public section

noncomputable section

namespace Cert.KernelIdeal.Gather

open Cert.KernelIdeal Cert.KernelIdeal.Gen Cert.Plain Cert.KernelIdeal.Spec Cert.KernelIdeal.Words
open Idealize.ShloMosaic Idealize.ShloMosaic.ValueIdx
open scoped BigOperators

/-! ## The amounts of the rotations -/

theorem and127 (b : BitVec 32) : (Scalar.andi b 127#32).toNat = b.toNat % 128 := by
  show (b &&& 127#32).toNat = _
  rw [BitVec.toNat_and]
  exact Nat.and_two_pow_sub_one_eq_mod _ 7

theorem amount (k d : ℕ) (hk : k < 4096) (hd : d < 4096) :
    (Scalar.andi (Scalar.subi (wd k) (wd d)) 127#32).toNat = (k + 4096 - d) % 128 := by
  rw [and127]
  show (BitVec.ofNat 32 k - BitVec.ofNat 32 d).toNat % 128 = _
  rw [BitVec.toNat_sub, BitVec.toNat_ofNat, BitVec.toNat_ofNat]
  omega

theorem lane_eq (l k : ℕ) (hl : l < 128) (hk : k < 4096) :
    IntOp.cmpi .eq (BitVec.ofNat 32 l) (Scalar.andi (wd k) 127#32) = BitVec.ofBool (decide (l = k % 128)) := by
  show BitVec.ofBool (decide (BitVec.ofNat 32 l = Scalar.andi (wd k) 127#32)) = _
  congr 2
  refine propext ⟨fun h => ?_, fun h => ?_⟩
  · have e := congrArg BitVec.toNat h
    rw [and127, BitVec.toNat_ofNat] at e
    change l % 2 ^ 32 = (BitVec.ofNat 32 k).toNat % 128 at e
    rw [BitVec.toNat_ofNat] at e
    omega
  · refine BitVec.eq_of_toNat_eq ?_
    rw [and127, BitVec.toNat_ofNat]
    show l % 2 ^ 32 = (BitVec.ofNat 32 k).toNat % 128
    rw [BitVec.toNat_ofNat]
    omega

theorem lane_eq' (c l : ℕ) (hc : c < 128) (hl : l < 128) :
    IntOp.cmpi .eq (BitVec.ofNat 32 c) (wd l) = BitVec.ofBool (decide (c = l)) := by
  show BitVec.ofBool (decide (BitVec.ofNat 32 c = BitVec.ofNat 32 l)) = _
  congr 2
  refine propext ⟨fun h => ?_, fun h => by rw [h]⟩
  have e := congrArg BitVec.toNat h
  rw [BitVec.toNat_ofNat, BitVec.toNat_ofNat] at e
  omega

theorem select_bool {α : Type} (p : Prop) [Decidable p] (a b : α) : Scalar.select (BitVec.ofBool (decide p)) a b = if p then a else b := by
  by_cases h : p
  · rw [if_pos h, decide_eq_true h]; exact select_one a b
  · rw [if_neg h, decide_eq_false h]; exact select_zero a b

/-! ## The activations -/

/-- A chunk after column `d` is put at lane `k` modulo 128. -/
theorem gx_apply (k d : ℕ) (hk : k < 4096) (hd : d < 4096) (xb : Vec Ideal S256x128 .bf16) (cur : Vec Ideal S1x256x128 .bf16)
    (t : Fin 256) (l : Fin 128) :
    gx k d xb cur (ix3 0 t l) = if l.val = k % 128 then xb (ix2 t ⟨d % 128, Nat.mod_lt _ (by decide)⟩) else cur (ix3 0 t l) := by
  unfold gx
  refine (shapeCast_ab_1ab_apply _ _ _ _ _).trans ((truncV _ _ _).trans ((selV _ _ _ _).trans ?_))
  have e : cmpi .eq lanesX (broadcast S256x128 (Scalar.andi (wd k) 127#32)) (ix2 t l) = BitVec.ofBool (decide (l.val = k % 128)) := by
    show IntOp.cmpi .eq (iota .tc S256x128 32 [1] iota_S256x128_d1_w32 (ix2 t l)) _ = _
    rw [iota_single_apply]
    exact lane_eq l.val k l.isLt hk
  rw [e, select_bool]
  by_cases h : l.val = k % 128
  · rw [if_pos h, if_pos h]
    rw [dynamicRotate_apply (s := S256x128) 1 _ _ rotates_S256x128_d1 (ix2 t l) (ix2 t ⟨d % 128, Nat.mod_lt _ (by decide)⟩)]
    · rw [shapeCast_self]; rfl
    · intro b
      match b with
      | ⟨0, _⟩ => rfl
      | ⟨1, _⟩ =>
        show d % 128 = (l.val + 128 - (Scalar.andi (Scalar.subi (wd k) (wd d)) 127#32).toNat % 128) % 128
        rw [amount k d hk hd]
        omega
  · rw [if_neg h, if_neg h]
    show shapeCast S256x128 cur shapeCasts_S1x256x128_S256x128 (ix2 t l) = _
    exact shapeCast_1ab_ab_apply _ _ _ _

/-- The gathered columns of the activations after `k` entries of the list: lane `l` of chunk `q` is column number `128 q + l` of
    the list, or zero where the list's first `k` entries end before it. -/
theorem xgK_apply (x : Vec Ideal S256x4096 .bf16) (L : List ℕ) (hL : ∀ j, nth L j < 4096) (k : ℕ) (hk : k ≤ 4096)
    (q : ℕ) (hq : q < 32) (t : Fin 256) (l : Fin 128) :
    chunk (xgK x L k) q (ix3 0 t l)
      = if q * 128 + l.val < k then x (ix2 t ⟨nth L (q * 128 + l.val) % 4096, Nat.mod_lt _ (by decide)⟩) else (0 : EReal) := by
  induction k with
  | zero =>
    rw [if_neg (by omega)]
    show k0_pay82 (F := Ideal) (ix3 ⟨q % 32, Nat.mod_lt _ (by decide)⟩ t l) = _
    unfold k0_pay82
    simp only [shapeCast_self]
    exact zero_bf16
  | succ k ih =>
    have ih' := ih (by omega)
    have hl := l.isLt
    show putChunk (xgK x L k) (k / 128) (gx k (nth L k) (xBlk x (nth L k)) (chunk (xgK x L k) (k / 128))) (ix3 ⟨q % 32, Nat.mod_lt _ (by decide)⟩ t l) = _
    unfold putChunk
    by_cases h : q = k / 128
    · rw [if_pos (show q % 32 = k / 128 by omega)]
      show gx k (nth L k) (xBlk x (nth L k)) (chunk (xgK x L k) (k / 128)) (ix3 0 t l) = _
      rw [gx_apply k (nth L k) (by omega) (hL k)]
      by_cases h2 : l.val = k % 128
      · rw [if_pos h2, if_pos (by omega)]
        have e : q * 128 + l.val = k := by omega
        rw [e]
        show x (ix2 t ⟨(nth L k / 128 * 128 + nth L k % 128) % 4096, _⟩) = _
        congr 2
        exact Fin.ext (by show (nth L k / 128 * 128 + nth L k % 128) % 4096 = nth L k % 4096; rw [Nat.div_add_mod'])
      · rw [if_neg h2, ← h, ih']
        by_cases h3 : q * 128 + l.val < k
        · rw [if_pos h3, if_pos (by omega)]
        · rw [if_neg h3, if_neg (by omega)]
    · rw [if_neg (show ¬ q % 32 = k / 128 by omega)]
      refine (show _ = chunk (xgK x L k) q (ix3 0 t l) from rfl).trans (ih'.trans ?_)
      by_cases h3 : q * 128 + l.val < k
      · rw [if_pos h3, if_pos (by omega)]
      · rw [if_neg h3, if_neg (by omega)]

/-! ## The weights -/

/-- The words after column `d` is put at lane `k`. -/
theorem gw_apply (k d : ℕ) (hk : k < 128) (hd : d < 4096) (wb : Vec Ideal S512x128 .i8) (cur : Vec Ideal S128x128 .i32)
    (r : Fin 128) (l : Fin 128) :
    gw (F := Ideal) k d wb cur (ix2 r l)
      = if l.val = k then bitcast S128x128 32 wb bitcasts_S512x128_w8_S128x128_w32 (ix2 r ⟨d % 128, Nat.mod_lt _ (by decide)⟩) else cur (ix2 r l) := by
  unfold gw
  rw [shapeCast_self]
  refine (selV _ _ _ _).trans ?_
  have e : cmpi .eq (iota .tc S128x128 32 [1] iota_S128x128_d1_w32) (broadcast S128x128 (wd k)) (ix2 r l) = BitVec.ofBool (decide (l.val = k)) := by
    show IntOp.cmpi .eq (iota .tc S128x128 32 [1] iota_S128x128_d1_w32 (ix2 r l)) _ = _
    rw [iota_single_apply]
    exact lane_eq' l.val k l.isLt hk
  rw [e, select_bool]
  by_cases h : l.val = k
  · rw [if_pos h, if_pos h]
    rw [dynamicRotate_apply (s := S128x128) 1 _ _ rotates_S128x128_d1 (ix2 r l) (ix2 r ⟨d % 128, Nat.mod_lt _ (by decide)⟩)]
    intro b
    match b with
    | ⟨0, _⟩ => rfl
    | ⟨1, _⟩ =>
      show d % 128 = (l.val + 128 - (Scalar.andi (Scalar.subi (wd k) (wd d)) 127#32).toNat % 128) % 128
      rw [amount k d (by omega) hd]
      omega
  · rw [if_neg h, if_neg h]

/-- Words read as bytes: bit `b` of byte row `n` is bit `8 n + b` modulo 32 of word row `n / 4`. -/
theorem bytes_getLsbD (g : Vec Ideal S128x128 .i32) (n : Fin 512) (c : Fin 128) (b : ℕ) (hb : b < 8) :
    (bitcast S512x128 8 g bitcasts_S128x128_w32_S512x128_w8 (ix2 n c)).getLsbD b
      = (g (ix2 (⟨n.val / 4, by have := n.isLt; omega⟩ : Fin 128) c)).getLsbD ((n.val * 8 + b) % 32) := by
  rw [bitcast_getLsbD g bitcasts_S128x128_w32_S512x128_w8 (ix2 n c) b hb (by decide)]
  congr 1
  congr 1
  funext a
  match a with
  | ⟨0, _⟩ =>
    refine Fin.ext ((Shape.Bitcasts.srcIdx_row _ _ _ _ ⟨0, Nat.zero_lt_two⟩ rfl).trans ?_)
    show (n.val * 8 + b) / 32 = n.val / 4
    omega
  | ⟨1, _⟩ => exact Fin.ext (Shape.Bitcasts.srcIdx_other _ _ _ _ ⟨1, Nat.one_lt_two⟩ (by show ¬ 1 + 2 = 2; omega))

/-- Where a word is the word that four bytes of a column join to, its bytes are the column's. -/
theorem bytes_of (g : Vec Ideal S128x128 .i32) (wb : Vec Ideal S512x128 .i8) (n : Fin 512) (c e : Fin 128)
    (h : g (ix2 (⟨n.val / 4, by have := n.isLt; omega⟩ : Fin 128) c)
      = bitcast S128x128 32 wb bitcasts_S512x128_w8_S128x128_w32 (ix2 (⟨n.val / 4, by have := n.isLt; omega⟩ : Fin 128) e)) :
    bitcast S512x128 8 g bitcasts_S128x128_w32_S512x128_w8 (ix2 n c) = wb (ix2 n e) := by
  refine BitVec.eq_of_getLsbD_eq fun b hb => ?_
  rw [bytes_getLsbD g n c b hb, h]
  rw [bitcast_8_32_getLsbD_ix2 wb bitcasts_S512x128_w8_S128x128_w32 _ e ((n.val * 8 + b) % 32) (Nat.mod_lt _ (by decide)) n
    (by show n.val = 4 * (n.val / 4) + (n.val * 8 + b) % 32 / 8; omega)]
  congr 1
  omega

/-- The words after `l` entries of the list from entry `base` on. -/
theorem gK_apply (w : Vec Ideal S512x4096 .i8) (L : List ℕ) (hL : ∀ j, nth L j < 4096) (base : ℕ) (g : Vec Ideal S128x128 .i32)
    (l : ℕ) (hl : l ≤ 128) (r : Fin 128) (c : Fin 128) (hc : c.val < l) :
    gK (F := Ideal) w L base g l (ix2 r c)
      = bitcast S128x128 32 (wBlk w (nth L (base + c.val))) bitcasts_S512x128_w8_S128x128_w32 (ix2 r ⟨nth L (base + c.val) % 128, Nat.mod_lt _ (by decide)⟩) := by
  induction l with
  | zero => omega
  | succ l ih =>
    show gw (F := Ideal) l (nth L (base + l)) (wBlk w (nth L (base + l))) (gK w L base g l) (ix2 r c) = _
    rw [gw_apply l _ (by omega) (hL _)]
    by_cases h : c.val = l
    · rw [if_pos h, h]
    · rw [if_neg h]; exact ih (by omega) (by omega)

/-- The bytes of chunk `q`: on the lanes of the list, the listed columns of the weights. -/
theorem gAt_apply (w : Vec Ideal S512x4096 .i8) (L : List ℕ) (hL : ∀ j, nth L j < 4096) (q : ℕ) (n : Fin 512) (c : Fin 128)
    (h : q * 128 + c.val < L.length) :
    bitcast S512x128 8 (gAt (F := Ideal) w L q) bitcasts_S128x128_w32_S512x128_w8 (ix2 n c)
      = w (ix2 n ⟨nth L (q * 128 + c.val) % 4096, Nat.mod_lt _ (by decide)⟩) := by
  have hc := c.isLt
  have key : ∀ r : Fin 128, gAt (F := Ideal) w L q (ix2 r c)
      = bitcast S128x128 32 (wBlk w (nth L (q * 128 + c.val))) bitcasts_S512x128_w8_S128x128_w32 (ix2 r ⟨nth L (q * 128 + c.val) % 128, Nat.mod_lt _ (by decide)⟩) := by
    intro r
    cases q with
    | zero =>
      have e := gK_apply w L hL 0 k0_pay86 (min L.length 128) (by omega) r c (by omega)
      rw [Nat.zero_mul]
      exact e
    | succ q => exact gK_apply w L hL ((q + 1) * 128) (gAt w L q) (min (L.length - (q + 1) * 128) 128) (by omega) r c (by omega)
  rw [bytes_of _ _ n c _ (key _)]
  show w (ix2 n ⟨(nth L (q * 128 + c.val) / 128 * 128 + nth L (q * 128 + c.val) % 128) % 4096, _⟩) = _
  congr 2
  exact Fin.ext (by
    show (nth L (q * 128 + c.val) / 128 * 128 + nth L (q * 128 + c.val) % 128) % 4096 = nth L (q * 128 + c.val) % 4096
    rw [Nat.div_add_mod'])

end Cert.KernelIdeal.Gather
end
-- ==== Proof.KerMath.lean ====
/- What the kernel's quantiser stores, element by element, over the extended reals. -/
module

public import proofs.«01_k».proof.Proof.Body
public import proofs.«01_k».proof.Proof.Plain

@[expose] public section

noncomputable section

namespace Cert.KernelIdeal.Math

open Cert.KernelIdeal Cert.KernelIdeal.Gen Cert.Plain Cert.KernelIdeal.Quant Cert.KernelIdeal.Body
open Idealize.ShloMosaic Idealize.ShloMosaic.ValueIdx
open scoped BigOperators

/-! ## One block of 32 rows -/

section Block
variable (m : Vec Ideal S1x4096 .i32) (b : Vec Ideal S32x4096 .bf16)

/-- The activations of a block with the marked columns set to zero. -/
theorem breg_apply (r : Fin 32) (d : Fin 4096) : k0_pay13 m b (ix2 r d) = reg (m (ix2 0 d)) (b (ix2 r d)) := by
  unfold k0_pay13 k0_pay10 k0_pay11
  simp only [shapeCast_self]
  refine (selV _ _ _ _).trans ?_
  rw [broadcastTo_1b_ab_apply]
  rfl

/-- The scale of a row of a block. -/
theorem bscale_apply (r : Fin 32) : k0_pay14 m b (ix2 r 0) = rowScale (fun d => m (ix2 0 d)) (fun d => b (ix2 r d)) := by
  unfold k0_pay14
  refine (scaleV _ _).trans ?_
  unfold rowScale
  refine congrArg scale ((shapeCast_a_a1_apply _ _ _ _).trans ((rowMax _ _ _ _ r).trans ?_))
  unfold top
  refine congrArg (fun g => (Finset.univ : Finset (Fin 4096)).fold max (FloatOps.ofBits .f32 0xFF800000#32) g) (funext fun k => ?_)
  rw [absV, breg_apply]

/-- The codes of a block before they are stored. -/
theorem bcode_apply (r : Fin 32) (d : Fin 4096) : k0_pay15 m b (ix2 r d)
    = rowCode (fun d => m (ix2 0 d)) (fun d => b (ix2 r d)) d := by
  unfold k0_pay15
  rw [codeV, bcastCol (by decide), breg_apply, bscale_apply]
  unfold rowCode
  rfl

/-- The codes of a block. -/
theorem bcodes_apply (r : Fin 32) (d : Fin 4096) : k0_pay16 m b (ix2 r d)
    = FloatOps.fptosi 8 (rowCode (fun d => m (ix2 0 d)) (fun d => b (ix2 r d)) d) := by
  unfold k0_pay16
  rw [fptosiV, bcode_apply]

/-- The codes of a block as the product reads them. -/
theorem bcbf_apply (r : Fin 32) (d : Fin 4096) : k0_pay17 m b (ix2 r d)
    = rowCode (fun d => m (ix2 0 d)) (fun d => b (ix2 r d)) d := by
  unfold k0_pay17
  simp only [shapeCast_self]
  rw [truncV, bcode_apply]

/-- The scales of a block, the same along the lanes. -/
theorem bscales_apply (r : Fin 32) (l : Fin 128) : k0_pay18 m b (ix2 r l) = rowScale (fun d => m (ix2 0 d)) (fun d => b (ix2 r d)) := by
  unfold k0_pay18
  simp only [shapeCast_self]
  rw [bcastCol (by decide), bscale_apply]

end Block

/-! ## The arrays -/

variable (m : Vec Ideal S1x4096 .i32) (x : Vec Ideal S256x4096 .bf16)

/-- Row `t` of the activations is row `t % 32` of block `t / 32`. -/
theorem rows_apply (t : Fin 256) (d : Fin 4096) :
    rows x (t.val / 32) (ix2 ⟨t.val % 32, Nat.mod_lt _ (by decide)⟩ d) = x (ix2 t d) := by
  unfold rows
  have e : (⟨(32 * (t.val / 32) + t.val % 32) % 256, Nat.mod_lt _ (by decide)⟩ : Fin 256) = t := Fin.ext (by
    show (32 * (t.val / 32) + t.val % 32) % 256 = t.val
    have := t.isLt; omega)
  show x (ix2 ⟨(32 * (t.val / 32) + t.val % 32) % 256, _⟩ d) = _
  rw [e]

/-- The same for whole rows. -/
theorem rows_row (t : Fin 256) :
    (fun d => rows x (t.val / 32) (ix2 (⟨t.val % 32, Nat.mod_lt _ (by decide)⟩ : Fin 32) d)) = fun d => x (ix2 t d) := funext (rows_apply x t)

/-- The codes. -/
theorem codes_apply (t : Fin 256) (d : Fin 4096) : codes m x (ix2 t d)
    = FloatOps.fptosi 8 (rowCode (fun d => m (ix2 0 d)) (fun d => x (ix2 t d)) d) := by
  have h := bcodes_apply m (rows x (t.val / 32)) ⟨t.val % 32, Nat.mod_lt _ (by decide)⟩ d
  rw [rows_row] at h
  unfold codes codesR
  exact h

/-- The codes as the product reads them. -/
theorem cbf_apply (t : Fin 256) (d : Fin 4096) : cbf m x (ix2 t d)
    = rowCode (fun d => m (ix2 0 d)) (fun d => x (ix2 t d)) d := by
  have h := bcbf_apply m (rows x (t.val / 32)) ⟨t.val % 32, Nat.mod_lt _ (by decide)⟩ d
  rw [rows_row] at h
  unfold cbf cbfR
  exact h

/-- The scales, the same along the lanes. -/
theorem scales_apply (t : Fin 256) (l : Fin 128) : scales m x (ix2 t l)
    = rowScale (fun d => m (ix2 0 d)) (fun d => x (ix2 t d)) := by
  have h := bscales_apply m (rows x (t.val / 32)) ⟨t.val % 32, Nat.mod_lt _ (by decide)⟩ l
  rw [rows_row] at h
  unfold scales scalesR
  exact h

/-! ## The columns' greatest absolute values -/

/-- The greatest absolute value is at most `a` exactly when each absolute value is. -/
theorem top_le (n : ℕ) (f : Fin n → Ideal .f32) (a : EReal) : (top n f : EReal) ≤ a ↔ ∀ k, (FloatOps.absf (f k) : EReal) ≤ a := by
  unfold top
  rw [neg_inf, Finset.fold_max_le]
  simp

/-- An absolute value is not negative. -/
theorem abs_nonneg' (v : Ideal .f32) : (0 : EReal) ≤ FloatOps.absf v := by
  show (0 : EReal) ≤ max (v : EReal) (-v)
  rcases le_total (0 : EReal) v with h | h
  · exact le_max_of_le_left h
  · exact le_max_of_le_right (EReal.neg_nonneg.mpr h)

/-- The maximum of the columns of one block of rows. -/
theorem bmax (b : Vec Ideal S32x4096 .bf16) (d : Fin 4096) :
    shapeCast S1x4096 (multiReduction .maximumf [0] S4096 (absf (k0_pay11 b)) 0xFF800000#32 reduces_S32x4096_S4096 (.inl rfl) rfl) shapeCasts_S4096_S1x4096 (ix2 0 d)
      = top 32 fun r => b (ix2 r d) := by
  unfold k0_pay11
  rw [shapeCast_self]
  refine (shapeCast_a_1a_apply _ _ _ _).trans ?_
  exact colMax _ _ _ _ d

theorem cm_zero_apply (d : Fin 4096) : (cm x 0 (ix2 0 d) : EReal) = max 0 (top 32 fun r => rows x 0 (ix2 r d)) := by
  show (k0_pay12 (rows x 0) (ix2 0 d) : EReal) = _
  unfold k0_pay12
  rw [maxV, bmax]
  exact congrArg (fun z : EReal => max z (top 32 fun r => rows x 0 (ix2 r d))) zero_f32

theorem cm_succ_apply (r : ℕ) (d : Fin 4096) :
    (cm x (r + 1) (ix2 0 d) : EReal) = max (cm x r (ix2 0 d) : EReal) (top 32 fun a => rows x (r + 1) (ix2 a d)) := by
  show (k0_pay20 (cm x r) (rows x (r + 1)) (ix2 0 d) : EReal) = _
  unfold k0_pay20
  exact (maxV _ _ _).trans (congrArg (fun z : EReal => max (cm x r (ix2 0 d) : EReal) z) (bmax (rows x (r + 1)) d))

/-- The running maximum through row block `r` is at most `a` exactly when `a` is not negative and bounds the absolute values of
    the rows so far. -/
theorem cm_le (d : Fin 4096) (a : EReal) (r : ℕ) (hr : r < 8) : (cm x r (ix2 0 d) : EReal) ≤ a
    ↔ 0 ≤ a ∧ ∀ t : Fin 256, t.val < 32 * (r + 1) → (FloatOps.absf (F := Ideal) (φ := .f32) (x (ix2 t d)) : EReal) ≤ a := by
  have key : ∀ q : ℕ, q < 8 → ((top 32 fun i => rows x q (ix2 i d) : EReal) ≤ a
      ↔ ∀ t : Fin 256, 32 * q ≤ t.val → t.val < 32 * (q + 1) → (FloatOps.absf (F := Ideal) (φ := .f32) (x (ix2 t d)) : EReal) ≤ a) := by
    intro q hq
    rw [top_le]
    constructor
    · intro h t h1 h2
      have e := h ⟨t.val % 32, Nat.mod_lt _ (by decide)⟩
      have hq' : t.val / 32 = q := by omega
      rw [← rows_apply x t d, hq']
      exact e
    · intro h i
      have hi := i.isLt
      have e := h ⟨32 * q + i.val, by omega⟩ (by show 32 * q ≤ 32 * q + i.val; omega) (by show 32 * q + i.val < _; omega)
      have e2 : rows x q (ix2 i d) = x (ix2 ⟨32 * q + i.val, by omega⟩ d) := by
        show x (ix2 ⟨(32 * q + i.val) % 256, _⟩ d) = _
        congr 2
        exact Fin.ext (Nat.mod_eq_of_lt (by omega))
      rw [e2]
      exact e
  revert hr
  induction r with
  | zero =>
    intro hr
    rw [cm_zero_apply, max_le_iff, key 0 (by omega)]
    exact and_congr Iff.rfl ⟨fun h t ht => h t (by omega) ht, fun h t _ ht => h t ht⟩
  | succ r ih =>
    intro hr
    have ih' := ih (by omega)
    rw [cm_succ_apply, max_le_iff, key (r + 1) hr]
    refine (and_congr ih' Iff.rfl).trans ?_
    rw [and_assoc]
    refine and_congr Iff.rfl ⟨fun h t ht => ?_, fun h => ⟨fun t ht => h t (by omega), fun t _ ht => h t ht⟩⟩
    by_cases h1 : t.val < 32 * (r + 1)
    · exact h.1 t h1
    · exact h.2 t (by omega) ht

/-- The greatest absolute value of a column. -/
theorem colmax_apply (d : Fin 4096) : cm x 7 (ix2 0 d) = top 256 fun t => x (ix2 t d) := by
  refine eq_of_forall_ge_iff (α := EReal) fun a => ?_
  rw [cm_le x d a 7 (by decide), top_le]
  constructor
  · intro h t
    exact h.2 t (by have := t.isLt; omega)
  · intro h
    exact ⟨(abs_nonneg' _).trans (h 0), fun t _ => h t⟩

/-- The new mask marks the columns whose greatest absolute value exceeds the threshold. -/
theorem newmask_apply (d : Fin 4096) : k0_pay81 (cm x 7) (ix2 0 d)
    = BitVec.setWidth 32 (FloatOps.cmpf .ogt (top 256 fun t => x (ix2 t d)) (Scalar.ofBits .f32 0x40C00000#32)) := by
  rw [← colmax_apply x d]
  unfold k0_pay81
  exact maskV _ _ _ _

end Cert.KernelIdeal.Math
end
-- ==== Proof.SideMath.lean ====
/- What one block of the kernel's result holds over the extended reals: the side product over the chunks is the sum over the
   marked columns. -/
module

public import proofs.«01_k».proof.Proof.GatherMath
public import proofs.«01_k».proof.Proof.KerMath

@[expose] public section

noncomputable section

namespace Cert.KernelIdeal.Side

open Cert.KernelIdeal Cert.KernelIdeal.Gen Cert.Plain Cert.KernelIdeal.Spec Cert.KernelIdeal.Words Cert.KernelIdeal.Body Cert.KernelIdeal.Gather
open Idealize.ShloMosaic Idealize.ShloMosaic.ValueIdx
open scoped BigOperators

/-! ## The list of marked columns -/

/-- Each number on the list is a column. -/
theorem nth_hits_lt (T : S4096.Idx → BitVec 32) (j : ℕ) : nth (hits T 4096) j < 4096 := by
  unfold nth
  rw [List.getD_eq_getElem?_getD]
  cases h : (hits T 4096)[j]? with
  | none => exact (by decide : 0 < 4096)
  | some a =>
    have hm := List.mem_of_getElem? h
    unfold hits at hm
    exact List.mem_range.mp (List.mem_of_mem_filter hm)

/-- A sum over the first `k` marked columns is a sum over the first `k` columns that counts the marked ones. -/
theorem sum_hits (T : S4096.Idx → BitVec 32) (f : ℕ → EReal) (k : ℕ) :
    ∑ j ∈ Finset.range (hits T k).length, f (nth (hits T k) j) = ∑ d ∈ Finset.range k, if T (at1 d) = 1#32 then f d else 0 := by
  induction k with
  | zero => rfl
  | succ k ih =>
    rw [Finset.sum_range_succ, ← ih]
    by_cases h : T (at1 k) = 1#32
    · rw [hits_succ_of T k h, if_pos h, List.length_append, List.length_singleton, Finset.sum_range_succ]
      congr 1
      · refine Finset.sum_congr rfl fun j hj => ?_
        have hj' := Finset.mem_range.mp hj
        unfold nth
        rw [List.getD_eq_getElem?_getD, List.getD_eq_getElem?_getD, List.getElem?_append_left hj']
      · unfold nth
        rw [List.getD_eq_getElem?_getD, List.getElem?_append_right (le_refl _), Nat.sub_self]
        rfl
    · rw [hits_succ_of_not T k h, if_neg h, add_zero]

/-- A sum over whole chunks that vanishes past `n` is the sum over the first `n`. -/
theorem sum_cut (n N : ℕ) (h : n ≤ N) (G : ℕ → EReal) :
    ∑ j ∈ Finset.range N, (if j < n then G j else 0) = ∑ j ∈ Finset.range n, G j := by
  rw [← Finset.sum_filter]
  congr 1
  ext j
  simp only [Finset.mem_filter, Finset.mem_range]
  omega

/-! ## The products -/

theorem dotSide_eq : dot_S256x128_S512x128_S256x512_1_1_0_0_n_n = DotDims.transposedRhs 256 128 512 := rfl
theorem dotMain_eq : dot_S256x4096_S512x4096_S256x512_1_1_0_0_n_n = DotDims.transposedRhs 256 4096 512 := rfl

/-- The side product of one chunk. -/
theorem chunk_product (g : Vec Ideal S128x128 .i32) (X : Vec Ideal S1x256x128 .bf16) (t : Fin 256) (n : Fin 512) :
    k0_pay89 g X (ix2 t n)
      = ∑ l : Fin 128, X (ix3 0 t l) * ((((bitcast S512x128 8 g bitcasts_S128x128_w32_S512x128_w8 (ix2 n l)).toInt : ℝ) : EReal)) := by
  unfold k0_pay89
  simp only [matmul, dotSide_eq]
  rw [Ideal.matmul_transposedRhs_apply]
  simp only [constant_zero, zero_add, sitofpV]
  refine Finset.sum_congr rfl fun l _ => ?_
  rw [shapeCast_1ab_ab_apply]

theorem pay5_eq (a : FVec Ideal S256x512 .f32) (g : Vec Ideal S128x128 .i32) (X : Vec Ideal S1x256x128 .bf16) :
    k0_pay5 a g X = addf a (k0_pay89 g X) := rfl

/-- The main product. -/
theorem main_product (B : Vec Ideal S256x4096 .bf16) (w : Vec Ideal S512x4096 .i8) (t : Fin 256) (n : Fin 512) :
    k0_pay85 B w (ix2 t n) = ∑ d : Fin 4096, B (ix2 t d) * ((((w (ix2 n d)).toInt : ℝ) : EReal)) := by
  unfold k0_pay85
  simp only [matmul, dotMain_eq]
  rw [Ideal.matmul_transposedRhs_apply]
  simp only [constant_zero, zero_add, sitofpV]

/-- One entry of the list's contribution to the side product. -/
def term (x : Vec Ideal S256x4096 .bf16) (w : Vec Ideal S512x4096 .i8) (t : Fin 256) (n : Fin 512) (d : ℕ) : EReal :=
  x (ix2 t ⟨d % 4096, Nat.mod_lt _ (by decide)⟩) * ((((w (ix2 n ⟨d % 4096, Nat.mod_lt _ (by decide)⟩)).toInt : ℝ) : EReal))

/-- One chunk's contribution: the listed columns on its lanes, and nothing past the list's end. -/
theorem chunk_sum (x : Vec Ideal S256x4096 .bf16) (w : Vec Ideal S512x4096 .i8) (L : List ℕ) (hL : ∀ j, nth L j < 4096)
    (hlen : L.length ≤ 4096) (q : ℕ) (hq : q < 32) (t : Fin 256) (n : Fin 512) :
    k0_pay89 (gAt (F := Ideal) w L q) (chunk (xg x L) q) (ix2 t n)
      = ∑ l ∈ Finset.range 128, if q * 128 + l < L.length then term x w t n (nth L (q * 128 + l)) else 0 := by
  rw [chunk_product, Finset.sum_range]
  refine Finset.sum_congr rfl fun l _ => ?_
  unfold xg
  rw [xgK_apply x L hL L.length hlen q hq t l]
  by_cases h : q * 128 + l.val < L.length
  · rw [if_pos h, if_pos h, gAt_apply w L hL q n l h]
    rfl
  · rw [if_neg h, if_neg h, zero_mul]

theorem side_sum (x : Vec Ideal S256x4096 .bf16) (w : Vec Ideal S512x4096 .i8) (L : List ℕ) (hL : ∀ j, nth L j < 4096)
    (hlen : L.length ≤ 4096) (q : ℕ) (hq : q < 32) (t : Fin 256) (n : Fin 512) :
    side w (xg x L) L q (ix2 t n)
      = ∑ j ∈ Finset.range ((q + 1) * 128), if j < L.length then term x w t n (nth L j) else 0 := by
  induction q with
  | zero =>
    refine (chunk_sum x w L hL hlen 0 hq t n).trans ?_
    refine Finset.sum_congr rfl fun l _ => ?_
    rw [Nat.zero_mul, Nat.zero_add]
  | succ q ih =>
    rw [side, pay5_eq, addV, ih (by omega), chunk_sum x w L hL hlen (q + 1) hq t n, show (q + 1 + 1) * 128 = (q + 1) * 128 + 128 by omega,
      Finset.sum_range_add]

/-- The side product is the sum over the marked columns. -/
theorem side_apply (x : Vec Ideal S256x4096 .bf16) (w : Vec Ideal S512x4096 .i8) (T : S4096.Idx → BitVec 32) (t : Fin 256) (n : Fin 512) :
    side w (xg x (hits T 4096)) (hits T 4096) (nch (hits T 4096).length - 1) (ix2 t n)
      = ∑ d : Fin 4096, if T (at1 d.val) = 1#32 then x (ix2 t d) * ((((w (ix2 n d)).toInt : ℝ) : EReal)) else 0 := by
  have hlen := hits_length_le T 4096
  have hq : nch (hits T 4096).length - 1 < 32 := by unfold nch; omega
  rw [side_sum x w _ (nth_hits_lt T) hlen _ hq, sum_cut _ _ (by unfold nch; omega), sum_hits T (term x w t n) 4096, Finset.sum_range]
  refine Finset.sum_congr rfl fun d _ => ?_
  have e : (⟨d.val % 4096, Nat.mod_lt _ (by decide)⟩ : Fin 4096) = d := Fin.ext (Nat.mod_eq_of_lt d.isLt)
  unfold term
  rw [e]

/-! ## One block of the result -/

theorem combine (v6 v27 : FVec Ideal S256x512 .f32) (s : Vec Ideal S256x1 .f32) (ws : Vec Ideal S1x512 .f32) (t : Fin 256) (n : Fin 512) :
    k0_pay2 v6 v27 s ws (ix2 t n) = ((v6 (ix2 t n) * s (ix2 t 0) + v27 (ix2 t n)) * ws (ix2 0 n) : EReal) := by
  unfold k0_pay2 k0_pay1
  simp only [shapeCast_self]
  refine (outV _ _ _ _ _ _).trans ?_
  rw [bcastCol (by decide), broadcastTo_1b_ab_apply]

/-- One entry of a block of the result is the layer's plain formula, where the list holds the columns that the mask marks. -/
theorem yBlk_apply (m : Vec Ideal S1x4096 .i32) (x : Vec Ideal S256x4096 .bf16) (w : Vec Ideal S512x4096 .i8) (ws : Vec Ideal S1x512 .f32)
    (T : S4096.Idx → BitVec 32) (hT : ∀ d : Fin 4096, T (at1 d.val) = m (ix2 0 d)) (t : Fin 256) (n : Fin 512) :
    yBlk (cbf m x) (scales m x) (xg x (hits T 4096)) (hits T 4096) w ws (ix2 t n)
      = out (fun d => m (ix2 0 d)) (fun d => x (ix2 t d)) (fun d => w (ix2 n d)) (ws (ix2 0 n)) := by
  unfold yBlk
  rw [combine, main_product, side_apply]
  have e1 : lane0 (scales m x) (ix2 t 0) = rowScale (fun d => m (ix2 0 d)) (fun d => x (ix2 t d)) := Math.scales_apply m x t 0
  rw [e1]
  simp only [Math.cbf_apply, hT]
  unfold out
  rfl

end Cert.KernelIdeal.Side
end
-- ==== Proof.Results.lean ====
/- The five results of the layer as whole arrays, over the extended reals. -/
module

public import proofs.«01_k».proof.Proof.Plain

@[expose] public section

noncomputable section

namespace Cert.Results

open Cert.Plain
open Idealize.ShloMosaic Idealize.ShloMosaic.ValueIdx

variable (m : Vec Ideal ⟨2, ![1, 4096]⟩ .i32) (x : Vec Ideal ⟨2, ![256, 4096]⟩ .bf16)
  (w : Vec Ideal ⟨2, ![14336, 4096]⟩ .i8) (ws : Vec Ideal ⟨2, ![1, 14336]⟩ .f32)

/-- An index of a matrix is its two coordinates. -/
theorem idx2 {a b : ℕ} (y : (⟨2, ![a, b]⟩ : Shape).Idx) : y = ix2 (y 0 : Fin a) (y 1 : Fin b) := by
  funext i
  match i with
  | ⟨0, _⟩ => rfl
  | ⟨1, _⟩ => rfl
theorem idx_row {b : ℕ} (y : (⟨2, ![1, b]⟩ : Shape).Idx) : y = ix2 (0 : Fin 1) (y 1 : Fin b) := by
  funext i
  match i with
  | ⟨0, _⟩ => exact Subsingleton.elim (α := Fin 1) _ _
  | ⟨1, _⟩ => rfl
theorem idx_col {a : ℕ} (y : (⟨2, ![a, 1]⟩ : Shape).Idx) : y = ix2 (y 0 : Fin a) (0 : Fin 1) := by
  funext i
  match i with
  | ⟨0, _⟩ => rfl
  | ⟨1, _⟩ => exact Subsingleton.elim (α := Fin 1) _ _

/-- The layer's output. -/
def outputs : Vec Ideal ⟨2, ![256, 14336]⟩ .bf16 := fun y =>
  out (fun d => m (ix2 0 d)) (fun d => x (ix2 (y 0 : Fin 256) d)) (fun d => w (ix2 (y 1 : Fin 14336) d)) (ws (ix2 0 (y 1 : Fin 14336)))
/-- Each column's greatest absolute value. -/
def colmax : Vec Ideal ⟨2, ![1, 4096]⟩ .f32 := fun y => top 256 fun t => x (ix2 t (y 1 : Fin 4096))
/-- The next mask: one where a column's greatest absolute value is over the threshold. -/
def newmask : Vec Ideal ⟨2, ![1, 4096]⟩ .i32 := fun y =>
  BitVec.setWidth 32 (FloatOps.cmpf .ogt (top 256 fun t => x (ix2 t (y 1 : Fin 4096))) (Scalar.ofBits .f32 0x40C00000#32))
/-- The codes. -/
def codes : Vec Ideal ⟨2, ![256, 4096]⟩ .i8 := fun y =>
  FloatOps.fptosi 8 (rowCode (fun d => m (ix2 0 d)) (fun d => x (ix2 (y 0 : Fin 256) d)) (y 1 : Fin 4096))
/-- The rows' scales. -/
def scales : Vec Ideal ⟨2, ![256, 1]⟩ .f32 := fun y => rowScale (fun d => m (ix2 0 d)) (fun d => x (ix2 (y 0 : Fin 256) d))
/-- The rows' scales, the same along 128 lanes. -/
def scalesWide : Vec Ideal ⟨2, ![256, 128]⟩ .f32 := fun y => rowScale (fun d => m (ix2 0 d)) (fun d => x (ix2 (y 0 : Fin 256) d))

/-- The first lane of the wide scales is the scales. -/
theorem scales_lane (h : Shape.Slices ⟨2, ![256, 128]⟩ ![0, 0] ⟨2, ![256, 1]⟩) :
    extractStridedSlice ⟨2, ![256, 1]⟩ ![0, 0] (scalesWide m x) h = scales m x := by
  funext y
  show scalesWide m x _ = _
  unfold scalesWide scales
  congr 1
  funext d
  congr 2
  exact Fin.ext (by show 0 + (y 0).val = (y 0).val; omega)

end Cert.Results
end
-- ==== Proof.KerRun.lean ====
/- What the kernel's run leaves in its result arrays, over the extended reals, as functions of its arguments. -/
module

public import proofs.«01_k».proof.Proof.Region
public import proofs.«01_k».proof.Proof.SideMath
public import proofs.«01_k».proof.Proof.Results
public import Idealize.ShloMosaic.Lib.Pipeline.ValueKit.Geometry
public import Idealize.ShloMosaic.Lib.Claim

@[expose] public section

set_option maxRecDepth 16384

noncomputable section

namespace Cert.KernelIdeal.Run

open Cert.KernelIdeal Cert.KernelIdeal.Gen Cert.Plain Cert.KernelIdeal.Region Cert.KernelIdeal.Spec Cert.KernelIdeal.Body Cert.KernelIdeal.Quant
open Idealize.ShloMosaic Idealize.ShloMosaic.TcCoe Idealize.ShloMosaic.ValueIdx Idealize.SL.Sem
open Idealize.ShloMosaic.Pipeline (Dat Cfg Window)
open scoped BigOperators

variable (m : (ℓ : Loc nD τ sig) → Buf (Elt Ideal) ℓ) (ρ : Dev nD → PrngReg)

/-- The activations, the mask, the weights' codes and their scales as the call reads them. -/
abbrev xR (c : Dev nD) : Vec Ideal S256x4096 .bf16 := shapeCast S256x4096 (m ((c : Thread nD τ).loc main_arg0)) shapeCasts_S2x128x4096_S256x4096
abbrev mR (c : Dev nD) : Vec Ideal S1x4096 .i32 := shapeCast S1x4096 (m ((c : Thread nD τ).loc main_arg1)) shapeCasts_S4096_S1x4096
abbrev wR (c : Dev nD) : Vec Ideal S14336x4096 .i8 := m ((c : Thread nD τ).loc main_arg2)
abbrev sR (c : Dev nD) : Vec Ideal S1x14336 .f32 := shapeCast S1x14336 (m ((c : Thread nD τ).loc main_arg3)) shapeCasts_S14336_S1x14336

theorem V_v0 (c : Dev nD) : xA m c = xR m c := by show Region.V m c main_v0 = _; entry_read; rfl
theorem V_v1 (c : Dev nD) : mA m c = mR m c := by show Region.V m c main_v1 = _; entry_read; rfl
theorem V_v2 (c : Dev nD) : Region.V m c main_v2 = sR m c := by entry_read; rfl

/-- The table of the list agrees with the mask of the vectors: both are the same argument. -/
theorem table_mask (c : Dev nD) (d : Fin 4096) : tA m c (at1 d.val) = mA m c (ix2 0 d) := by
  rw [V_v1, show tA m c = m ((c : Thread nD τ).loc main_arg1) from V_main_arg1 m c]
  refine Eq.trans ?_ (shapeCast_a_1a_apply _ _ _ _).symm
  congr 1
  funext a
  match a with
  | ⟨0, _⟩ => exact Fin.ext (Nat.mod_eq_of_lt d.isLt)

/-! ## The blocks of the tiled windows -/

theorem at_2 : ∀ t : Fin grid0.N, cc0_transform_2 (grid0.coords t) = ![t.val, 0] := by decide +kernel
theorem at_3 : ∀ t : Fin grid0.N, cc0_transform_3 (grid0.coords t) = ![0, t.val] := by decide +kernel
theorem at_4 : ∀ t : Fin grid0.N, cc0_transform_4 (grid0.coords t) = ![0, t.val] := by decide +kernel
theorem at_5 : ∀ t : Fin grid0.N, cc0_transform_5 (grid0.coords t) = ![0, 0] := by decide +kernel
theorem at_6 : ∀ t : Fin grid0.N, cc0_transform_6 (grid0.coords t) = ![0, 0] := by decide +kernel
theorem at_7 : ∀ t : Fin grid0.N, cc0_transform_7 (grid0.coords t) = ![0, 0] := by decide +kernel
theorem at_8 : ∀ t : Fin grid0.N, cc0_transform_8 (grid0.coords t) = ![0, 0] := by decide +kernel
theorem flush_4 : ∀ t : Fin grid0.N, Window.flushOf grid0 true cc0_transform_4 t = true := by decide +kernel

/-- Block `t` of the weights: rows `512 t` on. -/
theorem iblk_2 (c : Dev nD) (t : Fin (cfgA m).N) (n : Fin 512) (d : Fin 4096) (k : Fin 14336) (hk : k.val = t.val * 512 + n.val) :
    iblk m c 2 t (ix2 n d) = wR m c (ix2 k d) := by
  refine Eq.trans ?_ (congrFun (V_main_arg2 m c) (ix2 k d))
  show Region.V m c main_arg2 ((((cfgA m).win 2).rect t).emb (ix2 n d)) = Region.V m c main_arg2 (ix2 k d)
  congr 1; funext a; apply Fin.ext
  have e : ((cfgA m).win 2).index t = ![t.val, 0] := at_2 t
  rw [Pipeline.Window.rect_emb_val ((cfgA m).win 2) t (ix2 n d) a, e]
  match a with
  | ⟨0, _⟩ => exact hk.symm
  | ⟨1, _⟩ => show 0 * 4096 + d.val = d.val; omega

/-- Block `t` of the columns' scales. -/
theorem iblk_3 (c : Dev nD) (t : Fin (cfgA m).N) (n : Fin 512) (k : Fin 14336) (hk : k.val = t.val * 512 + n.val) :
    iblk m c 3 t (ix2 0 n) = sR m c (ix2 0 k) := by
  refine Eq.trans ?_ (congrFun (V_v2 m c) (ix2 0 k))
  show Region.V m c main_v2 ((((cfgA m).win 3).rect t).emb (ix2 0 n)) = Region.V m c main_v2 (ix2 0 k)
  congr 1; funext a; apply Fin.ext
  have e : ((cfgA m).win 3).index t = ![0, t.val] := at_3 t
  rw [Pipeline.Window.rect_emb_val ((cfgA m).win 3) t (ix2 0 n) a, e]
  match a with
  | ⟨0, _⟩ => rfl
  | ⟨1, _⟩ => exact hk.symm

/-! ## The call's output arrays -/

theorem covers_4 : ((cfgA m).win 4).Covers := by
  refine ⟨fun a => by match a with | ⟨0, _⟩ => exact (by decide : 0 < 256) | ⟨1, _⟩ => exact (by decide : 0 < 512), fun β => ?_⟩
  have h1 : (β (1 : Fin 2)).val < 28 := lt_of_lt_of_eq (β (1 : Fin 2)).isLt (by show (14336 + 512 - 1) / 512 = 28; rfl)
  have h0 : (β (0 : Fin 2)).val < 1 := lt_of_lt_of_eq (β (0 : Fin 2)).isLt (by show (256 + 256 - 1) / 256 = 1; rfl)
  refine ⟨⟨(β (1 : Fin 2)).val, h1⟩, (Window.flush_eq_flushOf _ _).trans (flush_4 _), fun a => ?_⟩
  have e : ((cfgA m).win 4).index ⟨(β (1 : Fin 2)).val, h1⟩ = ![0, (β (1 : Fin 2)).val] := at_4 ⟨(β (1 : Fin 2)).val, h1⟩
  rw [e]
  match a with
  | ⟨0, _⟩ => exact ⟨by show 0 = (β (0 : Fin 2)).val; omega, .inl rfl⟩
  | ⟨1, _⟩ => exact ⟨rfl, .inl rfl⟩

/-- What the body leaves at point `t` is columns `512 t` on of the output. -/
theorem block_4 (c : Dev nD) (t : Fin (cfgA m).N) (t' : Fin 256) (n : Fin 512) (k : Fin 14336) (hk : k.val = t.val * 512 + n.val) :
    (dats m 0 c).after 4 t (ix2 t' n) = Results.outputs (mR m c) (xR m c) (wR m c) (sR m c) (ix2 t' k) := by
  rw [after_4]
  refine (Side.yBlk_apply (mA m c) (xA m c) (iblk m c 2 t) (iblk m c 3 t) (tA m c) (table_mask m c) t' n).trans ?_
  rw [V_v0, V_v1]
  have e2 : (fun d => iblk m c 2 t (ix2 n d)) = fun d => wR m c (ix2 k d) := funext fun d => iblk_2 m c t n d k hk
  rw [e2, iblk_3 m c t n k hk]
  rfl

theorem block_4' (c : Dev nD) (t : Fin (cfgA m).N) (j : S256x512.Idx) (k : S256x14336.Idx) (h0 : (k 0).val = (j 0).val)
    (h1 : (k 1).val = t.val * 512 + (j 1).val) :
    (dats m 0 c).after 4 t j = Results.outputs (mR m c) (xR m c) (wR m c) (sR m c) k := by
  have e := block_4 m c t (j 0) (j 1) (k 1) h1
  have hk : k = ix2 (j 0 : Fin 256) (k 1 : Fin 14336) := (Results.idx2 k).trans (congrArg (fun a : Fin 256 => ix2 a (k 1 : Fin 14336)) (Fin.ext h0))
  rw [hk, Results.idx2 j]
  exact e

theorem arr_4 (c : Dev nD) : (dats m 0 c).arrAt 4 (cfgA m).N = Results.outputs (mR m c) (xR m c) (wR m c) (sR m c) := by
  refine (dats m 0 c).arrAt_eq_of_covers 4 _ (covers_4 m) fun t _ y => ?_
  have e : ((cfgA m).win 4).index t = ![0, t.val] := at_4 t
  have p0 := Pipeline.Window.rect_emb_val ((cfgA m).win 4) t y (0 : Fin 2)
  have p1 := Pipeline.Window.rect_emb_val ((cfgA m).win 4) t y (1 : Fin 2)
  rw [e] at p0 p1
  exact block_4' m c t _ _ (p0.trans (by show 0 * 256 + (y (0 : Fin 2)).val = (y (0 : Fin 2)).val; omega)) p1

theorem scales_eq (a : Vec Ideal S1x4096 .i32) (x : Vec Ideal S256x4096 .bf16) : scales a x = Results.scalesWide a x := by
  funext y; rw [Results.idx2 y]; exact Math.scales_apply a x (y 0) (y 1)

/-- The last point. -/
def tlast : Fin (cfgA m).N := ⟨27, by exact (by decide : 27 < 28)⟩

theorem whole_5 : ((cfgA m).win 5).WholeAt (tlast m) := by
  refine ⟨((Window.flush_eq_flushOf _ _).trans (flush_5 _)).trans (decide_eq_true rfl), fun t h => ?_, fun a => ?_⟩
  · have h2 := of_decide_eq_true ((flush_5 t).symm.trans ((Window.flush_eq_flushOf _ t).symm.trans h))
    exact Fin.ext h2
  · have e : ((cfgA m).win 5).index (tlast m) = ![0, 0] := at_5 (tlast m)
    rw [e]
    match a with
    | ⟨0, _⟩ => exact ⟨rfl, rfl⟩
    | ⟨1, _⟩ => exact ⟨rfl, rfl⟩
theorem arr_5 (c : Dev nD) : (dats m 0 c).arrAt 5 (cfgA m).N = Results.colmax (xR m c) := by
  refine (dats m 0 c).arrAt_eq_of_after_last 5 (tlast m) (whole_5 m) _ fun j => ?_
  rw [after_5, V_v0]
  rw [Results.idx_row j]; exact Math.colmax_apply _ _

theorem whole_6 : ((cfgA m).win 6).WholeAt (tlast m) := by
  refine ⟨((Window.flush_eq_flushOf _ _).trans (flush_6 _)).trans (decide_eq_true rfl), fun t h => ?_, fun a => ?_⟩
  · have h2 := of_decide_eq_true ((flush_6 t).symm.trans ((Window.flush_eq_flushOf _ t).symm.trans h))
    exact Fin.ext h2
  · have e : ((cfgA m).win 6).index (tlast m) = ![0, 0] := at_6 (tlast m)
    rw [e]
    match a with
    | ⟨0, _⟩ => exact ⟨rfl, rfl⟩
    | ⟨1, _⟩ => exact ⟨rfl, rfl⟩
theorem arr_6 (c : Dev nD) : (dats m 0 c).arrAt 6 (cfgA m).N = Results.newmask (xR m c) := by
  refine (dats m 0 c).arrAt_eq_of_after_last 6 (tlast m) (whole_6 m) _ fun j => ?_
  rw [after_6, V_v0]
  rw [Results.idx_row j]; exact Math.newmask_apply _ _

theorem whole_7 : ((cfgA m).win 7).WholeAt (tlast m) := by
  refine ⟨((Window.flush_eq_flushOf _ _).trans (flush_7 _)).trans (decide_eq_true rfl), fun t h => ?_, fun a => ?_⟩
  · have h2 := of_decide_eq_true ((flush_7 t).symm.trans ((Window.flush_eq_flushOf _ t).symm.trans h))
    exact Fin.ext h2
  · have e : ((cfgA m).win 7).index (tlast m) = ![0, 0] := at_7 (tlast m)
    rw [e]
    match a with
    | ⟨0, _⟩ => exact ⟨rfl, rfl⟩
    | ⟨1, _⟩ => exact ⟨rfl, rfl⟩
theorem arr_7 (c : Dev nD) : (dats m 0 c).arrAt 7 (cfgA m).N = Results.codes (mR m c) (xR m c) := by
  refine (dats m 0 c).arrAt_eq_of_after_last 7 (tlast m) (whole_7 m) _ fun j => ?_
  rw [after_7, V_v0, V_v1]
  rw [Results.idx2 j]; exact Math.codes_apply _ _ _ _

theorem whole_8 : ((cfgA m).win 8).WholeAt (tlast m) := by
  refine ⟨((Window.flush_eq_flushOf _ _).trans (flush_8 _)).trans (decide_eq_true rfl), fun t h => ?_, fun a => ?_⟩
  · have h2 := of_decide_eq_true ((flush_8 t).symm.trans ((Window.flush_eq_flushOf _ t).symm.trans h))
    exact Fin.ext h2
  · have e : ((cfgA m).win 8).index (tlast m) = ![0, 0] := at_8 (tlast m)
    rw [e]
    match a with
    | ⟨0, _⟩ => exact ⟨rfl, rfl⟩
    | ⟨1, _⟩ => exact ⟨rfl, rfl⟩
theorem arr_8 (c : Dev nD) : (dats m 0 c).arrAt 8 (cfgA m).N = Results.scalesWide (mR m c) (xR m c) := by
  refine (dats m 0 c).arrAt_eq_of_after_last 8 (tlast m) (whole_8 m) _ fun j => ?_
  rw [after_8, V_v0, V_v1]
  rw [scales_eq]; rfl

/-! ## The results -/

theorem arr_inj : Function.Injective (Pipeline.arrRef spec0) := by decide

section Tail
variable (W : Valuation τ sig (Elt Ideal))
theorem tail_main_v4 : StableHlo.after (List.flatten [hostOps1]) W (Proc.devRef .tc main_v4) = shapeCast S2x128x14336 (W (Proc.devRef .tc main_v3_0)) shapeCasts_S256x14336_S2x128x14336 := by
  simp only [List.flatten_cons, List.flatten_nil, List.append_nil, hostOps1]
  after_results; rfl
theorem tail_main_v5 : StableHlo.after (List.flatten [hostOps1]) W (Proc.devRef .tc main_v5) = shapeCast S4096 (W (Proc.devRef .tc main_v3_1)) shapeCasts_S1x4096_S4096 := by
  simp only [List.flatten_cons, List.flatten_nil, List.append_nil, hostOps1]
  after_results; rfl
theorem tail_main_v6 : StableHlo.after (List.flatten [hostOps1]) W (Proc.devRef .tc main_v6) = shapeCast S4096 (W (Proc.devRef .tc main_v3_2)) shapeCasts_S1x4096_S4096 := by
  simp only [List.flatten_cons, List.flatten_nil, List.append_nil, hostOps1]
  after_results; rfl
theorem tail_main_v7 : StableHlo.after (List.flatten [hostOps1]) W (Proc.devRef .tc main_v7) = shapeCast S2x128x4096 (W (Proc.devRef .tc main_v3_3)) shapeCasts_S256x4096_S2x128x4096 := by
  simp only [List.flatten_cons, List.flatten_nil, List.append_nil, hostOps1]
  after_results; rfl
theorem tail_main_v10 : StableHlo.after (List.flatten [hostOps1]) W (Proc.devRef .tc main_v10)
    = shapeCast S2x128 (shapeCast S256 (extractStridedSlice S256x1 ![0, 0] (W (Proc.devRef .tc main_v3_4)) slices_S256x128_S256x1_0_0) shapeCasts_S256x1_S256) shapeCasts_S256_S2x128 := by
  simp only [List.flatten_cons, List.flatten_nil, List.append_nil, hostOps1]
  after_results; rfl
end Tail

/-- What the lines after the call read: the arrays the call leaves. -/
theorem out_read (c : Dev nD) (w : Fin 9) :
    Pipeline.withArrays spec0 c (V0 m c) (fun w => (dats m 0 c).arrAt w (cfgA m).N) (Proc.devRef .tc (Pipeline.arrRef spec0 w)) = (dats m 0 c).arrAt w (cfgA m).N :=
  Pipeline.withArrays_arr spec0 arr_inj c (V0 m c) (fun w => (dats m 0 c).arrAt w (cfgA m).N) w

theorem res_main_v4 (c : Dev nD) : Pipeline.afterTail pcfgs (tab m) (dats m) 0 (V0 m) [hostOps1] c main_v4
    = shapeCast S2x128x14336 (Results.outputs (mR m c) (xR m c) (wR m c) (sR m c)) shapeCasts_S256x14336_S2x128x14336 := by
  rw [← arr_4, ← out_read m c 4]
  exact tail_main_v4 _
theorem res_main_v5 (c : Dev nD) : Pipeline.afterTail pcfgs (tab m) (dats m) 0 (V0 m) [hostOps1] c main_v5
    = shapeCast S4096 (Results.colmax (xR m c)) shapeCasts_S1x4096_S4096 := by
  rw [← arr_5, ← out_read m c 5]
  exact tail_main_v5 _
theorem res_main_v6 (c : Dev nD) : Pipeline.afterTail pcfgs (tab m) (dats m) 0 (V0 m) [hostOps1] c main_v6
    = shapeCast S4096 (Results.newmask (xR m c)) shapeCasts_S1x4096_S4096 := by
  rw [← arr_6, ← out_read m c 6]
  exact tail_main_v6 _
theorem res_main_v7 (c : Dev nD) : Pipeline.afterTail pcfgs (tab m) (dats m) 0 (V0 m) [hostOps1] c main_v7
    = shapeCast S2x128x4096 (Results.codes (mR m c) (xR m c)) shapeCasts_S256x4096_S2x128x4096 := by
  rw [← arr_7, ← out_read m c 7]
  exact tail_main_v7 _
theorem res_main_v10 (c : Dev nD) : Pipeline.afterTail pcfgs (tab m) (dats m) 0 (V0 m) [hostOps1] c main_v10
    = shapeCast S2x128 (shapeCast S256 (Results.scales (mR m c) (xR m c)) shapeCasts_S256x1_S256) shapeCasts_S256_S2x128 := by
  rw [← Results.scales_lane (mR m c) (xR m c) slices_S256x128_S256x1_0_0, ← arr_8, ← out_read m c 8]
  exact tail_main_v10 _

/-- THE RUN: what the kernel leaves in its five results and in its arguments. -/
theorem run : θ_run defs (onTc (τ := τ) (main (F := Ideal))) ⟨m, fun _ => 0, ρ⟩ (fun r => ∀ c : Dev nD,
      r.2.mem ((c.tc : Thread nD τ).loc main_v4) = shapeCast S2x128x14336 (Results.outputs (mR m c) (xR m c) (wR m c) (sR m c)) shapeCasts_S256x14336_S2x128x14336
      ∧ r.2.mem ((c.tc : Thread nD τ).loc main_v5) = shapeCast S4096 (Results.colmax (xR m c)) shapeCasts_S1x4096_S4096
      ∧ r.2.mem ((c.tc : Thread nD τ).loc main_v6) = shapeCast S4096 (Results.newmask (xR m c)) shapeCasts_S1x4096_S4096
      ∧ r.2.mem ((c.tc : Thread nD τ).loc main_v7) = shapeCast S2x128x4096 (Results.codes (mR m c) (xR m c)) shapeCasts_S256x4096_S2x128x4096
      ∧ r.2.mem ((c.tc : Thread nD τ).loc main_v10) = shapeCast S2x128 (shapeCast S256 (Results.scales (mR m c) (xR m c)) shapeCasts_S256x1_S256) shapeCasts_S256_S2x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1.1 c).2 main_v4 (Pipeline.mem_restRefs_of main_v4 (by decide) (by exact (by decide : ∀ w, Pipeline.arrRef spec0 w ≠ main_v4)))).trans (res_main_v4 m c),
      ((h.1.1 c).2 main_v5 (Pipeline.mem_restRefs_of main_v5 (by decide) (by exact (by decide : ∀ w, Pipeline.arrRef spec0 w ≠ main_v5)))).trans (res_main_v5 m c),
      ((h.1.1 c).2 main_v6 (Pipeline.mem_restRefs_of main_v6 (by decide) (by exact (by decide : ∀ w, Pipeline.arrRef spec0 w ≠ main_v6)))).trans (res_main_v6 m c),
      ((h.1.1 c).2 main_v7 (Pipeline.mem_restRefs_of main_v7 (by decide) (by exact (by decide : ∀ w, Pipeline.arrRef spec0 w ≠ main_v7)))).trans (res_main_v7 m c),
      ((h.1.1 c).2 main_v10 (Pipeline.mem_restRefs_of main_v10 (by decide) (by exact (by decide : ∀ w, Pipeline.arrRef spec0 w ≠ main_v10)))).trans (res_main_v10 m c),
      h.2.1 c⟩) (θ_run_and (run_main_quiescent m ρ) (Region.frame m ρ))

end Cert.KernelIdeal.Run
end
-- ==== Proof.RefMath.lean ====
/- What the reference's one call computes, element by element, over the extended reals. -/
module

public import proofs.«01_k».proof.Proof.Gen.ReferenceIdeal.Skeleton
public import proofs.«01_k».proof.Proof.Plain

@[expose] public section

noncomputable section

namespace Cert.ReferenceIdeal.Math

open Cert.ReferenceIdeal Cert.ReferenceIdeal.Gen Cert.Plain
open Idealize.ShloMosaic Idealize.ShloMosaic.ValueIdx
open scoped BigOperators

variable (x : Vec Ideal S256x4096 .bf16) (m : Vec Ideal S1x4096 .i32)

/-- The greatest absolute value of a column. -/
theorem colmax_apply (d : Fin 4096) : k0_pay4 x (ix2 0 d) = top 256 fun t => x (ix2 t d) := by
  unfold k0_pay4 k0_pay3 k0_pay2
  rw [shapeCast_self]
  refine (shapeCast_a_1a_apply _ _ _ _).trans ?_
  exact colMax _ _ _ _ d

/-- The new mask marks the columns whose greatest absolute value exceeds the threshold. -/
theorem newmask_apply (d : Fin 4096) : k0_pay5 x (ix2 0 d)
    = BitVec.setWidth 32 (FloatOps.cmpf .ogt (top 256 fun t => x (ix2 t d)) (Scalar.ofBits .f32 0x40C00000#32)) := by
  rw [← colmax_apply x d]
  unfold k0_pay5
  exact maskV _ _ _ _

/-- The activations with the marked columns set to zero. -/
theorem reg_apply (t : Fin 256) (d : Fin 4096) : k0_pay7 x m (ix2 t d) = reg (m (ix2 0 d)) (x (ix2 t d)) := by
  unfold k0_pay7 k0_pay6 k0_pay3 k0_pay2
  simp only [shapeCast_self]
  show Scalar.select (broadcastTo S256x4096 _ _ (ix2 t d)) _ _ = _
  rw [broadcastTo_1b_ab_apply]
  rfl

/-- The scale of a row. -/
theorem scale_apply (t : Fin 256) : k0_pay8 x m (ix2 t 0) = rowScale (fun d => m (ix2 0 d)) (fun d => x (ix2 t d)) := by
  unfold k0_pay8
  refine (scaleV _ _).trans ?_
  unfold rowScale
  refine congrArg scale ((shapeCast_a_a1_apply _ _ _ _).trans ((rowMax _ _ _ _ t).trans ?_))
  unfold top
  refine congrArg (fun g => (Finset.univ : Finset (Fin 4096)).fold max (FloatOps.ofBits .f32 0xFF800000#32) g) (funext fun k => ?_)
  rw [absV, reg_apply]

/-- The codes. -/
theorem codes_apply (t : Fin 256) (d : Fin 4096) : k0_pay9 x m (ix2 t d)
    = FloatOps.fptosi 8 (rowCode (fun d => m (ix2 0 d)) (fun d => x (ix2 t d)) d) := by
  unfold k0_pay9
  refine (fptosiV _ _).trans ?_
  rw [codeV, bcastCol (by decide), reg_apply, scale_apply]
  unfold rowCode
  rfl

theorem dot_eq : dot_S256x4096_S14336x4096_S256x14336_1_1_0_0_n_n = DotDims.transposedRhs 256 4096 14336 := rfl

/-- A code's product with a weight's code. -/
theorem code_mul (w : Vec Ideal S14336x4096 .i8) (t : Fin 256) (n : Fin 14336) (d : Fin 4096) :
    sitofp (F := Ideal) .bf16 (k0_pay9 x m) (ix2 t d) * sitofp (F := Ideal) .bf16 w (ix2 n d)
      = rowCode (fun d => m (ix2 0 d)) (fun d => x (ix2 t d)) d * (((w (ix2 n d)).toInt : ℝ) : EReal) := by
  rw [sitofpV, sitofpV, codes_apply]
  unfold rowCode
  rw [code_round]

/-- A marked activation's product with a weight's code. -/
theorem out_mul (w : Vec Ideal S14336x4096 .i8) (t : Fin 256) (n : Fin 14336) (d : Fin 4096) :
    select (broadcastTo S256x4096 (k0_pay6 m) broadcasts_S1x4096_S256x4096) (k0_pay2 x) (broadcast S256x4096 (Scalar.ofBits .bf16 0x0000#16)) (ix2 t d)
        * sitofp (F := Ideal) .bf16 w (ix2 n d)
      = if m (ix2 0 d) = 1#32 then x (ix2 t d) * (((w (ix2 n d)).toInt : ℝ) : EReal) else 0 := by
  rw [selV, sitofpV, broadcastTo_1b_ab_apply]
  unfold k0_pay6 k0_pay2
  simp only [shapeCast_self]
  show Scalar.select (IntOp.cmpi .eq (m (ix2 0 d)) 1#32) (x (ix2 t d)) _ * _ = _
  by_cases h : m (ix2 0 d) = 1#32
  · rw [if_pos h, h]
    have e : IntOp.cmpi .eq (1#32) 1#32 = 1#1 := by decide
    rw [e, select_one]
  · rw [if_neg h]
    have e : IntOp.cmpi .eq (m (ix2 0 d)) 1#32 = 0#1 := by
      show BitVec.ofBool (decide _) = 0#1
      simp [h]
    rw [e, select_zero, zero_bf16]
    exact zero_mul _

/-- The layer's result. -/
theorem y_apply (w : Vec Ideal S14336x4096 .i8) (ws : Vec Ideal S1x14336 .f32) (t : Fin 256) (n : Fin 14336) :
    k0_pay1 (k0_pay2 x) (k0_pay6 m) (k0_pay8 x m) (k0_pay9 x m) w ws (ix2 t n)
      = out (fun d => m (ix2 0 d)) (fun d => x (ix2 t d)) (fun d => w (ix2 n d)) (ws (ix2 0 n)) := by
  unfold k0_pay1
  simp only [shapeCast_self, matmul, dot_eq]
  refine (outV _ _ _ _ _ _).trans ?_
  rw [bcastCol (by decide), scale_apply, broadcastTo_1b_ab_apply, Ideal.matmul_transposedRhs_apply, Ideal.matmul_transposedRhs_apply]
  simp only [code_mul, constant_zero, zero_add]
  rw [Finset.sum_congr rfl fun d _ => out_mul x m w t n d]
  unfold out
  rfl

end Cert.ReferenceIdeal.Math
end
-- ==== Proof.RefRun.lean ====
/- What the reference's run leaves in its result arrays, as functions of its arguments. -/
module

public import proofs.«01_k».proof.Proof.RefMath
public import proofs.«01_k».proof.Proof.Results
public import proofs.«01_k».proof.Proof.Gen.ReferenceIdeal.Frame
public import Idealize.ShloMosaic.Lib.Pipeline.ValueKit
public import Idealize.ShloMosaic.Lib.Claim

@[expose] public section

noncomputable section

namespace Cert.ReferenceIdeal.Run

open Cert.ReferenceIdeal Cert.ReferenceIdeal.Gen Cert.Plain
open Idealize.ShloMosaic Idealize.ShloMosaic.TcCoe Idealize.ShloMosaic.ValueIdx Idealize.SL.Sem
open Idealize.ShloMosaic.Pipeline (Dat Cfg Window)
open scoped BigOperators

variable (m : (ℓ : Loc nD τ sig) → Buf (Elt Ideal) ℓ) (ρ : Dev nD → PrngReg)

/-- The activations, the mask, the weights' codes and their scales as the call reads them. -/
abbrev xR (c : Dev nD) : Vec Ideal S256x4096 .bf16 := shapeCast S256x4096 (m ((c : Thread nD τ).loc main_arg0)) shapeCasts_S2x128x4096_S256x4096
abbrev mR (c : Dev nD) : Vec Ideal S1x4096 .i32 := shapeCast S1x4096 (m ((c : Thread nD τ).loc main_arg1)) shapeCasts_S4096_S1x4096
abbrev wR (c : Dev nD) : Vec Ideal S14336x4096 .i8 := m ((c : Thread nD τ).loc main_arg2)
abbrev sR (c : Dev nD) : Vec Ideal S1x14336 .f32 := shapeCast S1x14336 (m ((c : Thread nD τ).loc main_arg3)) shapeCasts_S14336_S1x14336

theorem V_v0 (c : Dev nD) : V m c main_v0 = xR m c := by entry_read; rfl
theorem V_v1 (c : Dev nD) : V m c main_v1 = mR m c := by entry_read; rfl
theorem V_v2 (c : Dev nD) : V m c main_v2 = sR m c := by entry_read; rfl

/-- Every window's block index at the one point. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

/-- The input blocks at the one point are the arrays. -/
theorem iblk_0 (c : Dev nD) (t : Fin cfg0.N) : iblk m c 0 t = xR m c := by
  refine Eq.trans ?_ (V_v0 m c)
  funext y; show V m c main_v0 _ = _; congr 1; funext a; match a with
  | ⟨0, _⟩ => refine Fin.ext ?_; blk_simp [idx t]
  | ⟨1, _⟩ => refine Fin.ext ?_; blk_simp [idx t]
theorem iblk_1 (c : Dev nD) (t : Fin cfg0.N) : iblk m c 1 t = mR m c := by
  refine Eq.trans ?_ (V_v1 m c)
  funext y; show V m c main_v1 _ = _; congr 1; funext a; match a with
  | ⟨0, _⟩ => refine Fin.ext ?_; blk_simp [idx t]
  | ⟨1, _⟩ => refine Fin.ext ?_; blk_simp [idx t]
theorem iblk_2 (c : Dev nD) (t : Fin cfg0.N) : iblk m c 2 t = wR m c := by
  refine Eq.trans ?_ (V_main_arg2 m c)
  funext y; show V m c main_arg2 _ = _; congr 1; funext a; match a with
  | ⟨0, _⟩ => refine Fin.ext ?_; blk_simp [idx t]
  | ⟨1, _⟩ => refine Fin.ext ?_; blk_simp [idx t]
theorem iblk_3 (c : Dev nD) (t : Fin cfg0.N) : iblk m c 3 t = sR m c := by
  refine Eq.trans ?_ (V_v2 m c)
  funext y; show V m c main_v2 _ = _; congr 1; funext a; match a with
  | ⟨0, _⟩ => refine Fin.ext ?_; blk_simp [idx t]
  | ⟨1, _⟩ => refine Fin.ext ?_; blk_simp [idx t]

/-! ## What the body stores -/

theorem pay_outputs (x : Vec Ideal S256x4096 .bf16) (a : Vec Ideal S1x4096 .i32) (w : Vec Ideal S14336x4096 .i8) (ws : Vec Ideal S1x14336 .f32) :
    k0_pay1 (k0_pay2 x) (k0_pay6 a) (k0_pay8 x a) (k0_pay9 x a) w ws = Results.outputs a x w ws := by
  funext y; rw [Results.idx2 y]; exact Math.y_apply x a w ws _ _
theorem pay_colmax (x : Vec Ideal S256x4096 .bf16) : k0_pay4 x = Results.colmax x := by
  funext y; rw [Results.idx_row y]; exact Math.colmax_apply x _
theorem pay_newmask (x : Vec Ideal S256x4096 .bf16) : k0_pay5 x = Results.newmask x := by
  funext y; rw [Results.idx_row y]; exact Math.newmask_apply x _
theorem pay_codes (x : Vec Ideal S256x4096 .bf16) (a : Vec Ideal S1x4096 .i32) : k0_pay9 x a = Results.codes a x := by
  funext y; rw [Results.idx2 y]; exact Math.codes_apply x a _ _
theorem pay_scales (x : Vec Ideal S256x4096 .bf16) (a : Vec Ideal S1x4096 .i32) : k0_pay8 x a = Results.scales a x := by
  funext y; rw [Results.idx_col y]; exact Math.scale_apply x a _

/-! ## The call's output arrays -/

theorem ld_x (X : Vec Ideal S256x4096 .bf16) : View.ld X r0_0 = X := View.ld_unit_lit inb_S256x4096_S256x4096_0_0 X (by decide)
theorem ld_m (X : Vec Ideal S1x4096 .i32) : View.ld X r0_1 = X := View.ld_unit_lit inb_S1x4096_S1x4096_0_0 X (by decide)
theorem ld_w (X : Vec Ideal S14336x4096 .i8) : View.ld X r0_3 = X := View.ld_unit_lit inb_S14336x4096_S14336x4096_0_0 X (by decide)
theorem ld_s (X : Vec Ideal S1x14336 .f32) : View.ld X r0_4 = X := View.ld_unit_lit inb_S1x14336_S1x14336_0_0 X (by decide)

theorem arr_4 (c : Dev nD) : (dats m 0 c).arrAt 4 cfg0.N = Results.outputs (mR m c) (xR m c) (wR m c) (sR m c) := by
  refine (dats m 0 c).arrAt_eq_of_after_last 4 t0_0 (by decide +kernel) _ fun j => ?_
  blk_simp
  rw [after0_4, iblk_0, iblk_1, iblk_2, iblk_3]
  unfold out0_4 k0_pay10
  rw [View.canon_unit_zero (by decide)]
  simp only [ld_x, ld_m, ld_w, ld_s]
  rw [pay_outputs]
theorem arr_5 (c : Dev nD) : (dats m 0 c).arrAt 5 cfg0.N = Results.colmax (xR m c) := by
  refine (dats m 0 c).arrAt_eq_of_after_last 5 t0_0 (by decide +kernel) _ fun j => ?_
  blk_simp
  rw [after0_5, iblk_0, iblk_1, iblk_2, iblk_3]
  unfold out0_5
  rw [View.canon_unit_zero (by decide)]
  simp only [ld_x, ld_m, ld_w, ld_s]
  rw [pay_colmax]
theorem arr_6 (c : Dev nD) : (dats m 0 c).arrAt 6 cfg0.N = Results.newmask (xR m c) := by
  refine (dats m 0 c).arrAt_eq_of_after_last 6 t0_0 (by decide +kernel) _ fun j => ?_
  blk_simp
  rw [after0_6, iblk_0, iblk_1, iblk_2, iblk_3]
  unfold out0_6
  rw [View.canon_unit_zero (by decide)]
  simp only [ld_x, ld_m, ld_w, ld_s]
  rw [pay_newmask]
theorem arr_7 (c : Dev nD) : (dats m 0 c).arrAt 7 cfg0.N = Results.codes (mR m c) (xR m c) := by
  refine (dats m 0 c).arrAt_eq_of_after_last 7 t0_0 (by decide +kernel) _ fun j => ?_
  blk_simp
  rw [after0_7, iblk_0, iblk_1, iblk_2, iblk_3]
  unfold out0_7
  rw [View.canon_unit_zero (by decide)]
  simp only [ld_x, ld_m, ld_w, ld_s]
  rw [pay_codes]
theorem arr_8 (c : Dev nD) : (dats m 0 c).arrAt 8 cfg0.N = Results.scales (mR m c) (xR m c) := by
  refine (dats m 0 c).arrAt_eq_of_after_last 8 t0_0 (by decide +kernel) _ fun j => ?_
  blk_simp
  rw [after0_8, iblk_0, iblk_1, iblk_2, iblk_3]
  unfold out0_8 k0_pay10
  rw [View.canon_unit_zero (by decide)]
  simp only [ld_x, ld_m, ld_w, ld_s]
  rw [pay_scales]

/-! ## The results -/

theorem arr_inj : Function.Injective (Pipeline.arrRef spec0) := by decide

section Tail
variable (W : Valuation τ sig (Elt Ideal))
theorem tail_main_v4 : StableHlo.after (List.flatten [hostOps1]) W (Proc.devRef .tc main_v4) = shapeCast S2x128x14336 (W (Proc.devRef .tc main_v3_0)) shapeCasts_S256x14336_S2x128x14336 := by
  simp only [List.flatten_cons, List.flatten_nil, List.append_nil, hostOps1]
  after_results; rfl
theorem tail_main_v5 : StableHlo.after (List.flatten [hostOps1]) W (Proc.devRef .tc main_v5) = shapeCast S4096 (W (Proc.devRef .tc main_v3_1)) shapeCasts_S1x4096_S4096 := by
  simp only [List.flatten_cons, List.flatten_nil, List.append_nil, hostOps1]
  after_results; rfl
theorem tail_main_v6 : StableHlo.after (List.flatten [hostOps1]) W (Proc.devRef .tc main_v6) = shapeCast S4096 (W (Proc.devRef .tc main_v3_2)) shapeCasts_S1x4096_S4096 := by
  simp only [List.flatten_cons, List.flatten_nil, List.append_nil, hostOps1]
  after_results; rfl
theorem tail_main_v7 : StableHlo.after (List.flatten [hostOps1]) W (Proc.devRef .tc main_v7) = shapeCast S2x128x4096 (W (Proc.devRef .tc main_v3_3)) shapeCasts_S256x4096_S2x128x4096 := by
  simp only [List.flatten_cons, List.flatten_nil, List.append_nil, hostOps1]
  after_results; rfl
theorem tail_main_v9 : StableHlo.after (List.flatten [hostOps1]) W (Proc.devRef .tc main_v9)
    = shapeCast S2x128 (shapeCast S256 (W (Proc.devRef .tc main_v3_4)) shapeCasts_S256x1_S256) shapeCasts_S256_S2x128 := by
  simp only [List.flatten_cons, List.flatten_nil, List.append_nil, hostOps1]
  after_results; rfl
end Tail

/-- What the lines after the call leave, from the arrays the call leaves. -/
theorem out_read (c : Dev nD) (w : Fin 9) :
    Pipeline.withArrays spec0 c (V0 m c) (fun w => (dats m 0 c).arrAt w cfg0.N) (Proc.devRef .tc (Pipeline.arrRef spec0 w)) = (dats m 0 c).arrAt w cfg0.N :=
  Pipeline.withArrays_arr spec0 arr_inj c (V0 m c) (fun w => (dats m 0 c).arrAt w cfg0.N) w

theorem res_main_v4 (c : Dev nD) : Pipeline.afterTail₀ cfgs (dats m) 0 (V0 m) [hostOps1] c main_v4
    = shapeCast S2x128x14336 (Results.outputs (mR m c) (xR m c) (wR m c) (sR m c)) shapeCasts_S256x14336_S2x128x14336 := by
  rw [← arr_4, ← out_read m c 4]
  exact tail_main_v4 _
theorem res_main_v5 (c : Dev nD) : Pipeline.afterTail₀ cfgs (dats m) 0 (V0 m) [hostOps1] c main_v5
    = shapeCast S4096 (Results.colmax (xR m c)) shapeCasts_S1x4096_S4096 := by
  rw [← arr_5, ← out_read m c 5]
  exact tail_main_v5 _
theorem res_main_v6 (c : Dev nD) : Pipeline.afterTail₀ cfgs (dats m) 0 (V0 m) [hostOps1] c main_v6
    = shapeCast S4096 (Results.newmask (xR m c)) shapeCasts_S1x4096_S4096 := by
  rw [← arr_6, ← out_read m c 6]
  exact tail_main_v6 _
theorem res_main_v7 (c : Dev nD) : Pipeline.afterTail₀ cfgs (dats m) 0 (V0 m) [hostOps1] c main_v7
    = shapeCast S2x128x4096 (Results.codes (mR m c) (xR m c)) shapeCasts_S256x4096_S2x128x4096 := by
  rw [← arr_7, ← out_read m c 7]
  exact tail_main_v7 _
theorem res_main_v9 (c : Dev nD) : Pipeline.afterTail₀ cfgs (dats m) 0 (V0 m) [hostOps1] c main_v9
    = shapeCast S2x128 (shapeCast S256 (Results.scales (mR m c) (xR m c)) shapeCasts_S256x1_S256) shapeCasts_S256_S2x128 := by
  rw [← arr_8, ← out_read m c 8]
  exact tail_main_v9 _

/-- THE RUN: what the reference leaves in its five results and in its arguments. -/
theorem run : θ_run defs (onTc (τ := τ) (main (F := Ideal))) ⟨m, fun _ => 0, ρ⟩ (fun r => ∀ c : Dev nD,
      r.2.mem ((c.tc : Thread nD τ).loc main_v4) = shapeCast S2x128x14336 (Results.outputs (mR m c) (xR m c) (wR m c) (sR m c)) shapeCasts_S256x14336_S2x128x14336
      ∧ r.2.mem ((c.tc : Thread nD τ).loc main_v5) = shapeCast S4096 (Results.colmax (xR m c)) shapeCasts_S1x4096_S4096
      ∧ r.2.mem ((c.tc : Thread nD τ).loc main_v6) = shapeCast S4096 (Results.newmask (xR m c)) shapeCasts_S1x4096_S4096
      ∧ r.2.mem ((c.tc : Thread nD τ).loc main_v7) = shapeCast S2x128x4096 (Results.codes (mR m c) (xR m c)) shapeCasts_S256x4096_S2x128x4096
      ∧ r.2.mem ((c.tc : Thread nD τ).loc main_v9) = shapeCast S2x128 (shapeCast S256 (Results.scales (mR m c) (xR m c)) shapeCasts_S256x1_S256) shapeCasts_S256_S2x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).2 main_v4 (Pipeline.mem_restRefs_of main_v4 (by decide) (by exact (by decide : ∀ w, Pipeline.arrRef spec0 w ≠ main_v4)))).trans (res_main_v4 m c),
      ((h.1 c).2 main_v5 (Pipeline.mem_restRefs_of main_v5 (by decide) (by exact (by decide : ∀ w, Pipeline.arrRef spec0 w ≠ main_v5)))).trans (res_main_v5 m c),
      ((h.1 c).2 main_v6 (Pipeline.mem_restRefs_of main_v6 (by decide) (by exact (by decide : ∀ w, Pipeline.arrRef spec0 w ≠ main_v6)))).trans (res_main_v6 m c),
      ((h.1 c).2 main_v7 (Pipeline.mem_restRefs_of main_v7 (by decide) (by exact (by decide : ∀ w, Pipeline.arrRef spec0 w ≠ main_v7)))).trans (res_main_v7 m c),
      ((h.1 c).2 main_v9 (Pipeline.mem_restRefs_of main_v9 (by decide) (by exact (by decide : ∀ w, Pipeline.arrRef spec0 w ≠ main_v9)))).trans (res_main_v9 m c),
      h.2 c⟩) (θ_run_and (run_main m ρ) (unchanged m ρ))

end Cert.ReferenceIdeal.Run
end
-- ==== Proof.Algebraic.lean ====
/- The kernel and the reference compute the same five results over the extended reals. -/
module

public import proofs.«01_k».proof.Defs
public import proofs.«01_k».proof.Proof.KerRun
public import proofs.«01_k».proof.Proof.RefRun

@[expose] public section

noncomputable section

namespace Cert.Proof.Value

open Idealize.ShloMosaic Idealize.ShloMosaic.TcCoe Idealize.SL.Sem

/-- THE VALUE CLAIM: from equal arguments the kernel and the reference end with the same output, column maxima, next mask, codes
    and scales. -/
theorem algebraic : Cert.algebraic_KernelIdeal_ReferenceIdeal := by
  intro m g m' g' _ h
  refine ⟨_, _, _, _, _, Cert.KernelIdeal.Run.run m g, ?_⟩
  refine (θ_run Cert.ReferenceIdeal.defs _ _).mono (fun r hr c => ?_) (Cert.ReferenceIdeal.Run.run m' g')
  obtain ⟨h0, h1, h2, h3⟩ := h c
  have ex : Cert.ReferenceIdeal.Run.xR m' c = Cert.KernelIdeal.Run.xR m c := congrArg (fun z => shapeCast Cert.KernelIdeal.S256x4096 z Cert.KernelIdeal.Gen.facts.shapeCasts_S2x128x4096_S256x4096) h0
  have em : Cert.ReferenceIdeal.Run.mR m' c = Cert.KernelIdeal.Run.mR m c := congrArg (fun z => shapeCast Cert.KernelIdeal.S1x4096 z Cert.KernelIdeal.Gen.facts.shapeCasts_S4096_S1x4096) h1
  have ew : Cert.ReferenceIdeal.Run.wR m' c = Cert.KernelIdeal.Run.wR m c := h2
  have es : Cert.ReferenceIdeal.Run.sR m' c = Cert.KernelIdeal.Run.sR m c := congrArg (fun z => shapeCast Cert.KernelIdeal.S1x14336 z Cert.KernelIdeal.Gen.facts.shapeCasts_S14336_S1x14336) h3
  have hc := hr c
  rw [ex, em, ew, es] at hc
  exact hc

end Cert.Proof.Value
end
-- ==== Proof.lean ====
/- The claims about the kernel: every run ends, without fault, with its arguments unchanged and its counters at
   zero; and over the extended reals the kernel computes what the reference computes. -/
module

public import proofs.«01_k».proof.Defs
public import proofs.«01_k».proof.Proof.KernelRegion
public import proofs.«01_k».proof.Proof.Region
public import proofs.«01_k».proof.Proof.Gen.ReferenceIdeal.Frame
public import proofs.«01_k».proof.Proof.Algebraic

@[expose] public section

noncomputable section

namespace Cert.Proof

open Idealize.ShloMosaic Idealize.SL.Sem

/-- All claims: the three programs' frames, that the ideal program is the kernel over the extended reals, and that it computes the
    reference's five results. -/
theorem claim : Cert.Claim := ⟨Cert.Kernel.Gen.facts, Cert.KernelIdeal.Gen.facts, Cert.ReferenceIdeal.Gen.facts,
  fun m ρ _ => Cert.Kernel.Region.frame m ρ, fun m ρ _ => Cert.KernelIdeal.Region.frame m ρ,
  fun m ρ _ => Cert.ReferenceIdeal.Gen.frame m ρ, trivial, Value.algebraic⟩

end Cert.Proof

end
